-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![16384, 768]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x256x64 : Shape := ⟨4, ![2, 512, 256, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x256x64 : S_.BroadcastsInDim S2x512x256x64 (![] : Fin 0 → Fin S2x512x256x64.rank)

variable [Facts]

def fn {F : FTy → Type} [FloatOps F] (main_arg0 : FVec F S2x512x768 .f32) (main_arg1 : FVec F S768x512 .f32) (main_arg2 : FVec F S2x512x256x64 .f32) (main_arg3 : FVec F S2x512x256x64 .f32) (main_arg4 : FVec F S512x768 .f32) : IVec S2x512x768 1 × IVec S768x512 1 × IVec S2x512x256x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x512x256x64 .f32 := Host.absf main_arg2
  let main_cst_1 : FVec F S_ .f32 := constant S_ .f32 0x7F800000#32
  let main_v7 : FVec F S2x512x256x64 .f32 := broadcastInDim S2x512x256x64 ![] bcast_S_S2x512x256x64 main_cst_1
  let main_v8 : IVec S2x512x256x64 1 := cmpf .olt main_v6 main_v7
  (main_v2, main_v5, main_v8)
-- ==== Pre_finite_ReferenceIdeal.lean ====
abbrev S2x512x768 : Shape := ⟨3, ![2, 512, 768]⟩
abbrev S768x16384 : Shape := ⟨2, ![768, 16384]⟩
abbrev S2x512x256x64 : Shape := ⟨4, ![2, 512, 256, 64]⟩
abbrev S16384x768 : Shape := ⟨2, ![16384, 768]⟩
abbrev S_ : Shape := ⟨0, ![]⟩

class Facts : Prop where
  bcast_S_S2x512x768 : S_.BroadcastsInDim S2x512x768 (![] : Fin 0 → Fin S2x512x768.rank)
  bcast_S_S768x16384 : S_.BroadcastsInDim S768x16384 (![] : Fin 0 → Fin S768x16384.rank)
  bcast_S_S2x512x256x64 : S_.BroadcastsInDim S2x512x256x64 (![] : Fin 0 → Fin S2x512x256x64.rank)

variable [Facts]

def fn {F : FTy → Type} [FloatOps F] (main_arg0 : FVec F S2x512x768 .f32) (main_arg1 : FVec F S768x16384 .f32) (main_arg2 : FVec F S2x512x256x64 .f32) (main_arg3 : FVec F S2x512x256x64 .f32) (main_arg4 : FVec F S16384x768 .f32) : IVec S2x512x768 1 × IVec S768x16384 1 × IVec S2x512x256x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x16384 .f32 := Host.absf main_arg1
  let main_cst_0 : FVec F S_ .f32 := constant S_ .f32 0x7F800000#32
  let main_v4 : FVec F S768x16384 .f32 := broadcastInDim S768x16384 ![] bcast_S_S768x16384 main_cst_0
  let main_v5 : IVec S768x16384 1 := cmpf .olt main_v3 main_v4
  let main_v6 : FVec F S2x512x256x64 .f32 := Host.absf main_arg2
  let main_cst_1 : FVec F S_ .f32 := constant S_ .f32 0x7F800000#32
  let main_v7 : FVec F S2x512x256x64 .f32 := broadcastInDim S2x512x256x64 ![] bcast_S_S2x512x256x64 main_cst_1
  let main_v8 : IVec S2x512x256x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x256x64 : Shape := ⟨4, ![2, 512, 256, 64]⟩
abbrev S512x768 : Shape := ⟨2, ![512, 768]⟩
abbrev S_ : Shape := ⟨0, ![]⟩
abbrev S1 : Shape := ⟨1, ![1]⟩
abbrev S2x512x64x256 : Shape := ⟨4, ![2, 512, 64, 256]⟩
abbrev S2x512x512 : Shape := ⟨3, ![2, 512, 512]⟩
abbrev S1x128x64x128 : Shape := ⟨4, ![1, 128, 64, 128]⟩
abbrev S1x128x512 : Shape := ⟨3, ![1, 128, 512]⟩
abbrev S128x8 : Shape := ⟨2, ![128, 8]⟩
abbrev S128x64x128 : Shape := ⟨3, ![128, 64, 128]⟩
abbrev S8192x128 : Shape := ⟨2, ![8192, 128]⟩
abbrev S8192x8 : Shape := ⟨2, ![8192, 8]⟩
abbrev S128x64x8 : Shape := ⟨3, ![128, 64, 8]⟩
abbrev S128x8x64 : Shape := ⟨3, ![128, 8, 64]⟩
abbrev S128x512 : Shape := ⟨2, ![128, 512]⟩
abbrev S1x512x768 : Shape := ⟨3, ![1, 512, 768]⟩
abbrev S1x512x512 : Shape := ⟨3, ![1, 512, 512]⟩
abbrev S2x4x64x768 : Shape := ⟨4, ![2, 4, 64, 768]⟩
abbrev S4x2x64x768 : Shape := ⟨4, ![4, 2, 64, 768]⟩
abbrev S512x512 : Shape := ⟨2, ![512, 512]⟩
abbrev S2x4x64x512 : Shape := ⟨4, ![2, 4, 64, 512]⟩
abbrev S4x2x64x512 : Shape := ⟨4, ![4, 2, 64, 512]⟩
abbrev S512x64 : Shape := ⟨2, ![512, 64]⟩
abbrev S4x128x64 : Shape := ⟨3, ![4, 128, 64]⟩
abbrev S4x128x128 : Shape := ⟨3, ![4, 128, 128]⟩
abbrev S4x128 : Shape := ⟨2, ![4, 128]⟩
abbrev S4x128x1 : Shape := ⟨3, ![4, 128, 1]⟩
abbrev S1024x768 : Shape := ⟨2, ![1024, 768]⟩
abbrev S32 : Shape := ⟨1, ![32]⟩
abbrev S32x768 : Shape := ⟨2, ![32, 768]⟩
abbrev S32x32x768 : Shape := ⟨3, ![32, 32, 768]⟩
abbrev S32x1x1 : Shape := ⟨3, ![32, 1, 1]⟩

abbrev nBuf : Space → Nat
  | .hbm => 32
  | .vmem => 21
  | .smem => 1
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x256x64, .f32⟩
  | .hbm, ⟨3, _⟩ => ⟨S2x512x256x64, .f32⟩
  | .hbm, ⟨4, _⟩ => ⟨S512x768, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S2x512x64x256, .f32⟩
  | .hbm, ⟨25, _⟩ => ⟨S2x512x64x256, .f32⟩
  | .hbm, ⟨26, _⟩ => ⟨S2x512x512, .f32⟩
  | .hbm, ⟨27, _⟩ => ⟨S2x512x512, .f32⟩
  | .hbm, ⟨28, _⟩ => ⟨S2x512x768, .f32⟩
  | .hbm, ⟨29, _⟩ => ⟨S1024x768, .f32⟩
  | .hbm, ⟨30, _⟩ => ⟨S1024x768, .f32⟩
  | .hbm, ⟨31, _⟩ => ⟨S2x512x768, .f32⟩
  | .local _ .vmem, ⟨0, _⟩ => ⟨S1x128x64x128, .f32⟩
  | .local _ .vmem, ⟨1, _⟩ => ⟨S1x128x64x128, .f32⟩
  | .local _ .vmem, ⟨2, _⟩ => ⟨S1x128x64x128, .f32⟩
  | .local _ .vmem, ⟨3, _⟩ => ⟨S1x128x64x128, .f32⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x512x768, .f32⟩
  | .local _ .vmem, ⟨9, _⟩ => ⟨S1x512x768, .f32⟩
  | .local _ .vmem, ⟨10, _⟩ => ⟨S768x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S512x768, .f32⟩
  | .local _ .vmem, ⟨16, _⟩ => ⟨S1x512x768, .f32⟩
  | .local _ .vmem, ⟨17, _⟩ => ⟨S1x512x768, .f32⟩
  | .local _ .vmem, ⟨18, _⟩ => ⟨S1024x768, .f32⟩
  | .local _ .vmem, ⟨19, _⟩ => ⟨S1024x768, .f32⟩
  | .local _ .vmem, ⟨20, _⟩ => ⟨S1024x768, .f32⟩
  | .local _ .smem, ⟨0, _⟩ => ⟨S1, .i32⟩
  | _, _ => ⟨S2x512x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 1 → Bool
  | ⟨0, _⟩ => false
  | _ => false

abbrev dmaSemScoped : Fin 148 → Bool
  | ⟨i, _⟩ => dmaSemScopedAt i

abbrev sig : RefSig :=
  (ofTc nBuf bufTy 1 148 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c : Ref sig .tc := ⟨.hbm, 18, rfl⟩
abbrev main_call0_v6 : Ref sig .tc := ⟨.hbm, 19, rfl⟩
abbrev main_call0_v7 : Ref sig .tc := ⟨.hbm, 20, rfl⟩
abbrev main_call0_c_0 : Ref sig .tc := ⟨.hbm, 21, rfl⟩
abbrev main_call0_v8 : Ref sig .tc := ⟨.hbm, 22, rfl⟩
abbrev main_v5 : Ref sig .tc := ⟨.hbm, 23, rfl⟩
abbrev main_v7 : Ref sig .tc := ⟨.hbm, 24, rfl⟩
abbrev main_v8 : Ref sig .tc := ⟨.hbm, 25, rfl⟩
abbrev main_v9_0 : Ref sig .tc := ⟨.hbm, 26, rfl⟩
abbrev main_v9_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem1_0 : DmaSem sig := 19
abbrev barrier0 : Sem sig := 0

abbrev nD : Nat := 32
abbrev τ : Topo := Topo.v7x

variable {F : FTy → Type} [FloatOps F]

abbrev grid0 : Pipeline.Grid := ⟨2, ![2, 4], ![false, false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, arg1.toNat, c0_i32.toNat, v0.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x512x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := .none

def k2_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k2_dev1 : Nat :=
  let c0_i32_779 : BitVec 32 := 0#32
  let c0_i32_777 : BitVec 32 := 0#32
  let c1_i32_778 : BitVec 32 := 1#32
  let v790 : BitVec 32 := Scalar.muli c0_i32_777 c1_i32_778
  let v791 : BitVec 32 := Scalar.addi c0_i32_779 v790
  v791.toNat
def k2_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k2_dev2 : Nat :=
  let c0_i32_779 : BitVec 32 := 0#32
  let c1_i32_777 : BitVec 32 := 1#32
  let c1_i32_778 : BitVec 32 := 1#32
  let v790 : BitVec 32 := Scalar.muli c1_i32_777 c1_i32_778
  let v791 : BitVec 32 := Scalar.addi c0_i32_779 v790
  v791.toNat
def k2_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k2_dev3 : Nat :=
  let c0_i32_779 : BitVec 32 := 0#32
  let c2_i32_777 : BitVec 32 := 2#32
  let c1_i32_778 : BitVec 32 := 1#32
  let v790 : BitVec 32 := Scalar.muli c2_i32_777 c1_i32_778
  let v791 : BitVec 32 := Scalar.addi c0_i32_779 v790
  v791.toNat
def k2_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k2_dev4 : Nat :=
  let c0_i32_779 : BitVec 32 := 0#32
  let c3_i32_777 : BitVec 32 := 3#32
  let c1_i32_778 : BitVec 32 := 1#32
  let v790 : BitVec 32 := Scalar.muli c3_i32_777 c1_i32_778
  let v791 : BitVec 32 := Scalar.addi c0_i32_779 v790
  v791.toNat
def k2_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k2_dev5 : Nat :=
  let c0_i32_779 : BitVec 32 := 0#32
  let c4_i32_777 : BitVec 32 := 4#32
  let c1_i32_778 : BitVec 32 := 1#32
  let v790 : BitVec 32 := Scalar.muli c4_i32_777 c1_i32_778
  let v791 : BitVec 32 := Scalar.addi c0_i32_779 v790
  v791.toNat
def k2_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k2_dev6 : Nat :=
  let c0_i32_779 : BitVec 32 := 0#32
  let c5_i32_777 : BitVec 32 := 5#32
  let c1_i32_778 : BitVec 32 := 1#32
  let v790 : BitVec 32 := Scalar.muli c5_i32_777 c1_i32_778
  let v791 : BitVec 32 := Scalar.addi c0_i32_779 v790
  v791.toNat
def k2_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k2_dev7 : Nat :=
  let c0_i32_779 : BitVec 32 := 0#32
  let c6_i32_777 : BitVec 32 := 6#32
  let c1_i32_778 : BitVec 32 := 1#32
  let v790 : BitVec 32 := Scalar.muli c6_i32_777 c1_i32_778
  let v791 : BitVec 32 := Scalar.addi c0_i32_779 v790
  v791.toNat
def k2_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k2_dev8 : Nat :=
  let c0_i32_779 : BitVec 32 := 0#32
  let c7_i32_777 : BitVec 32 := 7#32
  let c1_i32_778 : BitVec 32 := 1#32
  let v790 : BitVec 32 := Scalar.muli c7_i32_777 c1_i32_778
  let v791 : BitVec 32 := Scalar.addi c0_i32_779 v790
  v791.toNat
def k2_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k2_dev9 : Nat :=
  let c0_i32_779 : BitVec 32 := 0#32
  let c8_i32_777 : BitVec 32 := 8#32
  let c1_i32_778 : BitVec 32 := 1#32
  let v790 : BitVec 32 := Scalar.muli c8_i32_777 c1_i32_778
  let v791 : BitVec 32 := Scalar.addi c0_i32_779 v790
  v791.toNat
def k2_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k2_dev10 : Nat :=
  let c0_i32_779 : BitVec 32 := 0#32
  let c9_i32_777 : BitVec 32 := 9#32
  let c1_i32_778 : BitVec 32 := 1#32
  let v790 : BitVec 32 := Scalar.muli c9_i32_777 c1_i32_778
  let v791 : BitVec 32 := Scalar.addi c0_i32_779 v790
  v791.toNat
def k2_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k2_dev11 : Nat :=
  let c0_i32_779 : BitVec 32 := 0#32
  let c10_i32_777 : BitVec 32 := 10#32
  let c1_i32_778 : BitVec 32 := 1#32
  let v790 : BitVec 32 := Scalar.muli c10_i32_777 c1_i32_778
  let v791 : BitVec 32 := Scalar.addi c0_i32_779 v790
  v791.toNat
def k2_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k2_dev12 : Nat :=
  let c0_i32_779 : BitVec 32 := 0#32
  let c11_i32_777 : BitVec 32 := 11#32
  let c1_i32_778 : BitVec 32 := 1#32
  let v790 : BitVec 32 := Scalar.muli c11_i32_777 c1_i32_778
  let v791 : BitVec 32 := Scalar.addi c0_i32_779 v790
  v791.toNat
def k2_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k2_dev13 : Nat :=
  let c0_i32_779 : BitVec 32 := 0#32
  let c12_i32_777 : BitVec 32 := 12#32
  let c1_i32_778 : BitVec 32 := 1#32
  let v790 : BitVec 32 := Scalar.muli c12_i32_777 c1_i32_778
  let v791 : BitVec 32 := Scalar.addi c0_i32_779 v790
  v791.toNat
def k2_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k2_dev14 : Nat :=
  let c0_i32_779 : BitVec 32 := 0#32
  let c13_i32_777 : BitVec 32 := 13#32
  let c1_i32_778 : BitVec 32 := 1#32
  let v790 : BitVec 32 := Scalar.muli c13_i32_777 c1_i32_778
  let v791 : BitVec 32 := Scalar.addi c0_i32_779 v790
  v791.toNat
def k2_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k2_dev15 : Nat :=
  let c0_i32_779 : BitVec 32 := 0#32
  let c14_i32_777 : BitVec 32 := 14#32
  let c1_i32_778 : BitVec 32 := 1#32
  let v790 : BitVec 32 := Scalar.muli c14_i32_777 c1_i32_778
  let v791 : BitVec 32 := Scalar.addi c0_i32_779 v790
  v791.toNat
def k2_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k2_dev16 : Nat :=
  let c0_i32_779 : BitVec 32 := 0#32
  let c15_i32_777 : BitVec 32 := 15#32
  let c1_i32_778 : BitVec 32 := 1#32
  let v790 : BitVec 32 := Scalar.muli c15_i32_777 c1_i32_778
  let v791 : BitVec 32 := Scalar.addi c0_i32_779 v790
  v791.toNat
def k2_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k2_dev17 : Nat :=
  let c0_i32_779 : BitVec 32 := 0#32
  let c16_i32_777 : BitVec 32 := 16#32
  let c1_i32_778 : BitVec 32 := 1#32
  let v790 : BitVec 32 := Scalar.muli c16_i32_777 c1_i32_778
  let v791 : BitVec 32 := Scalar.addi c0_i32_779 v790
  v791.toNat
def k2_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k2_dev18 : Nat :=
  let c0_i32_779 : BitVec 32 := 0#32
  let c17_i32_777 : BitVec 32 := 17#32
  let c1_i32_778 : BitVec 32 := 1#32
  let v790 : BitVec 32 := Scalar.muli c17_i32_777 c1_i32_778
  let v791 : BitVec 32 := Scalar.addi c0_i32_779 v790
  v791.toNat
def k2_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k2_dev19 : Nat :=
  let c0_i32_779 : BitVec 32 := 0#32
  let c18_i32_777 : BitVec 32 := 18#32
  let c1_i32_778 : BitVec 32 := 1#32
  let v790 : BitVec 32 := Scalar.muli c18_i32_777 c1_i32_778
  let v791 : BitVec 32 := Scalar.addi c0_i32_779 v790
  v791.toNat
def k2_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k2_dev20 : Nat :=
  let c0_i32_779 : BitVec 32 := 0#32
  let c19_i32_777 : BitVec 32 := 19#32
  let c1_i32_778 : BitVec 32 := 1#32
  let v790 : BitVec 32 := Scalar.muli c19_i32_777 c1_i32_778
  let v791 : BitVec 32 := Scalar.addi c0_i32_779 v790
  v791.toNat
def k2_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k2_dev21 : Nat :=
  let c0_i32_779 : BitVec 32 := 0#32
  let c20_i32_777 : BitVec 32 := 20#32
  let c1_i32_778 : BitVec 32 := 1#32
  let v790 : BitVec 32 := Scalar.muli c20_i32_777 c1_i32_778
  let v791 : BitVec 32 := Scalar.addi c0_i32_779 v790
  v791.toNat
def k2_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k2_dev22 : Nat :=
  let c0_i32_779 : BitVec 32 := 0#32
  let c21_i32_777 : BitVec 32 := 21#32
  let c1_i32_778 : BitVec 32 := 1#32
  let v790 : BitVec 32 := Scalar.muli c21_i32_777 c1_i32_778
  let v791 : BitVec 32 := Scalar.addi c0_i32_779 v790
  v791.toNat
def k2_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k2_dev23 : Nat :=
  let c0_i32_779 : BitVec 32 := 0#32
  let c22_i32_777 : BitVec 32 := 22#32
  let c1_i32_778 : BitVec 32 := 1#32
  let v790 : BitVec 32 := Scalar.muli c22_i32_777 c1_i32_778
  let v791 : BitVec 32 := Scalar.addi c0_i32_779 v790
  v791.toNat
def k2_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k2_dev24 : Nat :=
  let c0_i32_779 : BitVec 32 := 0#32
  let c23_i32_777 : BitVec 32 := 23#32
  let c1_i32_778 : BitVec 32 := 1#32
  let v790 : BitVec 32 := Scalar.muli c23_i32_777 c1_i32_778
  let v791 : BitVec 32 := Scalar.addi c0_i32_779 v790
  v791.toNat
def k2_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k2_dev25 : Nat :=
  let c0_i32_779 : BitVec 32 := 0#32
  let c24_i32_777 : BitVec 32 := 24#32
  let c1_i32_778 : BitVec 32 := 1#32
  let v790 : BitVec 32 := Scalar.muli c24_i32_777 c1_i32_778
  let v791 : BitVec 32 := Scalar.addi c0_i32_779 v790
  v791.toNat
def k2_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k2_dev26 : Nat :=
  let c0_i32_779 : BitVec 32 := 0#32
  let c25_i32_777 : BitVec 32 := 25#32
  let c1_i32_778 : BitVec 32 := 1#32
  let v790 : BitVec 32 := Scalar.muli c25_i32_777 c1_i32_778
  let v791 : BitVec 32 := Scalar.addi c0_i32_779 v790
  v791.toNat
def k2_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k2_dev27 : Nat :=
  let c0_i32_779 : BitVec 32 := 0#32
  let c26_i32_777 : BitVec 32 := 26#32
  let c1_i32_778 : BitVec 32 := 1#32
  let v790 : BitVec 32 := Scalar.muli c26_i32_777 c1_i32_778
  let v791 : BitVec 32 := Scalar.addi c0_i32_779 v790
  v791.toNat
def k2_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k2_dev28 : Nat :=
  let c0_i32_779 : BitVec 32 := 0#32
  let c27_i32_777 : BitVec 32 := 27#32
  let c1_i32_778 : BitVec 32 := 1#32
  let v790 : BitVec 32 := Scalar.muli c27_i32_777 c1_i32_778
  let v791 : BitVec 32 := Scalar.addi c0_i32_779 v790
  v791.toNat
def k2_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k2_dev29 : Nat :=
  let c0_i32_779 : BitVec 32 := 0#32
  let c28_i32_777 : BitVec 32 := 28#32
  let c1_i32_778 : BitVec 32 := 1#32
  let v790 : BitVec 32 := Scalar.muli c28_i32_777 c1_i32_778
  let v791 : BitVec 32 := Scalar.addi c0_i32_779 v790
  v791.toNat
def k2_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k2_dev30 : Nat :=
  let c0_i32_779 : BitVec 32 := 0#32
  let c29_i32_777 : BitVec 32 := 29#32
  let c1_i32_778 : BitVec 32 := 1#32
  let v790 : BitVec 32 := Scalar.muli c29_i32_777 c1_i32_778
  let v791 : BitVec 32 := Scalar.addi c0_i32_779 v790
  v791.toNat
def k2_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k2_dev31 : Nat :=
  let c0_i32_779 : BitVec 32 := 0#32
  let c30_i32_777 : BitVec 32 := 30#32
  let c1_i32_778 : BitVec 32 := 1#32
  let v790 : BitVec 32 := Scalar.muli c30_i32_777 c1_i32_778
  let v791 : BitVec 32 := Scalar.addi c0_i32_779 v790
  v791.toNat
def k2_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k2_dev32 : Nat :=
  let c0_i32_779 : BitVec 32 := 0#32
  let c31_i32_777 : BitVec 32 := 31#32
  let c1_i32_778 : BitVec 32 := 1#32
  let v790 : BitVec 32 := Scalar.muli c31_i32_777 c1_i32_778
  let v791 : BitVec 32 := Scalar.addi c0_i32_779 v790
  v791.toNat
def k2_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_35 : BitVec 32 := 0#32
  let v101 : BitVec 1 := Scalar.cmpi .ne v2 c0_i32_35
  let v102 : BitVec 32 := Scalar.extui v101
  let c0_i32_37 : BitVec 32 := 0#32
  let v103 : BitVec 1 := Scalar.cmpi .ne v102 c0_i32_37
  v103

def k2_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_34 : BitVec 32 := 32#32
  let v100 : BitVec 32 := Scalar.muli v2 c32_i32_34
  let c0_i32_779 : BitVec 32 := 0#32
  ![v100.toNat, 0]
def k2_dev33 : Nat :=
  let c0_i32_778 : BitVec 32 := 0#32
  let c0_i32_776 : BitVec 32 := 0#32
  let c1_i32_777 : BitVec 32 := 1#32
  let v790 : BitVec 32 := Scalar.muli c0_i32_776 c1_i32_777
  let v791 : BitVec 32 := Scalar.addi c0_i32_778 v790
  v791.toNat
def k2_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_39 : BitVec 32 := 1#32
  let v105 : BitVec 1 := Scalar.cmpi .ne v2 c1_i32_39
  let v106 : BitVec 32 := Scalar.extui v105
  let c0_i32_41 : BitVec 32 := 0#32
  let v107 : BitVec 1 := Scalar.cmpi .ne v106 c0_i32_41
  v107

def k2_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_38 : BitVec 32 := 32#32
  let v104 : BitVec 32 := Scalar.muli v2 c32_i32_38
  let c0_i32_779 : BitVec 32 := 0#32
  ![v104.toNat, 0]
def k2_dev34 : Nat :=
  let c0_i32_778 : BitVec 32 := 0#32
  let c1_i32_776 : BitVec 32 := 1#32
  let c1_i32_777 : BitVec 32 := 1#32
  let v790 : BitVec 32 := Scalar.muli c1_i32_776 c1_i32_777
  let v791 : BitVec 32 := Scalar.addi c0_i32_778 v790
  v791.toNat
def k2_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_43 : BitVec 32 := 2#32
  let v109 : BitVec 1 := Scalar.cmpi .ne v2 c2_i32_43
  let v110 : BitVec 32 := Scalar.extui v109
  let c0_i32_45 : BitVec 32 := 0#32
  let v111 : BitVec 1 := Scalar.cmpi .ne v110 c0_i32_45
  v111

def k2_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_42 : BitVec 32 := 32#32
  let v108 : BitVec 32 := Scalar.muli v2 c32_i32_42
  let c0_i32_779 : BitVec 32 := 0#32
  ![v108.toNat, 0]
def k2_dev35 : Nat :=
  let c0_i32_778 : BitVec 32 := 0#32
  let c2_i32_776 : BitVec 32 := 2#32
  let c1_i32_777 : BitVec 32 := 1#32
  let v790 : BitVec 32 := Scalar.muli c2_i32_776 c1_i32_777
  let v791 : BitVec 32 := Scalar.addi c0_i32_778 v790
  v791.toNat
def k2_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_47 : BitVec 32 := 3#32
  let v113 : BitVec 1 := Scalar.cmpi .ne v2 c3_i32_47
  let v114 : BitVec 32 := Scalar.extui v113
  let c0_i32_49 : BitVec 32 := 0#32
  let v115 : BitVec 1 := Scalar.cmpi .ne v114 c0_i32_49
  v115

def k2_off7 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_46 : BitVec 32 := 32#32
  let v112 : BitVec 32 := Scalar.muli v2 c32_i32_46
  let c0_i32_779 : BitVec 32 := 0#32
  ![v112.toNat, 0]
def k2_dev36 : Nat :=
  let c0_i32_778 : BitVec 32 := 0#32
  let c3_i32_776 : BitVec 32 := 3#32
  let c1_i32_777 : BitVec 32 := 1#32
  let v790 : BitVec 32 := Scalar.muli c3_i32_776 c1_i32_777
  let v791 : BitVec 32 := Scalar.addi c0_i32_778 v790
  v791.toNat
def k2_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_51 : BitVec 32 := 4#32
  let v117 : BitVec 1 := Scalar.cmpi .ne v2 c4_i32_51
  let v118 : BitVec 32 := Scalar.extui v117
  let c0_i32_53 : BitVec 32 := 0#32
  let v119 : BitVec 1 := Scalar.cmpi .ne v118 c0_i32_53
  v119

def k2_off9 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_50 : BitVec 32 := 32#32
  let v116 : BitVec 32 := Scalar.muli v2 c32_i32_50
  let c0_i32_779 : BitVec 32 := 0#32
  ![v116.toNat, 0]
def k2_dev37 : Nat :=
  let c0_i32_778 : BitVec 32 := 0#32
  let c4_i32_776 : BitVec 32 := 4#32
  let c1_i32_777 : BitVec 32 := 1#32
  let v790 : BitVec 32 := Scalar.muli c4_i32_776 c1_i32_777
  let v791 : BitVec 32 := Scalar.addi c0_i32_778 v790
  v791.toNat
def k2_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_55 : BitVec 32 := 5#32
  let v121 : BitVec 1 := Scalar.cmpi .ne v2 c5_i32_55
  let v122 : BitVec 32 := Scalar.extui v121
  let c0_i32_57 : BitVec 32 := 0#32
  let v123 : BitVec 1 := Scalar.cmpi .ne v122 c0_i32_57
  v123

def k2_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_54 : BitVec 32 := 32#32
  let v120 : BitVec 32 := Scalar.muli v2 c32_i32_54
  let c0_i32_779 : BitVec 32 := 0#32
  ![v120.toNat, 0]
def k2_dev38 : Nat :=
  let c0_i32_778 : BitVec 32 := 0#32
  let c5_i32_776 : BitVec 32 := 5#32
  let c1_i32_777 : BitVec 32 := 1#32
  let v790 : BitVec 32 := Scalar.muli c5_i32_776 c1_i32_777
  let v791 : BitVec 32 := Scalar.addi c0_i32_778 v790
  v791.toNat
def k2_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_59 : BitVec 32 := 6#32
  let v125 : BitVec 1 := Scalar.cmpi .ne v2 c6_i32_59
  let v126 : BitVec 32 := Scalar.extui v125
  let c0_i32_61 : BitVec 32 := 0#32
  let v127 : BitVec 1 := Scalar.cmpi .ne v126 c0_i32_61
  v127

def k2_off13 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_58 : BitVec 32 := 32#32
  let v124 : BitVec 32 := Scalar.muli v2 c32_i32_58
  let c0_i32_779 : BitVec 32 := 0#32
  ![v124.toNat, 0]
def k2_dev39 : Nat :=
  let c0_i32_778 : BitVec 32 := 0#32
  let c6_i32_776 : BitVec 32 := 6#32
  let c1_i32_777 : BitVec 32 := 1#32
  let v790 : BitVec 32 := Scalar.muli c6_i32_776 c1_i32_777
  let v791 : BitVec 32 := Scalar.addi c0_i32_778 v790
  v791.toNat
def k2_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_63 : BitVec 32 := 7#32
  let v129 : BitVec 1 := Scalar.cmpi .ne v2 c7_i32_63
  let v130 : BitVec 32 := Scalar.extui v129
  let c0_i32_65 : BitVec 32 := 0#32
  let v131 : BitVec 1 := Scalar.cmpi .ne v130 c0_i32_65
  v131

def k2_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_62 : BitVec 32 := 32#32
  let v128 : BitVec 32 := Scalar.muli v2 c32_i32_62
  let c0_i32_779 : BitVec 32 := 0#32
  ![v128.toNat, 0]
def k2_dev40 : Nat :=
  let c0_i32_778 : BitVec 32 := 0#32
  let c7_i32_776 : BitVec 32 := 7#32
  let c1_i32_777 : BitVec 32 := 1#32
  let v790 : BitVec 32 := Scalar.muli c7_i32_776 c1_i32_777
  let v791 : BitVec 32 := Scalar.addi c0_i32_778 v790
  v791.toNat
def k2_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_67 : BitVec 32 := 8#32
  let v133 : BitVec 1 := Scalar.cmpi .ne v2 c8_i32_67
  let v134 : BitVec 32 := Scalar.extui v133
  let c0_i32_69 : BitVec 32 := 0#32
  let v135 : BitVec 1 := Scalar.cmpi .ne v134 c0_i32_69
  v135

def k2_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_66 : BitVec 32 := 32#32
  let v132 : BitVec 32 := Scalar.muli v2 c32_i32_66
  let c0_i32_779 : BitVec 32 := 0#32
  ![v132.toNat, 0]
def k2_dev41 : Nat :=
  let c0_i32_778 : BitVec 32 := 0#32
  let c8_i32_776 : BitVec 32 := 8#32
  let c1_i32_777 : BitVec 32 := 1#32
  let v790 : BitVec 32 := Scalar.muli c8_i32_776 c1_i32_777
  let v791 : BitVec 32 := Scalar.addi c0_i32_778 v790
  v791.toNat
def k2_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_71 : BitVec 32 := 9#32
  let v137 : BitVec 1 := Scalar.cmpi .ne v2 c9_i32_71
  let v138 : BitVec 32 := Scalar.extui v137
  let c0_i32_73 : BitVec 32 := 0#32
  let v139 : BitVec 1 := Scalar.cmpi .ne v138 c0_i32_73
  v139

def k2_off19 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_70 : BitVec 32 := 32#32
  let v136 : BitVec 32 := Scalar.muli v2 c32_i32_70
  let c0_i32_779 : BitVec 32 := 0#32
  ![v136.toNat, 0]
def k2_dev42 : Nat :=
  let c0_i32_778 : BitVec 32 := 0#32
  let c9_i32_776 : BitVec 32 := 9#32
  let c1_i32_777 : BitVec 32 := 1#32
  let v790 : BitVec 32 := Scalar.muli c9_i32_776 c1_i32_777
  let v791 : BitVec 32 := Scalar.addi c0_i32_778 v790
  v791.toNat
def k2_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_75 : BitVec 32 := 10#32
  let v141 : BitVec 1 := Scalar.cmpi .ne v2 c10_i32_75
  let v142 : BitVec 32 := Scalar.extui v141
  let c0_i32_77 : BitVec 32 := 0#32
  let v143 : BitVec 1 := Scalar.cmpi .ne v142 c0_i32_77
  v143

def k2_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_74 : BitVec 32 := 32#32
  let v140 : BitVec 32 := Scalar.muli v2 c32_i32_74
  let c0_i32_779 : BitVec 32 := 0#32
  ![v140.toNat, 0]
def k2_dev43 : Nat :=
  let c0_i32_778 : BitVec 32 := 0#32
  let c10_i32_776 : BitVec 32 := 10#32
  let c1_i32_777 : BitVec 32 := 1#32
  let v790 : BitVec 32 := Scalar.muli c10_i32_776 c1_i32_777
  let v791 : BitVec 32 := Scalar.addi c0_i32_778 v790
  v791.toNat
def k2_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_79 : BitVec 32 := 11#32
  let v145 : BitVec 1 := Scalar.cmpi .ne v2 c11_i32_79
  let v146 : BitVec 32 := Scalar.extui v145
  let c0_i32_81 : BitVec 32 := 0#32
  let v147 : BitVec 1 := Scalar.cmpi .ne v146 c0_i32_81
  v147

def k2_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_78 : BitVec 32 := 32#32
  let v144 : BitVec 32 := Scalar.muli v2 c32_i32_78
  let c0_i32_779 : BitVec 32 := 0#32
  ![v144.toNat, 0]
def k2_dev44 : Nat :=
  let c0_i32_778 : BitVec 32 := 0#32
  let c11_i32_776 : BitVec 32 := 11#32
  let c1_i32_777 : BitVec 32 := 1#32
  let v790 : BitVec 32 := Scalar.muli c11_i32_776 c1_i32_777
  let v791 : BitVec 32 := Scalar.addi c0_i32_778 v790
  v791.toNat
def k2_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_83 : BitVec 32 := 12#32
  let v149 : BitVec 1 := Scalar.cmpi .ne v2 c12_i32_83
  let v150 : BitVec 32 := Scalar.extui v149
  let c0_i32_85 : BitVec 32 := 0#32
  let v151 : BitVec 1 := Scalar.cmpi .ne v150 c0_i32_85
  v151

def k2_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_82 : BitVec 32 := 32#32
  let v148 : BitVec 32 := Scalar.muli v2 c32_i32_82
  let c0_i32_779 : BitVec 32 := 0#32
  ![v148.toNat, 0]
def k2_dev45 : Nat :=
  let c0_i32_778 : BitVec 32 := 0#32
  let c12_i32_776 : BitVec 32 := 12#32
  let c1_i32_777 : BitVec 32 := 1#32
  let v790 : BitVec 32 := Scalar.muli c12_i32_776 c1_i32_777
  let v791 : BitVec 32 := Scalar.addi c0_i32_778 v790
  v791.toNat
def k2_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_87 : BitVec 32 := 13#32
  let v153 : BitVec 1 := Scalar.cmpi .ne v2 c13_i32_87
  let v154 : BitVec 32 := Scalar.extui v153
  let c0_i32_89 : BitVec 32 := 0#32
  let v155 : BitVec 1 := Scalar.cmpi .ne v154 c0_i32_89
  v155

def k2_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_86 : BitVec 32 := 32#32
  let v152 : BitVec 32 := Scalar.muli v2 c32_i32_86
  let c0_i32_779 : BitVec 32 := 0#32
  ![v152.toNat, 0]
def k2_dev46 : Nat :=
  let c0_i32_778 : BitVec 32 := 0#32
  let c13_i32_776 : BitVec 32 := 13#32
  let c1_i32_777 : BitVec 32 := 1#32
  let v790 : BitVec 32 := Scalar.muli c13_i32_776 c1_i32_777
  let v791 : BitVec 32 := Scalar.addi c0_i32_778 v790
  v791.toNat
def k2_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_91 : BitVec 32 := 14#32
  let v157 : BitVec 1 := Scalar.cmpi .ne v2 c14_i32_91
  let v158 : BitVec 32 := Scalar.extui v157
  let c0_i32_93 : BitVec 32 := 0#32
  let v159 : BitVec 1 := Scalar.cmpi .ne v158 c0_i32_93
  v159

def k2_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off30 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_90 : BitVec 32 := 32#32
  let v156 : BitVec 32 := Scalar.muli v2 c32_i32_90
  let c0_i32_779 : BitVec 32 := 0#32
  ![v156.toNat, 0]
def k2_dev47 : Nat :=
  let c0_i32_778 : BitVec 32 := 0#32
  let c14_i32_776 : BitVec 32 := 14#32
  let c1_i32_777 : BitVec 32 := 1#32
  let v790 : BitVec 32 := Scalar.muli c14_i32_776 c1_i32_777
  let v791 : BitVec 32 := Scalar.addi c0_i32_778 v790
  v791.toNat
def k2_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_95 : BitVec 32 := 15#32
  let v161 : BitVec 1 := Scalar.cmpi .ne v2 c15_i32_95
  let v162 : BitVec 32 := Scalar.extui v161
  let c0_i32_97 : BitVec 32 := 0#32
  let v163 : BitVec 1 := Scalar.cmpi .ne v162 c0_i32_97
  v163

def k2_off31 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_94 : BitVec 32 := 32#32
  let v160 : BitVec 32 := Scalar.muli v2 c32_i32_94
  let c0_i32_779 : BitVec 32 := 0#32
  ![v160.toNat, 0]
def k2_dev48 : Nat :=
  let c0_i32_778 : BitVec 32 := 0#32
  let c15_i32_776 : BitVec 32 := 15#32
  let c1_i32_777 : BitVec 32 := 1#32
  let v790 : BitVec 32 := Scalar.muli c15_i32_776 c1_i32_777
  let v791 : BitVec 32 := Scalar.addi c0_i32_778 v790
  v791.toNat
def k2_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_99 : BitVec 32 := 16#32
  let v165 : BitVec 1 := Scalar.cmpi .ne v2 c16_i32_99
  let v166 : BitVec 32 := Scalar.extui v165
  let c0_i32_101 : BitVec 32 := 0#32
  let v167 : BitVec 1 := Scalar.cmpi .ne v166 c0_i32_101
  v167

def k2_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_98 : BitVec 32 := 32#32
  let v164 : BitVec 32 := Scalar.muli v2 c32_i32_98
  let c0_i32_779 : BitVec 32 := 0#32
  ![v164.toNat, 0]
def k2_dev49 : Nat :=
  let c0_i32_778 : BitVec 32 := 0#32
  let c16_i32_776 : BitVec 32 := 16#32
  let c1_i32_777 : BitVec 32 := 1#32
  let v790 : BitVec 32 := Scalar.muli c16_i32_776 c1_i32_777
  let v791 : BitVec 32 := Scalar.addi c0_i32_778 v790
  v791.toNat
def k2_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_103 : BitVec 32 := 17#32
  let v169 : BitVec 1 := Scalar.cmpi .ne v2 c17_i32_103
  let v170 : BitVec 32 := Scalar.extui v169
  let c0_i32_105 : BitVec 32 := 0#32
  let v171 : BitVec 1 := Scalar.cmpi .ne v170 c0_i32_105
  v171

def k2_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off36 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_102 : BitVec 32 := 32#32
  let v168 : BitVec 32 := Scalar.muli v2 c32_i32_102
  let c0_i32_779 : BitVec 32 := 0#32
  ![v168.toNat, 0]
def k2_dev50 : Nat :=
  let c0_i32_778 : BitVec 32 := 0#32
  let c17_i32_776 : BitVec 32 := 17#32
  let c1_i32_777 : BitVec 32 := 1#32
  let v790 : BitVec 32 := Scalar.muli c17_i32_776 c1_i32_777
  let v791 : BitVec 32 := Scalar.addi c0_i32_778 v790
  v791.toNat
def k2_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_107 : BitVec 32 := 18#32
  let v173 : BitVec 1 := Scalar.cmpi .ne v2 c18_i32_107
  let v174 : BitVec 32 := Scalar.extui v173
  let c0_i32_109 : BitVec 32 := 0#32
  let v175 : BitVec 1 := Scalar.cmpi .ne v174 c0_i32_109
  v175

def k2_off37 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_106 : BitVec 32 := 32#32
  let v172 : BitVec 32 := Scalar.muli v2 c32_i32_106
  let c0_i32_779 : BitVec 32 := 0#32
  ![v172.toNat, 0]
def k2_dev51 : Nat :=
  let c0_i32_778 : BitVec 32 := 0#32
  let c18_i32_776 : BitVec 32 := 18#32
  let c1_i32_777 : BitVec 32 := 1#32
  let v790 : BitVec 32 := Scalar.muli c18_i32_776 c1_i32_777
  let v791 : BitVec 32 := Scalar.addi c0_i32_778 v790
  v791.toNat
def k2_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_111 : BitVec 32 := 19#32
  let v177 : BitVec 1 := Scalar.cmpi .ne v2 c19_i32_111
  let v178 : BitVec 32 := Scalar.extui v177
  let c0_i32_113 : BitVec 32 := 0#32
  let v179 : BitVec 1 := Scalar.cmpi .ne v178 c0_i32_113
  v179

def k2_off39 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_110 : BitVec 32 := 32#32
  let v176 : BitVec 32 := Scalar.muli v2 c32_i32_110
  let c0_i32_779 : BitVec 32 := 0#32
  ![v176.toNat, 0]
def k2_dev52 : Nat :=
  let c0_i32_778 : BitVec 32 := 0#32
  let c19_i32_776 : BitVec 32 := 19#32
  let c1_i32_777 : BitVec 32 := 1#32
  let v790 : BitVec 32 := Scalar.muli c19_i32_776 c1_i32_777
  let v791 : BitVec 32 := Scalar.addi c0_i32_778 v790
  v791.toNat
def k2_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_115 : BitVec 32 := 20#32
  let v181 : BitVec 1 := Scalar.cmpi .ne v2 c20_i32_115
  let v182 : BitVec 32 := Scalar.extui v181
  let c0_i32_117 : BitVec 32 := 0#32
  let v183 : BitVec 1 := Scalar.cmpi .ne v182 c0_i32_117
  v183

def k2_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off42 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_114 : BitVec 32 := 32#32
  let v180 : BitVec 32 := Scalar.muli v2 c32_i32_114
  let c0_i32_779 : BitVec 32 := 0#32
  ![v180.toNat, 0]
def k2_dev53 : Nat :=
  let c0_i32_778 : BitVec 32 := 0#32
  let c20_i32_776 : BitVec 32 := 20#32
  let c1_i32_777 : BitVec 32 := 1#32
  let v790 : BitVec 32 := Scalar.muli c20_i32_776 c1_i32_777
  let v791 : BitVec 32 := Scalar.addi c0_i32_778 v790
  v791.toNat
def k2_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_119 : BitVec 32 := 21#32
  let v185 : BitVec 1 := Scalar.cmpi .ne v2 c21_i32_119
  let v186 : BitVec 32 := Scalar.extui v185
  let c0_i32_121 : BitVec 32 := 0#32
  let v187 : BitVec 1 := Scalar.cmpi .ne v186 c0_i32_121
  v187

def k2_off43 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off44 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_118 : BitVec 32 := 32#32
  let v184 : BitVec 32 := Scalar.muli v2 c32_i32_118
  let c0_i32_779 : BitVec 32 := 0#32
  ![v184.toNat, 0]
def k2_dev54 : Nat :=
  let c0_i32_778 : BitVec 32 := 0#32
  let c21_i32_776 : BitVec 32 := 21#32
  let c1_i32_777 : BitVec 32 := 1#32
  let v790 : BitVec 32 := Scalar.muli c21_i32_776 c1_i32_777
  let v791 : BitVec 32 := Scalar.addi c0_i32_778 v790
  v791.toNat
def k2_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_123 : BitVec 32 := 22#32
  let v189 : BitVec 1 := Scalar.cmpi .ne v2 c22_i32_123
  let v190 : BitVec 32 := Scalar.extui v189
  let c0_i32_125 : BitVec 32 := 0#32
  let v191 : BitVec 1 := Scalar.cmpi .ne v190 c0_i32_125
  v191

def k2_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off46 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_122 : BitVec 32 := 32#32
  let v188 : BitVec 32 := Scalar.muli v2 c32_i32_122
  let c0_i32_779 : BitVec 32 := 0#32
  ![v188.toNat, 0]
def k2_dev55 : Nat :=
  let c0_i32_778 : BitVec 32 := 0#32
  let c22_i32_776 : BitVec 32 := 22#32
  let c1_i32_777 : BitVec 32 := 1#32
  let v790 : BitVec 32 := Scalar.muli c22_i32_776 c1_i32_777
  let v791 : BitVec 32 := Scalar.addi c0_i32_778 v790
  v791.toNat
def k2_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_127 : BitVec 32 := 23#32
  let v193 : BitVec 1 := Scalar.cmpi .ne v2 c23_i32_127
  let v194 : BitVec 32 := Scalar.extui v193
  let c0_i32_129 : BitVec 32 := 0#32
  let v195 : BitVec 1 := Scalar.cmpi .ne v194 c0_i32_129
  v195

def k2_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_126 : BitVec 32 := 32#32
  let v192 : BitVec 32 := Scalar.muli v2 c32_i32_126
  let c0_i32_779 : BitVec 32 := 0#32
  ![v192.toNat, 0]
def k2_dev56 : Nat :=
  let c0_i32_778 : BitVec 32 := 0#32
  let c23_i32_776 : BitVec 32 := 23#32
  let c1_i32_777 : BitVec 32 := 1#32
  let v790 : BitVec 32 := Scalar.muli c23_i32_776 c1_i32_777
  let v791 : BitVec 32 := Scalar.addi c0_i32_778 v790
  v791.toNat
def k2_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_131 : BitVec 32 := 24#32
  let v197 : BitVec 1 := Scalar.cmpi .ne v2 c24_i32_131
  let v198 : BitVec 32 := Scalar.extui v197
  let c0_i32_133 : BitVec 32 := 0#32
  let v199 : BitVec 1 := Scalar.cmpi .ne v198 c0_i32_133
  v199

def k2_off49 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off50 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_130 : BitVec 32 := 32#32
  let v196 : BitVec 32 := Scalar.muli v2 c32_i32_130
  let c0_i32_779 : BitVec 32 := 0#32
  ![v196.toNat, 0]
def k2_dev57 : Nat :=
  let c0_i32_778 : BitVec 32 := 0#32
  let c24_i32_776 : BitVec 32 := 24#32
  let c1_i32_777 : BitVec 32 := 1#32
  let v790 : BitVec 32 := Scalar.muli c24_i32_776 c1_i32_777
  let v791 : BitVec 32 := Scalar.addi c0_i32_778 v790
  v791.toNat
def k2_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_135 : BitVec 32 := 25#32
  let v201 : BitVec 1 := Scalar.cmpi .ne v2 c25_i32_135
  let v202 : BitVec 32 := Scalar.extui v201
  let c0_i32_137 : BitVec 32 := 0#32
  let v203 : BitVec 1 := Scalar.cmpi .ne v202 c0_i32_137
  v203

def k2_off51 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off52 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_134 : BitVec 32 := 32#32
  let v200 : BitVec 32 := Scalar.muli v2 c32_i32_134
  let c0_i32_779 : BitVec 32 := 0#32
  ![v200.toNat, 0]
def k2_dev58 : Nat :=
  let c0_i32_778 : BitVec 32 := 0#32
  let c25_i32_776 : BitVec 32 := 25#32
  let c1_i32_777 : BitVec 32 := 1#32
  let v790 : BitVec 32 := Scalar.muli c25_i32_776 c1_i32_777
  let v791 : BitVec 32 := Scalar.addi c0_i32_778 v790
  v791.toNat
def k2_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_139 : BitVec 32 := 26#32
  let v205 : BitVec 1 := Scalar.cmpi .ne v2 c26_i32_139
  let v206 : BitVec 32 := Scalar.extui v205
  let c0_i32_141 : BitVec 32 := 0#32
  let v207 : BitVec 1 := Scalar.cmpi .ne v206 c0_i32_141
  v207

def k2_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off54 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_138 : BitVec 32 := 32#32
  let v204 : BitVec 32 := Scalar.muli v2 c32_i32_138
  let c0_i32_779 : BitVec 32 := 0#32
  ![v204.toNat, 0]
def k2_dev59 : Nat :=
  let c0_i32_778 : BitVec 32 := 0#32
  let c26_i32_776 : BitVec 32 := 26#32
  let c1_i32_777 : BitVec 32 := 1#32
  let v790 : BitVec 32 := Scalar.muli c26_i32_776 c1_i32_777
  let v791 : BitVec 32 := Scalar.addi c0_i32_778 v790
  v791.toNat
def k2_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_143 : BitVec 32 := 27#32
  let v209 : BitVec 1 := Scalar.cmpi .ne v2 c27_i32_143
  let v210 : BitVec 32 := Scalar.extui v209
  let c0_i32_145 : BitVec 32 := 0#32
  let v211 : BitVec 1 := Scalar.cmpi .ne v210 c0_i32_145
  v211

def k2_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off56 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_142 : BitVec 32 := 32#32
  let v208 : BitVec 32 := Scalar.muli v2 c32_i32_142
  let c0_i32_779 : BitVec 32 := 0#32
  ![v208.toNat, 0]
def k2_dev60 : Nat :=
  let c0_i32_778 : BitVec 32 := 0#32
  let c27_i32_776 : BitVec 32 := 27#32
  let c1_i32_777 : BitVec 32 := 1#32
  let v790 : BitVec 32 := Scalar.muli c27_i32_776 c1_i32_777
  let v791 : BitVec 32 := Scalar.addi c0_i32_778 v790
  v791.toNat
def k2_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_147 : BitVec 32 := 28#32
  let v213 : BitVec 1 := Scalar.cmpi .ne v2 c28_i32_147
  let v214 : BitVec 32 := Scalar.extui v213
  let c0_i32_149 : BitVec 32 := 0#32
  let v215 : BitVec 1 := Scalar.cmpi .ne v214 c0_i32_149
  v215

def k2_off57 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_146 : BitVec 32 := 32#32
  let v212 : BitVec 32 := Scalar.muli v2 c32_i32_146
  let c0_i32_779 : BitVec 32 := 0#32
  ![v212.toNat, 0]
def k2_dev61 : Nat :=
  let c0_i32_778 : BitVec 32 := 0#32
  let c28_i32_776 : BitVec 32 := 28#32
  let c1_i32_777 : BitVec 32 := 1#32
  let v790 : BitVec 32 := Scalar.muli c28_i32_776 c1_i32_777
  let v791 : BitVec 32 := Scalar.addi c0_i32_778 v790
  v791.toNat
def k2_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_151 : BitVec 32 := 29#32
  let v217 : BitVec 1 := Scalar.cmpi .ne v2 c29_i32_151
  let v218 : BitVec 32 := Scalar.extui v217
  let c0_i32_153 : BitVec 32 := 0#32
  let v219 : BitVec 1 := Scalar.cmpi .ne v218 c0_i32_153
  v219

def k2_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off60 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_150 : BitVec 32 := 32#32
  let v216 : BitVec 32 := Scalar.muli v2 c32_i32_150
  let c0_i32_779 : BitVec 32 := 0#32
  ![v216.toNat, 0]
def k2_dev62 : Nat :=
  let c0_i32_778 : BitVec 32 := 0#32
  let c29_i32_776 : BitVec 32 := 29#32
  let c1_i32_777 : BitVec 32 := 1#32
  let v790 : BitVec 32 := Scalar.muli c29_i32_776 c1_i32_777
  let v791 : BitVec 32 := Scalar.addi c0_i32_778 v790
  v791.toNat
def k2_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_155 : BitVec 32 := 30#32
  let v221 : BitVec 1 := Scalar.cmpi .ne v2 c30_i32_155
  let v222 : BitVec 32 := Scalar.extui v221
  let c0_i32_157 : BitVec 32 := 0#32
  let v223 : BitVec 1 := Scalar.cmpi .ne v222 c0_i32_157
  v223

def k2_off61 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off62 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_154 : BitVec 32 := 32#32
  let v220 : BitVec 32 := Scalar.muli v2 c32_i32_154
  let c0_i32_779 : BitVec 32 := 0#32
  ![v220.toNat, 0]
def k2_dev63 : Nat :=
  let c0_i32_778 : BitVec 32 := 0#32
  let c30_i32_776 : BitVec 32 := 30#32
  let c1_i32_777 : BitVec 32 := 1#32
  let v790 : BitVec 32 := Scalar.muli c30_i32_776 c1_i32_777
  let v791 : BitVec 32 := Scalar.addi c0_i32_778 v790
  v791.toNat
def k2_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_159 : BitVec 32 := 31#32
  let v225 : BitVec 1 := Scalar.cmpi .ne v2 c31_i32_159
  let v226 : BitVec 32 := Scalar.extui v225
  let c0_i32_161 : BitVec 32 := 0#32
  let v227 : BitVec 1 := Scalar.cmpi .ne v226 c0_i32_161
  v227

def k2_off63 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off64 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_158 : BitVec 32 := 32#32
  let v224 : BitVec 32 := Scalar.muli v2 c32_i32_158
  let c0_i32_779 : BitVec 32 := 0#32
  ![v224.toNat, 0]
def k2_dev64 : Nat :=
  let c0_i32_778 : BitVec 32 := 0#32
  let c31_i32_776 : BitVec 32 := 31#32
  let c1_i32_777 : BitVec 32 := 1#32
  let v790 : BitVec 32 := Scalar.muli c31_i32_776 c1_i32_777
  let v791 : BitVec 32 := Scalar.addi c0_i32_778 v790
  v791.toNat
def k2_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_290 : BitVec 32 := 32#32
  let v324 : BitVec 32 := Scalar.muli v2 c32_i32_290
  let v325 : Index := Scalar.indexCast v324
  let c0 : Index := 0#32
  ![v325.toNat, 0]
def k2_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_298 : BitVec 32 := 0#32
  let v344 : BitVec 1 := Scalar.cmpi .ne v2 c0_i32_298
  let v345 : BitVec 32 := Scalar.extui v344
  let c0_i32_300 : BitVec 32 := 0#32
  let v346 : BitVec 1 := Scalar.cmpi .ne v345 c0_i32_300
  v346

def k2_off66 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off67 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_297 : BitVec 32 := 32#32
  let v343 : BitVec 32 := Scalar.muli v2 c32_i32_297
  let c0_i32_779 : BitVec 32 := 0#32
  ![v343.toNat, 0]
def k2_dev65 : Nat :=
  let c0_i32_778 : BitVec 32 := 0#32
  let c0_i32_776 : BitVec 32 := 0#32
  let c1_i32_777 : BitVec 32 := 1#32
  let v790 : BitVec 32 := Scalar.muli c0_i32_776 c1_i32_777
  let v791 : BitVec 32 := Scalar.addi c0_i32_778 v790
  v791.toNat
def k2_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_303 : BitVec 32 := 1#32
  let v349 : BitVec 1 := Scalar.cmpi .ne v2 c1_i32_303
  let v350 : BitVec 32 := Scalar.extui v349
  let c0_i32_305 : BitVec 32 := 0#32
  let v351 : BitVec 1 := Scalar.cmpi .ne v350 c0_i32_305
  v351

def k2_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off69 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_302 : BitVec 32 := 32#32
  let v348 : BitVec 32 := Scalar.muli v2 c32_i32_302
  let c0_i32_779 : BitVec 32 := 0#32
  ![v348.toNat, 0]
def k2_dev66 : Nat :=
  let c0_i32_778 : BitVec 32 := 0#32
  let c1_i32_776 : BitVec 32 := 1#32
  let c1_i32_777 : BitVec 32 := 1#32
  let v790 : BitVec 32 := Scalar.muli c1_i32_776 c1_i32_777
  let v791 : BitVec 32 := Scalar.addi c0_i32_778 v790
  v791.toNat
def k2_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_308 : BitVec 32 := 2#32
  let v354 : BitVec 1 := Scalar.cmpi .ne v2 c2_i32_308
  let v355 : BitVec 32 := Scalar.extui v354
  let c0_i32_310 : BitVec 32 := 0#32
  let v356 : BitVec 1 := Scalar.cmpi .ne v355 c0_i32_310
  v356

def k2_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off71 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_307 : BitVec 32 := 32#32
  let v353 : BitVec 32 := Scalar.muli v2 c32_i32_307
  let c0_i32_779 : BitVec 32 := 0#32
  ![v353.toNat, 0]
def k2_dev67 : Nat :=
  let c0_i32_778 : BitVec 32 := 0#32
  let c2_i32_776 : BitVec 32 := 2#32
  let c1_i32_777 : BitVec 32 := 1#32
  let v790 : BitVec 32 := Scalar.muli c2_i32_776 c1_i32_777
  let v791 : BitVec 32 := Scalar.addi c0_i32_778 v790
  v791.toNat
def k2_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_313 : BitVec 32 := 3#32
  let v359 : BitVec 1 := Scalar.cmpi .ne v2 c3_i32_313
  let v360 : BitVec 32 := Scalar.extui v359
  let c0_i32_315 : BitVec 32 := 0#32
  let v361 : BitVec 1 := Scalar.cmpi .ne v360 c0_i32_315
  v361

def k2_off72 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_312 : BitVec 32 := 32#32
  let v358 : BitVec 32 := Scalar.muli v2 c32_i32_312
  let c0_i32_779 : BitVec 32 := 0#32
  ![v358.toNat, 0]
def k2_dev68 : Nat :=
  let c0_i32_778 : BitVec 32 := 0#32
  let c3_i32_776 : BitVec 32 := 3#32
  let c1_i32_777 : BitVec 32 := 1#32
  let v790 : BitVec 32 := Scalar.muli c3_i32_776 c1_i32_777
  let v791 : BitVec 32 := Scalar.addi c0_i32_778 v790
  v791.toNat
def k2_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_318 : BitVec 32 := 4#32
  let v364 : BitVec 1 := Scalar.cmpi .ne v2 c4_i32_318
  let v365 : BitVec 32 := Scalar.extui v364
  let c0_i32_320 : BitVec 32 := 0#32
  let v366 : BitVec 1 := Scalar.cmpi .ne v365 c0_i32_320
  v366

def k2_off74 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off75 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_317 : BitVec 32 := 32#32
  let v363 : BitVec 32 := Scalar.muli v2 c32_i32_317
  let c0_i32_779 : BitVec 32 := 0#32
  ![v363.toNat, 0]
def k2_dev69 : Nat :=
  let c0_i32_778 : BitVec 32 := 0#32
  let c4_i32_776 : BitVec 32 := 4#32
  let c1_i32_777 : BitVec 32 := 1#32
  let v790 : BitVec 32 := Scalar.muli c4_i32_776 c1_i32_777
  let v791 : BitVec 32 := Scalar.addi c0_i32_778 v790
  v791.toNat
def k2_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_323 : BitVec 32 := 5#32
  let v369 : BitVec 1 := Scalar.cmpi .ne v2 c5_i32_323
  let v370 : BitVec 32 := Scalar.extui v369
  let c0_i32_325 : BitVec 32 := 0#32
  let v371 : BitVec 1 := Scalar.cmpi .ne v370 c0_i32_325
  v371

def k2_off76 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off77 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_322 : BitVec 32 := 32#32
  let v368 : BitVec 32 := Scalar.muli v2 c32_i32_322
  let c0_i32_779 : BitVec 32 := 0#32
  ![v368.toNat, 0]
def k2_dev70 : Nat :=
  let c0_i32_778 : BitVec 32 := 0#32
  let c5_i32_776 : BitVec 32 := 5#32
  let c1_i32_777 : BitVec 32 := 1#32
  let v790 : BitVec 32 := Scalar.muli c5_i32_776 c1_i32_777
  let v791 : BitVec 32 := Scalar.addi c0_i32_778 v790
  v791.toNat
def k2_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_328 : BitVec 32 := 6#32
  let v374 : BitVec 1 := Scalar.cmpi .ne v2 c6_i32_328
  let v375 : BitVec 32 := Scalar.extui v374
  let c0_i32_330 : BitVec 32 := 0#32
  let v376 : BitVec 1 := Scalar.cmpi .ne v375 c0_i32_330
  v376

def k2_off78 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off79 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_327 : BitVec 32 := 32#32
  let v373 : BitVec 32 := Scalar.muli v2 c32_i32_327
  let c0_i32_779 : BitVec 32 := 0#32
  ![v373.toNat, 0]
def k2_dev71 : Nat :=
  let c0_i32_778 : BitVec 32 := 0#32
  let c6_i32_776 : BitVec 32 := 6#32
  let c1_i32_777 : BitVec 32 := 1#32
  let v790 : BitVec 32 := Scalar.muli c6_i32_776 c1_i32_777
  let v791 : BitVec 32 := Scalar.addi c0_i32_778 v790
  v791.toNat
def k2_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_333 : BitVec 32 := 7#32
  let v379 : BitVec 1 := Scalar.cmpi .ne v2 c7_i32_333
  let v380 : BitVec 32 := Scalar.extui v379
  let c0_i32_335 : BitVec 32 := 0#32
  let v381 : BitVec 1 := Scalar.cmpi .ne v380 c0_i32_335
  v381

def k2_off80 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off81 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_332 : BitVec 32 := 32#32
  let v378 : BitVec 32 := Scalar.muli v2 c32_i32_332
  let c0_i32_779 : BitVec 32 := 0#32
  ![v378.toNat, 0]
def k2_dev72 : Nat :=
  let c0_i32_778 : BitVec 32 := 0#32
  let c7_i32_776 : BitVec 32 := 7#32
  let c1_i32_777 : BitVec 32 := 1#32
  let v790 : BitVec 32 := Scalar.muli c7_i32_776 c1_i32_777
  let v791 : BitVec 32 := Scalar.addi c0_i32_778 v790
  v791.toNat
def k2_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_338 : BitVec 32 := 8#32
  let v384 : BitVec 1 := Scalar.cmpi .ne v2 c8_i32_338
  let v385 : BitVec 32 := Scalar.extui v384
  let c0_i32_340 : BitVec 32 := 0#32
  let v386 : BitVec 1 := Scalar.cmpi .ne v385 c0_i32_340
  v386

def k2_off82 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_337 : BitVec 32 := 32#32
  let v383 : BitVec 32 := Scalar.muli v2 c32_i32_337
  let c0_i32_779 : BitVec 32 := 0#32
  ![v383.toNat, 0]
def k2_dev73 : Nat :=
  let c0_i32_778 : BitVec 32 := 0#32
  let c8_i32_776 : BitVec 32 := 8#32
  let c1_i32_777 : BitVec 32 := 1#32
  let v790 : BitVec 32 := Scalar.muli c8_i32_776 c1_i32_777
  let v791 : BitVec 32 := Scalar.addi c0_i32_778 v790
  v791.toNat
def k2_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_343 : BitVec 32 := 9#32
  let v389 : BitVec 1 := Scalar.cmpi .ne v2 c9_i32_343
  let v390 : BitVec 32 := Scalar.extui v389
  let c0_i32_345 : BitVec 32 := 0#32
  let v391 : BitVec 1 := Scalar.cmpi .ne v390 c0_i32_345
  v391

def k2_off84 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off85 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_342 : BitVec 32 := 32#32
  let v388 : BitVec 32 := Scalar.muli v2 c32_i32_342
  let c0_i32_779 : BitVec 32 := 0#32
  ![v388.toNat, 0]
def k2_dev74 : Nat :=
  let c0_i32_778 : BitVec 32 := 0#32
  let c9_i32_776 : BitVec 32 := 9#32
  let c1_i32_777 : BitVec 32 := 1#32
  let v790 : BitVec 32 := Scalar.muli c9_i32_776 c1_i32_777
  let v791 : BitVec 32 := Scalar.addi c0_i32_778 v790
  v791.toNat
def k2_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_348 : BitVec 32 := 10#32
  let v394 : BitVec 1 := Scalar.cmpi .ne v2 c10_i32_348
  let v395 : BitVec 32 := Scalar.extui v394
  let c0_i32_350 : BitVec 32 := 0#32
  let v396 : BitVec 1 := Scalar.cmpi .ne v395 c0_i32_350
  v396

def k2_off86 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off87 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_347 : BitVec 32 := 32#32
  let v393 : BitVec 32 := Scalar.muli v2 c32_i32_347
  let c0_i32_779 : BitVec 32 := 0#32
  ![v393.toNat, 0]
def k2_dev75 : Nat :=
  let c0_i32_778 : BitVec 32 := 0#32
  let c10_i32_776 : BitVec 32 := 10#32
  let c1_i32_777 : BitVec 32 := 1#32
  let v790 : BitVec 32 := Scalar.muli c10_i32_776 c1_i32_777
  let v791 : BitVec 32 := Scalar.addi c0_i32_778 v790
  v791.toNat
def k2_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_353 : BitVec 32 := 11#32
  let v399 : BitVec 1 := Scalar.cmpi .ne v2 c11_i32_353
  let v400 : BitVec 32 := Scalar.extui v399
  let c0_i32_355 : BitVec 32 := 0#32
  let v401 : BitVec 1 := Scalar.cmpi .ne v400 c0_i32_355
  v401

def k2_off88 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off89 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_352 : BitVec 32 := 32#32
  let v398 : BitVec 32 := Scalar.muli v2 c32_i32_352
  let c0_i32_779 : BitVec 32 := 0#32
  ![v398.toNat, 0]
def k2_dev76 : Nat :=
  let c0_i32_778 : BitVec 32 := 0#32
  let c11_i32_776 : BitVec 32 := 11#32
  let c1_i32_777 : BitVec 32 := 1#32
  let v790 : BitVec 32 := Scalar.muli c11_i32_776 c1_i32_777
  let v791 : BitVec 32 := Scalar.addi c0_i32_778 v790
  v791.toNat
def k2_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_358 : BitVec 32 := 12#32
  let v404 : BitVec 1 := Scalar.cmpi .ne v2 c12_i32_358
  let v405 : BitVec 32 := Scalar.extui v404
  let c0_i32_360 : BitVec 32 := 0#32
  let v406 : BitVec 1 := Scalar.cmpi .ne v405 c0_i32_360
  v406

def k2_off90 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off91 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_357 : BitVec 32 := 32#32
  let v403 : BitVec 32 := Scalar.muli v2 c32_i32_357
  let c0_i32_779 : BitVec 32 := 0#32
  ![v403.toNat, 0]
def k2_dev77 : Nat :=
  let c0_i32_778 : BitVec 32 := 0#32
  let c12_i32_776 : BitVec 32 := 12#32
  let c1_i32_777 : BitVec 32 := 1#32
  let v790 : BitVec 32 := Scalar.muli c12_i32_776 c1_i32_777
  let v791 : BitVec 32 := Scalar.addi c0_i32_778 v790
  v791.toNat
def k2_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_363 : BitVec 32 := 13#32
  let v409 : BitVec 1 := Scalar.cmpi .ne v2 c13_i32_363
  let v410 : BitVec 32 := Scalar.extui v409
  let c0_i32_365 : BitVec 32 := 0#32
  let v411 : BitVec 1 := Scalar.cmpi .ne v410 c0_i32_365
  v411

def k2_off92 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_362 : BitVec 32 := 32#32
  let v408 : BitVec 32 := Scalar.muli v2 c32_i32_362
  let c0_i32_779 : BitVec 32 := 0#32
  ![v408.toNat, 0]
def k2_dev78 : Nat :=
  let c0_i32_778 : BitVec 32 := 0#32
  let c13_i32_776 : BitVec 32 := 13#32
  let c1_i32_777 : BitVec 32 := 1#32
  let v790 : BitVec 32 := Scalar.muli c13_i32_776 c1_i32_777
  let v791 : BitVec 32 := Scalar.addi c0_i32_778 v790
  v791.toNat
def k2_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_368 : BitVec 32 := 14#32
  let v414 : BitVec 1 := Scalar.cmpi .ne v2 c14_i32_368
  let v415 : BitVec 32 := Scalar.extui v414
  let c0_i32_370 : BitVec 32 := 0#32
  let v416 : BitVec 1 := Scalar.cmpi .ne v415 c0_i32_370
  v416

def k2_off94 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off95 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_367 : BitVec 32 := 32#32
  let v413 : BitVec 32 := Scalar.muli v2 c32_i32_367
  let c0_i32_779 : BitVec 32 := 0#32
  ![v413.toNat, 0]
def k2_dev79 : Nat :=
  let c0_i32_778 : BitVec 32 := 0#32
  let c14_i32_776 : BitVec 32 := 14#32
  let c1_i32_777 : BitVec 32 := 1#32
  let v790 : BitVec 32 := Scalar.muli c14_i32_776 c1_i32_777
  let v791 : BitVec 32 := Scalar.addi c0_i32_778 v790
  v791.toNat
def k2_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_373 : BitVec 32 := 15#32
  let v419 : BitVec 1 := Scalar.cmpi .ne v2 c15_i32_373
  let v420 : BitVec 32 := Scalar.extui v419
  let c0_i32_375 : BitVec 32 := 0#32
  let v421 : BitVec 1 := Scalar.cmpi .ne v420 c0_i32_375
  v421

def k2_off96 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off97 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_372 : BitVec 32 := 32#32
  let v418 : BitVec 32 := Scalar.muli v2 c32_i32_372
  let c0_i32_779 : BitVec 32 := 0#32
  ![v418.toNat, 0]
def k2_dev80 : Nat :=
  let c0_i32_778 : BitVec 32 := 0#32
  let c15_i32_776 : BitVec 32 := 15#32
  let c1_i32_777 : BitVec 32 := 1#32
  let v790 : BitVec 32 := Scalar.muli c15_i32_776 c1_i32_777
  let v791 : BitVec 32 := Scalar.addi c0_i32_778 v790
  v791.toNat
def k2_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_378 : BitVec 32 := 16#32
  let v424 : BitVec 1 := Scalar.cmpi .ne v2 c16_i32_378
  let v425 : BitVec 32 := Scalar.extui v424
  let c0_i32_380 : BitVec 32 := 0#32
  let v426 : BitVec 1 := Scalar.cmpi .ne v425 c0_i32_380
  v426

def k2_off98 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off99 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_377 : BitVec 32 := 32#32
  let v423 : BitVec 32 := Scalar.muli v2 c32_i32_377
  let c0_i32_779 : BitVec 32 := 0#32
  ![v423.toNat, 0]
def k2_dev81 : Nat :=
  let c0_i32_778 : BitVec 32 := 0#32
  let c16_i32_776 : BitVec 32 := 16#32
  let c1_i32_777 : BitVec 32 := 1#32
  let v790 : BitVec 32 := Scalar.muli c16_i32_776 c1_i32_777
  let v791 : BitVec 32 := Scalar.addi c0_i32_778 v790
  v791.toNat
def k2_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_383 : BitVec 32 := 17#32
  let v429 : BitVec 1 := Scalar.cmpi .ne v2 c17_i32_383
  let v430 : BitVec 32 := Scalar.extui v429
  let c0_i32_385 : BitVec 32 := 0#32
  let v431 : BitVec 1 := Scalar.cmpi .ne v430 c0_i32_385
  v431

def k2_off100 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off101 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_382 : BitVec 32 := 32#32
  let v428 : BitVec 32 := Scalar.muli v2 c32_i32_382
  let c0_i32_779 : BitVec 32 := 0#32
  ![v428.toNat, 0]
def k2_dev82 : Nat :=
  let c0_i32_778 : BitVec 32 := 0#32
  let c17_i32_776 : BitVec 32 := 17#32
  let c1_i32_777 : BitVec 32 := 1#32
  let v790 : BitVec 32 := Scalar.muli c17_i32_776 c1_i32_777
  let v791 : BitVec 32 := Scalar.addi c0_i32_778 v790
  v791.toNat
def k2_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_388 : BitVec 32 := 18#32
  let v434 : BitVec 1 := Scalar.cmpi .ne v2 c18_i32_388
  let v435 : BitVec 32 := Scalar.extui v434
  let c0_i32_390 : BitVec 32 := 0#32
  let v436 : BitVec 1 := Scalar.cmpi .ne v435 c0_i32_390
  v436

def k2_off102 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_387 : BitVec 32 := 32#32
  let v433 : BitVec 32 := Scalar.muli v2 c32_i32_387
  let c0_i32_779 : BitVec 32 := 0#32
  ![v433.toNat, 0]
def k2_dev83 : Nat :=
  let c0_i32_778 : BitVec 32 := 0#32
  let c18_i32_776 : BitVec 32 := 18#32
  let c1_i32_777 : BitVec 32 := 1#32
  let v790 : BitVec 32 := Scalar.muli c18_i32_776 c1_i32_777
  let v791 : BitVec 32 := Scalar.addi c0_i32_778 v790
  v791.toNat
def k2_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_393 : BitVec 32 := 19#32
  let v439 : BitVec 1 := Scalar.cmpi .ne v2 c19_i32_393
  let v440 : BitVec 32 := Scalar.extui v439
  let c0_i32_395 : BitVec 32 := 0#32
  let v441 : BitVec 1 := Scalar.cmpi .ne v440 c0_i32_395
  v441

def k2_off104 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off105 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_392 : BitVec 32 := 32#32
  let v438 : BitVec 32 := Scalar.muli v2 c32_i32_392
  let c0_i32_779 : BitVec 32 := 0#32
  ![v438.toNat, 0]
def k2_dev84 : Nat :=
  let c0_i32_778 : BitVec 32 := 0#32
  let c19_i32_776 : BitVec 32 := 19#32
  let c1_i32_777 : BitVec 32 := 1#32
  let v790 : BitVec 32 := Scalar.muli c19_i32_776 c1_i32_777
  let v791 : BitVec 32 := Scalar.addi c0_i32_778 v790
  v791.toNat
def k2_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_398 : BitVec 32 := 20#32
  let v444 : BitVec 1 := Scalar.cmpi .ne v2 c20_i32_398
  let v445 : BitVec 32 := Scalar.extui v444
  let c0_i32_400 : BitVec 32 := 0#32
  let v446 : BitVec 1 := Scalar.cmpi .ne v445 c0_i32_400
  v446

def k2_off106 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off107 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_397 : BitVec 32 := 32#32
  let v443 : BitVec 32 := Scalar.muli v2 c32_i32_397
  let c0_i32_779 : BitVec 32 := 0#32
  ![v443.toNat, 0]
def k2_dev85 : Nat :=
  let c0_i32_778 : BitVec 32 := 0#32
  let c20_i32_776 : BitVec 32 := 20#32
  let c1_i32_777 : BitVec 32 := 1#32
  let v790 : BitVec 32 := Scalar.muli c20_i32_776 c1_i32_777
  let v791 : BitVec 32 := Scalar.addi c0_i32_778 v790
  v791.toNat
def k2_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_403 : BitVec 32 := 21#32
  let v449 : BitVec 1 := Scalar.cmpi .ne v2 c21_i32_403
  let v450 : BitVec 32 := Scalar.extui v449
  let c0_i32_405 : BitVec 32 := 0#32
  let v451 : BitVec 1 := Scalar.cmpi .ne v450 c0_i32_405
  v451

def k2_off108 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off109 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_402 : BitVec 32 := 32#32
  let v448 : BitVec 32 := Scalar.muli v2 c32_i32_402
  let c0_i32_779 : BitVec 32 := 0#32
  ![v448.toNat, 0]
def k2_dev86 : Nat :=
  let c0_i32_778 : BitVec 32 := 0#32
  let c21_i32_776 : BitVec 32 := 21#32
  let c1_i32_777 : BitVec 32 := 1#32
  let v790 : BitVec 32 := Scalar.muli c21_i32_776 c1_i32_777
  let v791 : BitVec 32 := Scalar.addi c0_i32_778 v790
  v791.toNat
def k2_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_408 : BitVec 32 := 22#32
  let v454 : BitVec 1 := Scalar.cmpi .ne v2 c22_i32_408
  let v455 : BitVec 32 := Scalar.extui v454
  let c0_i32_410 : BitVec 32 := 0#32
  let v456 : BitVec 1 := Scalar.cmpi .ne v455 c0_i32_410
  v456

def k2_off110 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off111 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_407 : BitVec 32 := 32#32
  let v453 : BitVec 32 := Scalar.muli v2 c32_i32_407
  let c0_i32_779 : BitVec 32 := 0#32
  ![v453.toNat, 0]
def k2_dev87 : Nat :=
  let c0_i32_778 : BitVec 32 := 0#32
  let c22_i32_776 : BitVec 32 := 22#32
  let c1_i32_777 : BitVec 32 := 1#32
  let v790 : BitVec 32 := Scalar.muli c22_i32_776 c1_i32_777
  let v791 : BitVec 32 := Scalar.addi c0_i32_778 v790
  v791.toNat
def k2_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_413 : BitVec 32 := 23#32
  let v459 : BitVec 1 := Scalar.cmpi .ne v2 c23_i32_413
  let v460 : BitVec 32 := Scalar.extui v459
  let c0_i32_415 : BitVec 32 := 0#32
  let v461 : BitVec 1 := Scalar.cmpi .ne v460 c0_i32_415
  v461

def k2_off112 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off113 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_412 : BitVec 32 := 32#32
  let v458 : BitVec 32 := Scalar.muli v2 c32_i32_412
  let c0_i32_779 : BitVec 32 := 0#32
  ![v458.toNat, 0]
def k2_dev88 : Nat :=
  let c0_i32_778 : BitVec 32 := 0#32
  let c23_i32_776 : BitVec 32 := 23#32
  let c1_i32_777 : BitVec 32 := 1#32
  let v790 : BitVec 32 := Scalar.muli c23_i32_776 c1_i32_777
  let v791 : BitVec 32 := Scalar.addi c0_i32_778 v790
  v791.toNat
def k2_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_418 : BitVec 32 := 24#32
  let v464 : BitVec 1 := Scalar.cmpi .ne v2 c24_i32_418
  let v465 : BitVec 32 := Scalar.extui v464
  let c0_i32_420 : BitVec 32 := 0#32
  let v466 : BitVec 1 := Scalar.cmpi .ne v465 c0_i32_420
  v466

def k2_off114 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off115 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_417 : BitVec 32 := 32#32
  let v463 : BitVec 32 := Scalar.muli v2 c32_i32_417
  let c0_i32_779 : BitVec 32 := 0#32
  ![v463.toNat, 0]
def k2_dev89 : Nat :=
  let c0_i32_778 : BitVec 32 := 0#32
  let c24_i32_776 : BitVec 32 := 24#32
  let c1_i32_777 : BitVec 32 := 1#32
  let v790 : BitVec 32 := Scalar.muli c24_i32_776 c1_i32_777
  let v791 : BitVec 32 := Scalar.addi c0_i32_778 v790
  v791.toNat
def k2_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_423 : BitVec 32 := 25#32
  let v469 : BitVec 1 := Scalar.cmpi .ne v2 c25_i32_423
  let v470 : BitVec 32 := Scalar.extui v469
  let c0_i32_425 : BitVec 32 := 0#32
  let v471 : BitVec 1 := Scalar.cmpi .ne v470 c0_i32_425
  v471

def k2_off116 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off117 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_422 : BitVec 32 := 32#32
  let v468 : BitVec 32 := Scalar.muli v2 c32_i32_422
  let c0_i32_779 : BitVec 32 := 0#32
  ![v468.toNat, 0]
def k2_dev90 : Nat :=
  let c0_i32_778 : BitVec 32 := 0#32
  let c25_i32_776 : BitVec 32 := 25#32
  let c1_i32_777 : BitVec 32 := 1#32
  let v790 : BitVec 32 := Scalar.muli c25_i32_776 c1_i32_777
  let v791 : BitVec 32 := Scalar.addi c0_i32_778 v790
  v791.toNat
def k2_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_428 : BitVec 32 := 26#32
  let v474 : BitVec 1 := Scalar.cmpi .ne v2 c26_i32_428
  let v475 : BitVec 32 := Scalar.extui v474
  let c0_i32_430 : BitVec 32 := 0#32
  let v476 : BitVec 1 := Scalar.cmpi .ne v475 c0_i32_430
  v476

def k2_off118 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off119 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_427 : BitVec 32 := 32#32
  let v473 : BitVec 32 := Scalar.muli v2 c32_i32_427
  let c0_i32_779 : BitVec 32 := 0#32
  ![v473.toNat, 0]
def k2_dev91 : Nat :=
  let c0_i32_778 : BitVec 32 := 0#32
  let c26_i32_776 : BitVec 32 := 26#32
  let c1_i32_777 : BitVec 32 := 1#32
  let v790 : BitVec 32 := Scalar.muli c26_i32_776 c1_i32_777
  let v791 : BitVec 32 := Scalar.addi c0_i32_778 v790
  v791.toNat
def k2_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_433 : BitVec 32 := 27#32
  let v479 : BitVec 1 := Scalar.cmpi .ne v2 c27_i32_433
  let v480 : BitVec 32 := Scalar.extui v479
  let c0_i32_435 : BitVec 32 := 0#32
  let v481 : BitVec 1 := Scalar.cmpi .ne v480 c0_i32_435
  v481

def k2_off120 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off121 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_432 : BitVec 32 := 32#32
  let v478 : BitVec 32 := Scalar.muli v2 c32_i32_432
  let c0_i32_779 : BitVec 32 := 0#32
  ![v478.toNat, 0]
def k2_dev92 : Nat :=
  let c0_i32_778 : BitVec 32 := 0#32
  let c27_i32_776 : BitVec 32 := 27#32
  let c1_i32_777 : BitVec 32 := 1#32
  let v790 : BitVec 32 := Scalar.muli c27_i32_776 c1_i32_777
  let v791 : BitVec 32 := Scalar.addi c0_i32_778 v790
  v791.toNat
def k2_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_438 : BitVec 32 := 28#32
  let v484 : BitVec 1 := Scalar.cmpi .ne v2 c28_i32_438
  let v485 : BitVec 32 := Scalar.extui v484
  let c0_i32_440 : BitVec 32 := 0#32
  let v486 : BitVec 1 := Scalar.cmpi .ne v485 c0_i32_440
  v486

def k2_off122 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off123 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_437 : BitVec 32 := 32#32
  let v483 : BitVec 32 := Scalar.muli v2 c32_i32_437
  let c0_i32_779 : BitVec 32 := 0#32
  ![v483.toNat, 0]
def k2_dev93 : Nat :=
  let c0_i32_778 : BitVec 32 := 0#32
  let c28_i32_776 : BitVec 32 := 28#32
  let c1_i32_777 : BitVec 32 := 1#32
  let v790 : BitVec 32 := Scalar.muli c28_i32_776 c1_i32_777
  let v791 : BitVec 32 := Scalar.addi c0_i32_778 v790
  v791.toNat
def k2_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_443 : BitVec 32 := 29#32
  let v489 : BitVec 1 := Scalar.cmpi .ne v2 c29_i32_443
  let v490 : BitVec 32 := Scalar.extui v489
  let c0_i32_445 : BitVec 32 := 0#32
  let v491 : BitVec 1 := Scalar.cmpi .ne v490 c0_i32_445
  v491

def k2_off124 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off125 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_442 : BitVec 32 := 32#32
  let v488 : BitVec 32 := Scalar.muli v2 c32_i32_442
  let c0_i32_779 : BitVec 32 := 0#32
  ![v488.toNat, 0]
def k2_dev94 : Nat :=
  let c0_i32_778 : BitVec 32 := 0#32
  let c29_i32_776 : BitVec 32 := 29#32
  let c1_i32_777 : BitVec 32 := 1#32
  let v790 : BitVec 32 := Scalar.muli c29_i32_776 c1_i32_777
  let v791 : BitVec 32 := Scalar.addi c0_i32_778 v790
  v791.toNat
def k2_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_448 : BitVec 32 := 30#32
  let v494 : BitVec 1 := Scalar.cmpi .ne v2 c30_i32_448
  let v495 : BitVec 32 := Scalar.extui v494
  let c0_i32_450 : BitVec 32 := 0#32
  let v496 : BitVec 1 := Scalar.cmpi .ne v495 c0_i32_450
  v496

def k2_off126 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off127 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_447 : BitVec 32 := 32#32
  let v493 : BitVec 32 := Scalar.muli v2 c32_i32_447
  let c0_i32_779 : BitVec 32 := 0#32
  ![v493.toNat, 0]
def k2_dev95 : Nat :=
  let c0_i32_778 : BitVec 32 := 0#32
  let c30_i32_776 : BitVec 32 := 30#32
  let c1_i32_777 : BitVec 32 := 1#32
  let v790 : BitVec 32 := Scalar.muli c30_i32_776 c1_i32_777
  let v791 : BitVec 32 := Scalar.addi c0_i32_778 v790
  v791.toNat
def k2_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_453 : BitVec 32 := 31#32
  let v499 : BitVec 1 := Scalar.cmpi .ne v2 c31_i32_453
  let v500 : BitVec 32 := Scalar.extui v499
  let c0_i32_455 : BitVec 32 := 0#32
  let v501 : BitVec 1 := Scalar.cmpi .ne v500 c0_i32_455
  v501

def k2_off128 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k2_off129 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_452 : BitVec 32 := 32#32
  let v498 : BitVec 32 := Scalar.muli v2 c32_i32_452
  let c0_i32_779 : BitVec 32 := 0#32
  ![v498.toNat, 0]
def k2_dev96 : Nat :=
  let c0_i32_778 : BitVec 32 := 0#32
  let c31_i32_776 : BitVec 32 := 31#32
  let c1_i32_777 : BitVec 32 := 1#32
  let v790 : BitVec 32 := Scalar.muli c31_i32_776 c1_i32_777
  let v791 : BitVec 32 := Scalar.addi c0_i32_778 v790
  v791.toNat
def k2_cond161 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_584 : BitVec 32 := 0#32
  let v598 : BitVec 1 := Scalar.cmpi .ne v2 c0_i32_584
  let v599 : BitVec 32 := Scalar.extui v598
  let c0_i32_586 : BitVec 32 := 0#32
  let v600 : BitVec 1 := Scalar.cmpi .ne v599 c0_i32_586
  v600

def k2_off130 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_34 : BitVec 32 := 32#32
  let v100 : BitVec 32 := Scalar.muli v2 c32_i32_34
  let c0_i32_780 : BitVec 32 := 0#32
  ![v100.toNat, 0]
def k2_cond162 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_587 : BitVec 32 := 0#32
  let v601 : BitVec 1 := Scalar.cmpi .ne v2 c0_i32_587
  let v602 : BitVec 32 := Scalar.extui v601
  let c0_i32_589 : BitVec 32 := 0#32
  let v603 : BitVec 1 := Scalar.cmpi .ne v602 c0_i32_589
  v603

def k2_off131 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_296 : BitVec 32 := 32#32
  let v342 : BitVec 32 := Scalar.muli v2 c32_i32_296
  let c0_i32_778 : BitVec 32 := 0#32
  ![v342.toNat, 0]
def k2_cond163 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_590 : BitVec 32 := 1#32
  let v604 : BitVec 1 := Scalar.cmpi .ne v2 c1_i32_590
  let v605 : BitVec 32 := Scalar.extui v604
  let c0_i32_592 : BitVec 32 := 0#32
  let v606 : BitVec 1 := Scalar.cmpi .ne v605 c0_i32_592
  v606

def k2_off132 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_38 : BitVec 32 := 32#32
  let v104 : BitVec 32 := Scalar.muli v2 c32_i32_38
  let c0_i32_780 : BitVec 32 := 0#32
  ![v104.toNat, 0]
def k2_cond164 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_593 : BitVec 32 := 1#32
  let v607 : BitVec 1 := Scalar.cmpi .ne v2 c1_i32_593
  let v608 : BitVec 32 := Scalar.extui v607
  let c0_i32_595 : BitVec 32 := 0#32
  let v609 : BitVec 1 := Scalar.cmpi .ne v608 c0_i32_595
  v609

def k2_off133 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_301 : BitVec 32 := 32#32
  let v347 : BitVec 32 := Scalar.muli v2 c32_i32_301
  let c0_i32_778 : BitVec 32 := 0#32
  ![v347.toNat, 0]
def k2_cond165 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_596 : BitVec 32 := 2#32
  let v610 : BitVec 1 := Scalar.cmpi .ne v2 c2_i32_596
  let v611 : BitVec 32 := Scalar.extui v610
  let c0_i32_598 : BitVec 32 := 0#32
  let v612 : BitVec 1 := Scalar.cmpi .ne v611 c0_i32_598
  v612

def k2_off134 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_42 : BitVec 32 := 32#32
  let v108 : BitVec 32 := Scalar.muli v2 c32_i32_42
  let c0_i32_779 : BitVec 32 := 0#32
  ![v108.toNat, 0]
def k2_cond166 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_599 : BitVec 32 := 2#32
  let v613 : BitVec 1 := Scalar.cmpi .ne v2 c2_i32_599
  let v614 : BitVec 32 := Scalar.extui v613
  let c0_i32_601 : BitVec 32 := 0#32
  let v615 : BitVec 1 := Scalar.cmpi .ne v614 c0_i32_601
  v615

def k2_off135 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_306 : BitVec 32 := 32#32
  let v352 : BitVec 32 := Scalar.muli v2 c32_i32_306
  let c0_i32_778 : BitVec 32 := 0#32
  ![v352.toNat, 0]
def k2_cond167 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_602 : BitVec 32 := 3#32
  let v616 : BitVec 1 := Scalar.cmpi .ne v2 c3_i32_602
  let v617 : BitVec 32 := Scalar.extui v616
  let c0_i32_604 : BitVec 32 := 0#32
  let v618 : BitVec 1 := Scalar.cmpi .ne v617 c0_i32_604
  v618

def k2_off136 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_46 : BitVec 32 := 32#32
  let v112 : BitVec 32 := Scalar.muli v2 c32_i32_46
  let c0_i32_779 : BitVec 32 := 0#32
  ![v112.toNat, 0]
def k2_cond168 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_605 : BitVec 32 := 3#32
  let v619 : BitVec 1 := Scalar.cmpi .ne v2 c3_i32_605
  let v620 : BitVec 32 := Scalar.extui v619
  let c0_i32_607 : BitVec 32 := 0#32
  let v621 : BitVec 1 := Scalar.cmpi .ne v620 c0_i32_607
  v621

def k2_off137 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_311 : BitVec 32 := 32#32
  let v357 : BitVec 32 := Scalar.muli v2 c32_i32_311
  let c0_i32_778 : BitVec 32 := 0#32
  ![v357.toNat, 0]
def k2_cond169 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_608 : BitVec 32 := 4#32
  let v622 : BitVec 1 := Scalar.cmpi .ne v2 c4_i32_608
  let v623 : BitVec 32 := Scalar.extui v622
  let c0_i32_610 : BitVec 32 := 0#32
  let v624 : BitVec 1 := Scalar.cmpi .ne v623 c0_i32_610
  v624

def k2_off138 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_50 : BitVec 32 := 32#32
  let v116 : BitVec 32 := Scalar.muli v2 c32_i32_50
  let c0_i32_779 : BitVec 32 := 0#32
  ![v116.toNat, 0]
def k2_cond170 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_611 : BitVec 32 := 4#32
  let v625 : BitVec 1 := Scalar.cmpi .ne v2 c4_i32_611
  let v626 : BitVec 32 := Scalar.extui v625
  let c0_i32_613 : BitVec 32 := 0#32
  let v627 : BitVec 1 := Scalar.cmpi .ne v626 c0_i32_613
  v627

def k2_off139 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_316 : BitVec 32 := 32#32
  let v362 : BitVec 32 := Scalar.muli v2 c32_i32_316
  let c0_i32_778 : BitVec 32 := 0#32
  ![v362.toNat, 0]
def k2_cond171 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_614 : BitVec 32 := 5#32
  let v628 : BitVec 1 := Scalar.cmpi .ne v2 c5_i32_614
  let v629 : BitVec 32 := Scalar.extui v628
  let c0_i32_616 : BitVec 32 := 0#32
  let v630 : BitVec 1 := Scalar.cmpi .ne v629 c0_i32_616
  v630

def k2_off140 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_54 : BitVec 32 := 32#32
  let v120 : BitVec 32 := Scalar.muli v2 c32_i32_54
  let c0_i32_779 : BitVec 32 := 0#32
  ![v120.toNat, 0]
def k2_cond172 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_617 : BitVec 32 := 5#32
  let v631 : BitVec 1 := Scalar.cmpi .ne v2 c5_i32_617
  let v632 : BitVec 32 := Scalar.extui v631
  let c0_i32_619 : BitVec 32 := 0#32
  let v633 : BitVec 1 := Scalar.cmpi .ne v632 c0_i32_619
  v633

def k2_off141 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_321 : BitVec 32 := 32#32
  let v367 : BitVec 32 := Scalar.muli v2 c32_i32_321
  let c0_i32_778 : BitVec 32 := 0#32
  ![v367.toNat, 0]
def k2_cond173 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_620 : BitVec 32 := 6#32
  let v634 : BitVec 1 := Scalar.cmpi .ne v2 c6_i32_620
  let v635 : BitVec 32 := Scalar.extui v634
  let c0_i32_622 : BitVec 32 := 0#32
  let v636 : BitVec 1 := Scalar.cmpi .ne v635 c0_i32_622
  v636

def k2_off142 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_58 : BitVec 32 := 32#32
  let v124 : BitVec 32 := Scalar.muli v2 c32_i32_58
  let c0_i32_779 : BitVec 32 := 0#32
  ![v124.toNat, 0]
def k2_cond174 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_623 : BitVec 32 := 6#32
  let v637 : BitVec 1 := Scalar.cmpi .ne v2 c6_i32_623
  let v638 : BitVec 32 := Scalar.extui v637
  let c0_i32_625 : BitVec 32 := 0#32
  let v639 : BitVec 1 := Scalar.cmpi .ne v638 c0_i32_625
  v639

def k2_off143 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_326 : BitVec 32 := 32#32
  let v372 : BitVec 32 := Scalar.muli v2 c32_i32_326
  let c0_i32_778 : BitVec 32 := 0#32
  ![v372.toNat, 0]
def k2_cond175 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_626 : BitVec 32 := 7#32
  let v640 : BitVec 1 := Scalar.cmpi .ne v2 c7_i32_626
  let v641 : BitVec 32 := Scalar.extui v640
  let c0_i32_628 : BitVec 32 := 0#32
  let v642 : BitVec 1 := Scalar.cmpi .ne v641 c0_i32_628
  v642

def k2_off144 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_62 : BitVec 32 := 32#32
  let v128 : BitVec 32 := Scalar.muli v2 c32_i32_62
  let c0_i32_779 : BitVec 32 := 0#32
  ![v128.toNat, 0]
def k2_cond176 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_629 : BitVec 32 := 7#32
  let v643 : BitVec 1 := Scalar.cmpi .ne v2 c7_i32_629
  let v644 : BitVec 32 := Scalar.extui v643
  let c0_i32_631 : BitVec 32 := 0#32
  let v645 : BitVec 1 := Scalar.cmpi .ne v644 c0_i32_631
  v645

def k2_off145 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_331 : BitVec 32 := 32#32
  let v377 : BitVec 32 := Scalar.muli v2 c32_i32_331
  let c0_i32_778 : BitVec 32 := 0#32
  ![v377.toNat, 0]
def k2_cond177 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_632 : BitVec 32 := 8#32
  let v646 : BitVec 1 := Scalar.cmpi .ne v2 c8_i32_632
  let v647 : BitVec 32 := Scalar.extui v646
  let c0_i32_634 : BitVec 32 := 0#32
  let v648 : BitVec 1 := Scalar.cmpi .ne v647 c0_i32_634
  v648

def k2_off146 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_66 : BitVec 32 := 32#32
  let v132 : BitVec 32 := Scalar.muli v2 c32_i32_66
  let c0_i32_779 : BitVec 32 := 0#32
  ![v132.toNat, 0]
def k2_cond178 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_635 : BitVec 32 := 8#32
  let v649 : BitVec 1 := Scalar.cmpi .ne v2 c8_i32_635
  let v650 : BitVec 32 := Scalar.extui v649
  let c0_i32_637 : BitVec 32 := 0#32
  let v651 : BitVec 1 := Scalar.cmpi .ne v650 c0_i32_637
  v651

def k2_off147 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_336 : BitVec 32 := 32#32
  let v382 : BitVec 32 := Scalar.muli v2 c32_i32_336
  let c0_i32_778 : BitVec 32 := 0#32
  ![v382.toNat, 0]
def k2_cond179 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_638 : BitVec 32 := 9#32
  let v652 : BitVec 1 := Scalar.cmpi .ne v2 c9_i32_638
  let v653 : BitVec 32 := Scalar.extui v652
  let c0_i32_640 : BitVec 32 := 0#32
  let v654 : BitVec 1 := Scalar.cmpi .ne v653 c0_i32_640
  v654

def k2_off148 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_70 : BitVec 32 := 32#32
  let v136 : BitVec 32 := Scalar.muli v2 c32_i32_70
  let c0_i32_779 : BitVec 32 := 0#32
  ![v136.toNat, 0]
def k2_cond180 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_641 : BitVec 32 := 9#32
  let v655 : BitVec 1 := Scalar.cmpi .ne v2 c9_i32_641
  let v656 : BitVec 32 := Scalar.extui v655
  let c0_i32_643 : BitVec 32 := 0#32
  let v657 : BitVec 1 := Scalar.cmpi .ne v656 c0_i32_643
  v657

def k2_off149 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_341 : BitVec 32 := 32#32
  let v387 : BitVec 32 := Scalar.muli v2 c32_i32_341
  let c0_i32_778 : BitVec 32 := 0#32
  ![v387.toNat, 0]
def k2_cond181 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_644 : BitVec 32 := 10#32
  let v658 : BitVec 1 := Scalar.cmpi .ne v2 c10_i32_644
  let v659 : BitVec 32 := Scalar.extui v658
  let c0_i32_646 : BitVec 32 := 0#32
  let v660 : BitVec 1 := Scalar.cmpi .ne v659 c0_i32_646
  v660

def k2_off150 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_74 : BitVec 32 := 32#32
  let v140 : BitVec 32 := Scalar.muli v2 c32_i32_74
  let c0_i32_779 : BitVec 32 := 0#32
  ![v140.toNat, 0]
def k2_cond182 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_647 : BitVec 32 := 10#32
  let v661 : BitVec 1 := Scalar.cmpi .ne v2 c10_i32_647
  let v662 : BitVec 32 := Scalar.extui v661
  let c0_i32_649 : BitVec 32 := 0#32
  let v663 : BitVec 1 := Scalar.cmpi .ne v662 c0_i32_649
  v663

def k2_off151 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_346 : BitVec 32 := 32#32
  let v392 : BitVec 32 := Scalar.muli v2 c32_i32_346
  let c0_i32_778 : BitVec 32 := 0#32
  ![v392.toNat, 0]
def k2_cond183 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_650 : BitVec 32 := 11#32
  let v664 : BitVec 1 := Scalar.cmpi .ne v2 c11_i32_650
  let v665 : BitVec 32 := Scalar.extui v664
  let c0_i32_652 : BitVec 32 := 0#32
  let v666 : BitVec 1 := Scalar.cmpi .ne v665 c0_i32_652
  v666

def k2_off152 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_78 : BitVec 32 := 32#32
  let v144 : BitVec 32 := Scalar.muli v2 c32_i32_78
  let c0_i32_779 : BitVec 32 := 0#32
  ![v144.toNat, 0]
def k2_cond184 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_653 : BitVec 32 := 11#32
  let v667 : BitVec 1 := Scalar.cmpi .ne v2 c11_i32_653
  let v668 : BitVec 32 := Scalar.extui v667
  let c0_i32_655 : BitVec 32 := 0#32
  let v669 : BitVec 1 := Scalar.cmpi .ne v668 c0_i32_655
  v669

def k2_off153 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_351 : BitVec 32 := 32#32
  let v397 : BitVec 32 := Scalar.muli v2 c32_i32_351
  let c0_i32_778 : BitVec 32 := 0#32
  ![v397.toNat, 0]
def k2_cond185 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_656 : BitVec 32 := 12#32
  let v670 : BitVec 1 := Scalar.cmpi .ne v2 c12_i32_656
  let v671 : BitVec 32 := Scalar.extui v670
  let c0_i32_658 : BitVec 32 := 0#32
  let v672 : BitVec 1 := Scalar.cmpi .ne v671 c0_i32_658
  v672

def k2_off154 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_82 : BitVec 32 := 32#32
  let v148 : BitVec 32 := Scalar.muli v2 c32_i32_82
  let c0_i32_779 : BitVec 32 := 0#32
  ![v148.toNat, 0]
def k2_cond186 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_659 : BitVec 32 := 12#32
  let v673 : BitVec 1 := Scalar.cmpi .ne v2 c12_i32_659
  let v674 : BitVec 32 := Scalar.extui v673
  let c0_i32_661 : BitVec 32 := 0#32
  let v675 : BitVec 1 := Scalar.cmpi .ne v674 c0_i32_661
  v675

def k2_off155 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_356 : BitVec 32 := 32#32
  let v402 : BitVec 32 := Scalar.muli v2 c32_i32_356
  let c0_i32_778 : BitVec 32 := 0#32
  ![v402.toNat, 0]
def k2_cond187 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_662 : BitVec 32 := 13#32
  let v676 : BitVec 1 := Scalar.cmpi .ne v2 c13_i32_662
  let v677 : BitVec 32 := Scalar.extui v676
  let c0_i32_664 : BitVec 32 := 0#32
  let v678 : BitVec 1 := Scalar.cmpi .ne v677 c0_i32_664
  v678

def k2_off156 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_86 : BitVec 32 := 32#32
  let v152 : BitVec 32 := Scalar.muli v2 c32_i32_86
  let c0_i32_779 : BitVec 32 := 0#32
  ![v152.toNat, 0]
def k2_cond188 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_665 : BitVec 32 := 13#32
  let v679 : BitVec 1 := Scalar.cmpi .ne v2 c13_i32_665
  let v680 : BitVec 32 := Scalar.extui v679
  let c0_i32_667 : BitVec 32 := 0#32
  let v681 : BitVec 1 := Scalar.cmpi .ne v680 c0_i32_667
  v681

def k2_off157 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_361 : BitVec 32 := 32#32
  let v407 : BitVec 32 := Scalar.muli v2 c32_i32_361
  let c0_i32_778 : BitVec 32 := 0#32
  ![v407.toNat, 0]
def k2_cond189 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_668 : BitVec 32 := 14#32
  let v682 : BitVec 1 := Scalar.cmpi .ne v2 c14_i32_668
  let v683 : BitVec 32 := Scalar.extui v682
  let c0_i32_670 : BitVec 32 := 0#32
  let v684 : BitVec 1 := Scalar.cmpi .ne v683 c0_i32_670
  v684

def k2_off158 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_90 : BitVec 32 := 32#32
  let v156 : BitVec 32 := Scalar.muli v2 c32_i32_90
  let c0_i32_779 : BitVec 32 := 0#32
  ![v156.toNat, 0]
def k2_cond190 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_671 : BitVec 32 := 14#32
  let v685 : BitVec 1 := Scalar.cmpi .ne v2 c14_i32_671
  let v686 : BitVec 32 := Scalar.extui v685
  let c0_i32_673 : BitVec 32 := 0#32
  let v687 : BitVec 1 := Scalar.cmpi .ne v686 c0_i32_673
  v687

def k2_off159 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_366 : BitVec 32 := 32#32
  let v412 : BitVec 32 := Scalar.muli v2 c32_i32_366
  let c0_i32_778 : BitVec 32 := 0#32
  ![v412.toNat, 0]
def k2_cond191 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_674 : BitVec 32 := 15#32
  let v688 : BitVec 1 := Scalar.cmpi .ne v2 c15_i32_674
  let v689 : BitVec 32 := Scalar.extui v688
  let c0_i32_676 : BitVec 32 := 0#32
  let v690 : BitVec 1 := Scalar.cmpi .ne v689 c0_i32_676
  v690

def k2_off160 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_94 : BitVec 32 := 32#32
  let v160 : BitVec 32 := Scalar.muli v2 c32_i32_94
  let c0_i32_779 : BitVec 32 := 0#32
  ![v160.toNat, 0]
def k2_cond192 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_677 : BitVec 32 := 15#32
  let v691 : BitVec 1 := Scalar.cmpi .ne v2 c15_i32_677
  let v692 : BitVec 32 := Scalar.extui v691
  let c0_i32_679 : BitVec 32 := 0#32
  let v693 : BitVec 1 := Scalar.cmpi .ne v692 c0_i32_679
  v693

def k2_off161 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_371 : BitVec 32 := 32#32
  let v417 : BitVec 32 := Scalar.muli v2 c32_i32_371
  let c0_i32_778 : BitVec 32 := 0#32
  ![v417.toNat, 0]
def k2_cond193 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_680 : BitVec 32 := 16#32
  let v694 : BitVec 1 := Scalar.cmpi .ne v2 c16_i32_680
  let v695 : BitVec 32 := Scalar.extui v694
  let c0_i32_682 : BitVec 32 := 0#32
  let v696 : BitVec 1 := Scalar.cmpi .ne v695 c0_i32_682
  v696

def k2_off162 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_98 : BitVec 32 := 32#32
  let v164 : BitVec 32 := Scalar.muli v2 c32_i32_98
  let c0_i32_779 : BitVec 32 := 0#32
  ![v164.toNat, 0]
def k2_cond194 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_683 : BitVec 32 := 16#32
  let v697 : BitVec 1 := Scalar.cmpi .ne v2 c16_i32_683
  let v698 : BitVec 32 := Scalar.extui v697
  let c0_i32_685 : BitVec 32 := 0#32
  let v699 : BitVec 1 := Scalar.cmpi .ne v698 c0_i32_685
  v699

def k2_off163 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_376 : BitVec 32 := 32#32
  let v422 : BitVec 32 := Scalar.muli v2 c32_i32_376
  let c0_i32_778 : BitVec 32 := 0#32
  ![v422.toNat, 0]
def k2_cond195 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_686 : BitVec 32 := 17#32
  let v700 : BitVec 1 := Scalar.cmpi .ne v2 c17_i32_686
  let v701 : BitVec 32 := Scalar.extui v700
  let c0_i32_688 : BitVec 32 := 0#32
  let v702 : BitVec 1 := Scalar.cmpi .ne v701 c0_i32_688
  v702

def k2_off164 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_102 : BitVec 32 := 32#32
  let v168 : BitVec 32 := Scalar.muli v2 c32_i32_102
  let c0_i32_779 : BitVec 32 := 0#32
  ![v168.toNat, 0]
def k2_cond196 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_689 : BitVec 32 := 17#32
  let v703 : BitVec 1 := Scalar.cmpi .ne v2 c17_i32_689
  let v704 : BitVec 32 := Scalar.extui v703
  let c0_i32_691 : BitVec 32 := 0#32
  let v705 : BitVec 1 := Scalar.cmpi .ne v704 c0_i32_691
  v705

def k2_off165 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_381 : BitVec 32 := 32#32
  let v427 : BitVec 32 := Scalar.muli v2 c32_i32_381
  let c0_i32_778 : BitVec 32 := 0#32
  ![v427.toNat, 0]
def k2_cond197 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_692 : BitVec 32 := 18#32
  let v706 : BitVec 1 := Scalar.cmpi .ne v2 c18_i32_692
  let v707 : BitVec 32 := Scalar.extui v706
  let c0_i32_694 : BitVec 32 := 0#32
  let v708 : BitVec 1 := Scalar.cmpi .ne v707 c0_i32_694
  v708

def k2_off166 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_106 : BitVec 32 := 32#32
  let v172 : BitVec 32 := Scalar.muli v2 c32_i32_106
  let c0_i32_779 : BitVec 32 := 0#32
  ![v172.toNat, 0]
def k2_cond198 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_695 : BitVec 32 := 18#32
  let v709 : BitVec 1 := Scalar.cmpi .ne v2 c18_i32_695
  let v710 : BitVec 32 := Scalar.extui v709
  let c0_i32_697 : BitVec 32 := 0#32
  let v711 : BitVec 1 := Scalar.cmpi .ne v710 c0_i32_697
  v711

def k2_off167 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_386 : BitVec 32 := 32#32
  let v432 : BitVec 32 := Scalar.muli v2 c32_i32_386
  let c0_i32_778 : BitVec 32 := 0#32
  ![v432.toNat, 0]
def k2_cond199 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_698 : BitVec 32 := 19#32
  let v712 : BitVec 1 := Scalar.cmpi .ne v2 c19_i32_698
  let v713 : BitVec 32 := Scalar.extui v712
  let c0_i32_700 : BitVec 32 := 0#32
  let v714 : BitVec 1 := Scalar.cmpi .ne v713 c0_i32_700
  v714

def k2_off168 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_110 : BitVec 32 := 32#32
  let v176 : BitVec 32 := Scalar.muli v2 c32_i32_110
  let c0_i32_779 : BitVec 32 := 0#32
  ![v176.toNat, 0]
def k2_cond200 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_701 : BitVec 32 := 19#32
  let v715 : BitVec 1 := Scalar.cmpi .ne v2 c19_i32_701
  let v716 : BitVec 32 := Scalar.extui v715
  let c0_i32_703 : BitVec 32 := 0#32
  let v717 : BitVec 1 := Scalar.cmpi .ne v716 c0_i32_703
  v717

def k2_off169 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_391 : BitVec 32 := 32#32
  let v437 : BitVec 32 := Scalar.muli v2 c32_i32_391
  let c0_i32_778 : BitVec 32 := 0#32
  ![v437.toNat, 0]
def k2_cond201 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_704 : BitVec 32 := 20#32
  let v718 : BitVec 1 := Scalar.cmpi .ne v2 c20_i32_704
  let v719 : BitVec 32 := Scalar.extui v718
  let c0_i32_706 : BitVec 32 := 0#32
  let v720 : BitVec 1 := Scalar.cmpi .ne v719 c0_i32_706
  v720

def k2_off170 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_114 : BitVec 32 := 32#32
  let v180 : BitVec 32 := Scalar.muli v2 c32_i32_114
  let c0_i32_779 : BitVec 32 := 0#32
  ![v180.toNat, 0]
def k2_cond202 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_707 : BitVec 32 := 20#32
  let v721 : BitVec 1 := Scalar.cmpi .ne v2 c20_i32_707
  let v722 : BitVec 32 := Scalar.extui v721
  let c0_i32_709 : BitVec 32 := 0#32
  let v723 : BitVec 1 := Scalar.cmpi .ne v722 c0_i32_709
  v723

def k2_off171 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_396 : BitVec 32 := 32#32
  let v442 : BitVec 32 := Scalar.muli v2 c32_i32_396
  let c0_i32_778 : BitVec 32 := 0#32
  ![v442.toNat, 0]
def k2_cond203 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_710 : BitVec 32 := 21#32
  let v724 : BitVec 1 := Scalar.cmpi .ne v2 c21_i32_710
  let v725 : BitVec 32 := Scalar.extui v724
  let c0_i32_712 : BitVec 32 := 0#32
  let v726 : BitVec 1 := Scalar.cmpi .ne v725 c0_i32_712
  v726

def k2_off172 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_118 : BitVec 32 := 32#32
  let v184 : BitVec 32 := Scalar.muli v2 c32_i32_118
  let c0_i32_779 : BitVec 32 := 0#32
  ![v184.toNat, 0]
def k2_cond204 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_713 : BitVec 32 := 21#32
  let v727 : BitVec 1 := Scalar.cmpi .ne v2 c21_i32_713
  let v728 : BitVec 32 := Scalar.extui v727
  let c0_i32_715 : BitVec 32 := 0#32
  let v729 : BitVec 1 := Scalar.cmpi .ne v728 c0_i32_715
  v729

def k2_off173 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_401 : BitVec 32 := 32#32
  let v447 : BitVec 32 := Scalar.muli v2 c32_i32_401
  let c0_i32_778 : BitVec 32 := 0#32
  ![v447.toNat, 0]
def k2_cond205 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_716 : BitVec 32 := 22#32
  let v730 : BitVec 1 := Scalar.cmpi .ne v2 c22_i32_716
  let v731 : BitVec 32 := Scalar.extui v730
  let c0_i32_718 : BitVec 32 := 0#32
  let v732 : BitVec 1 := Scalar.cmpi .ne v731 c0_i32_718
  v732

def k2_off174 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_122 : BitVec 32 := 32#32
  let v188 : BitVec 32 := Scalar.muli v2 c32_i32_122
  let c0_i32_779 : BitVec 32 := 0#32
  ![v188.toNat, 0]
def k2_cond206 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_719 : BitVec 32 := 22#32
  let v733 : BitVec 1 := Scalar.cmpi .ne v2 c22_i32_719
  let v734 : BitVec 32 := Scalar.extui v733
  let c0_i32_721 : BitVec 32 := 0#32
  let v735 : BitVec 1 := Scalar.cmpi .ne v734 c0_i32_721
  v735

def k2_off175 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_406 : BitVec 32 := 32#32
  let v452 : BitVec 32 := Scalar.muli v2 c32_i32_406
  let c0_i32_778 : BitVec 32 := 0#32
  ![v452.toNat, 0]
def k2_cond207 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_722 : BitVec 32 := 23#32
  let v736 : BitVec 1 := Scalar.cmpi .ne v2 c23_i32_722
  let v737 : BitVec 32 := Scalar.extui v736
  let c0_i32_724 : BitVec 32 := 0#32
  let v738 : BitVec 1 := Scalar.cmpi .ne v737 c0_i32_724
  v738

def k2_off176 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_126 : BitVec 32 := 32#32
  let v192 : BitVec 32 := Scalar.muli v2 c32_i32_126
  let c0_i32_779 : BitVec 32 := 0#32
  ![v192.toNat, 0]
def k2_cond208 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_725 : BitVec 32 := 23#32
  let v739 : BitVec 1 := Scalar.cmpi .ne v2 c23_i32_725
  let v740 : BitVec 32 := Scalar.extui v739
  let c0_i32_727 : BitVec 32 := 0#32
  let v741 : BitVec 1 := Scalar.cmpi .ne v740 c0_i32_727
  v741

def k2_off177 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_411 : BitVec 32 := 32#32
  let v457 : BitVec 32 := Scalar.muli v2 c32_i32_411
  let c0_i32_778 : BitVec 32 := 0#32
  ![v457.toNat, 0]
def k2_cond209 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_728 : BitVec 32 := 24#32
  let v742 : BitVec 1 := Scalar.cmpi .ne v2 c24_i32_728
  let v743 : BitVec 32 := Scalar.extui v742
  let c0_i32_730 : BitVec 32 := 0#32
  let v744 : BitVec 1 := Scalar.cmpi .ne v743 c0_i32_730
  v744

def k2_off178 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_130 : BitVec 32 := 32#32
  let v196 : BitVec 32 := Scalar.muli v2 c32_i32_130
  let c0_i32_779 : BitVec 32 := 0#32
  ![v196.toNat, 0]
def k2_cond210 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_731 : BitVec 32 := 24#32
  let v745 : BitVec 1 := Scalar.cmpi .ne v2 c24_i32_731
  let v746 : BitVec 32 := Scalar.extui v745
  let c0_i32_733 : BitVec 32 := 0#32
  let v747 : BitVec 1 := Scalar.cmpi .ne v746 c0_i32_733
  v747

def k2_off179 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_416 : BitVec 32 := 32#32
  let v462 : BitVec 32 := Scalar.muli v2 c32_i32_416
  let c0_i32_778 : BitVec 32 := 0#32
  ![v462.toNat, 0]
def k2_cond211 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_734 : BitVec 32 := 25#32
  let v748 : BitVec 1 := Scalar.cmpi .ne v2 c25_i32_734
  let v749 : BitVec 32 := Scalar.extui v748
  let c0_i32_736 : BitVec 32 := 0#32
  let v750 : BitVec 1 := Scalar.cmpi .ne v749 c0_i32_736
  v750

def k2_off180 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_134 : BitVec 32 := 32#32
  let v200 : BitVec 32 := Scalar.muli v2 c32_i32_134
  let c0_i32_779 : BitVec 32 := 0#32
  ![v200.toNat, 0]
def k2_cond212 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_737 : BitVec 32 := 25#32
  let v751 : BitVec 1 := Scalar.cmpi .ne v2 c25_i32_737
  let v752 : BitVec 32 := Scalar.extui v751
  let c0_i32_739 : BitVec 32 := 0#32
  let v753 : BitVec 1 := Scalar.cmpi .ne v752 c0_i32_739
  v753

def k2_off181 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_421 : BitVec 32 := 32#32
  let v467 : BitVec 32 := Scalar.muli v2 c32_i32_421
  let c0_i32_778 : BitVec 32 := 0#32
  ![v467.toNat, 0]
def k2_cond213 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_740 : BitVec 32 := 26#32
  let v754 : BitVec 1 := Scalar.cmpi .ne v2 c26_i32_740
  let v755 : BitVec 32 := Scalar.extui v754
  let c0_i32_742 : BitVec 32 := 0#32
  let v756 : BitVec 1 := Scalar.cmpi .ne v755 c0_i32_742
  v756

def k2_off182 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_138 : BitVec 32 := 32#32
  let v204 : BitVec 32 := Scalar.muli v2 c32_i32_138
  let c0_i32_779 : BitVec 32 := 0#32
  ![v204.toNat, 0]
def k2_cond214 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_743 : BitVec 32 := 26#32
  let v757 : BitVec 1 := Scalar.cmpi .ne v2 c26_i32_743
  let v758 : BitVec 32 := Scalar.extui v757
  let c0_i32_745 : BitVec 32 := 0#32
  let v759 : BitVec 1 := Scalar.cmpi .ne v758 c0_i32_745
  v759

def k2_off183 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_426 : BitVec 32 := 32#32
  let v472 : BitVec 32 := Scalar.muli v2 c32_i32_426
  let c0_i32_778 : BitVec 32 := 0#32
  ![v472.toNat, 0]
def k2_cond215 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_746 : BitVec 32 := 27#32
  let v760 : BitVec 1 := Scalar.cmpi .ne v2 c27_i32_746
  let v761 : BitVec 32 := Scalar.extui v760
  let c0_i32_748 : BitVec 32 := 0#32
  let v762 : BitVec 1 := Scalar.cmpi .ne v761 c0_i32_748
  v762

def k2_off184 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_142 : BitVec 32 := 32#32
  let v208 : BitVec 32 := Scalar.muli v2 c32_i32_142
  let c0_i32_779 : BitVec 32 := 0#32
  ![v208.toNat, 0]
def k2_cond216 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_749 : BitVec 32 := 27#32
  let v763 : BitVec 1 := Scalar.cmpi .ne v2 c27_i32_749
  let v764 : BitVec 32 := Scalar.extui v763
  let c0_i32_751 : BitVec 32 := 0#32
  let v765 : BitVec 1 := Scalar.cmpi .ne v764 c0_i32_751
  v765

def k2_off185 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_431 : BitVec 32 := 32#32
  let v477 : BitVec 32 := Scalar.muli v2 c32_i32_431
  let c0_i32_778 : BitVec 32 := 0#32
  ![v477.toNat, 0]
def k2_cond217 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_752 : BitVec 32 := 28#32
  let v766 : BitVec 1 := Scalar.cmpi .ne v2 c28_i32_752
  let v767 : BitVec 32 := Scalar.extui v766
  let c0_i32_754 : BitVec 32 := 0#32
  let v768 : BitVec 1 := Scalar.cmpi .ne v767 c0_i32_754
  v768

def k2_off186 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_146 : BitVec 32 := 32#32
  let v212 : BitVec 32 := Scalar.muli v2 c32_i32_146
  let c0_i32_779 : BitVec 32 := 0#32
  ![v212.toNat, 0]
def k2_cond218 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_755 : BitVec 32 := 28#32
  let v769 : BitVec 1 := Scalar.cmpi .ne v2 c28_i32_755
  let v770 : BitVec 32 := Scalar.extui v769
  let c0_i32_757 : BitVec 32 := 0#32
  let v771 : BitVec 1 := Scalar.cmpi .ne v770 c0_i32_757
  v771

def k2_off187 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_436 : BitVec 32 := 32#32
  let v482 : BitVec 32 := Scalar.muli v2 c32_i32_436
  let c0_i32_778 : BitVec 32 := 0#32
  ![v482.toNat, 0]
def k2_cond219 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_758 : BitVec 32 := 29#32
  let v772 : BitVec 1 := Scalar.cmpi .ne v2 c29_i32_758
  let v773 : BitVec 32 := Scalar.extui v772
  let c0_i32_760 : BitVec 32 := 0#32
  let v774 : BitVec 1 := Scalar.cmpi .ne v773 c0_i32_760
  v774

def k2_off188 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_150 : BitVec 32 := 32#32
  let v216 : BitVec 32 := Scalar.muli v2 c32_i32_150
  let c0_i32_779 : BitVec 32 := 0#32
  ![v216.toNat, 0]
def k2_cond220 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_761 : BitVec 32 := 29#32
  let v775 : BitVec 1 := Scalar.cmpi .ne v2 c29_i32_761
  let v776 : BitVec 32 := Scalar.extui v775
  let c0_i32_763 : BitVec 32 := 0#32
  let v777 : BitVec 1 := Scalar.cmpi .ne v776 c0_i32_763
  v777

def k2_off189 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_441 : BitVec 32 := 32#32
  let v487 : BitVec 32 := Scalar.muli v2 c32_i32_441
  let c0_i32_778 : BitVec 32 := 0#32
  ![v487.toNat, 0]
def k2_cond221 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_764 : BitVec 32 := 30#32
  let v778 : BitVec 1 := Scalar.cmpi .ne v2 c30_i32_764
  let v779 : BitVec 32 := Scalar.extui v778
  let c0_i32_766 : BitVec 32 := 0#32
  let v780 : BitVec 1 := Scalar.cmpi .ne v779 c0_i32_766
  v780

def k2_off190 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_154 : BitVec 32 := 32#32
  let v220 : BitVec 32 := Scalar.muli v2 c32_i32_154
  let c0_i32_779 : BitVec 32 := 0#32
  ![v220.toNat, 0]
def k2_cond222 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_767 : BitVec 32 := 30#32
  let v781 : BitVec 1 := Scalar.cmpi .ne v2 c30_i32_767
  let v782 : BitVec 32 := Scalar.extui v781
  let c0_i32_769 : BitVec 32 := 0#32
  let v783 : BitVec 1 := Scalar.cmpi .ne v782 c0_i32_769
  v783

def k2_off191 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_446 : BitVec 32 := 32#32
  let v492 : BitVec 32 := Scalar.muli v2 c32_i32_446
  let c0_i32_778 : BitVec 32 := 0#32
  ![v492.toNat, 0]
def k2_cond223 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_770 : BitVec 32 := 31#32
  let v784 : BitVec 1 := Scalar.cmpi .ne v2 c31_i32_770
  let v785 : BitVec 32 := Scalar.extui v784
  let c0_i32_772 : BitVec 32 := 0#32
  let v786 : BitVec 1 := Scalar.cmpi .ne v785 c0_i32_772
  v786

def k2_off192 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_158 : BitVec 32 := 32#32
  let v224 : BitVec 32 := Scalar.muli v2 c32_i32_158
  let c0_i32_779 : BitVec 32 := 0#32
  ![v224.toNat, 0]
def k2_cond224 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_773 : BitVec 32 := 31#32
  let v787 : BitVec 1 := Scalar.cmpi .ne v2 c31_i32_773
  let v788 : BitVec 32 := Scalar.extui v787
  let c0_i32_775 : BitVec 32 := 0#32
  let v789 : BitVec 1 := Scalar.cmpi .ne v788 c0_i32_775
  v789

def k2_off193 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_451 : BitVec 32 := 32#32
  let v497 : BitVec 32 := Scalar.muli v2 c32_i32_451
  let c0_i32_778 : BitVec 32 := 0#32
  ![v497.toNat, 0]
abbrev stage2_0 : Fin 1 → Memref sig .tc .vmem S1024x768 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x768 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
-- ==== ReferenceIdeal.lean ====
abbrev S2x512x768 : Shape := ⟨3, ![2, 512, 768]⟩
abbrev S768x16384 : Shape := ⟨2, ![768, 16384]⟩
abbrev S2x512x256x64 : Shape := ⟨4, ![2, 512, 256, 64]⟩
abbrev S16384x768 : Shape := ⟨2, ![16384, 768]⟩
abbrev S2x512x16384 : Shape := ⟨3, ![2, 512, 16384]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x256x512x512 : Shape := ⟨4, ![2, 256, 512, 512]⟩
abbrev S1x1x512x512 : Shape := ⟨4, ![1, 1, 512, 512]⟩
abbrev S2x256x512 : Shape := ⟨3, ![2, 256, 512]⟩
abbrev S2x256x512x1 : Shape := ⟨4, ![2, 256, 512, 1]⟩
abbrev S1x1x512x1 : Shape := ⟨4, ![1, 1, 512, 1]⟩
abbrev S2x256x64x512 : Shape := ⟨4, ![2, 256, 64, 512]⟩

abbrev nBuf : Space → Nat
  | .hbm => 137
  | .vmem => 0
  | .smem => 0
  | _ => 0

abbrev hbmTy0_0 (i : Nat) : BufTy := match i % 128 with
  | 0 => ⟨S2x512x768, .f32⟩
  | 1 => ⟨S768x16384, .f32⟩
  | 2 => ⟨S2x512x256x64, .f32⟩
  | 3 => ⟨S2x512x256x64, .f32⟩
  | 4 => ⟨S16384x768, .f32⟩
  | 5 => ⟨S2x512x16384, .f32⟩
  | 6 => ⟨S2x512x256x64, .f32⟩
  | 7 => ⟨S512, .i32⟩
  | 8 => ⟨S_, .i32⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S512, .i32⟩
  | 17 => ⟨S512, .i32⟩
  | 18 => ⟨S_, .i32⟩
  | 19 => ⟨S512, .i32⟩
  | 20 => ⟨S512, .i1⟩
  | 21 => ⟨S512, .i1⟩
  | 22 => ⟨S_, .i32⟩
  | 23 => ⟨S512, .i32⟩
  | 24 => ⟨S512, .i32⟩
  | 25 => ⟨S512, .i32⟩
  | 26 => ⟨S512x1, .i32⟩
  | 27 => ⟨S512, .i32⟩
  | 28 => ⟨S_, .i32⟩
  | 29 => ⟨S_, .i32⟩
  | 30 => ⟨S512, .i32⟩
  | 31 => ⟨S512, .i32⟩
  | 32 => ⟨S512, .i32⟩
  | 33 => ⟨S_, .i32⟩
  | 34 => ⟨S512, .i32⟩
  | 35 => ⟨S512, .i1⟩
  | 36 => ⟨S512, .i32⟩
  | 37 => ⟨S512, .i32⟩
  | 38 => ⟨S_, .i32⟩
  | 39 => ⟨S512, .i32⟩
  | 40 => ⟨S512, .i1⟩
  | 41 => ⟨S512, .i1⟩
  | 42 => ⟨S_, .i32⟩
  | 43 => ⟨S512, .i32⟩
  | 44 => ⟨S512, .i32⟩
  | 45 => ⟨S512, .i32⟩
  | 46 => ⟨S1x512, .i32⟩
  | 47 => ⟨S512x512, .i32⟩
  | 48 => ⟨S512x512, .i32⟩
  | 49 => ⟨S512x512, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x512, .i32⟩
  | 57 => ⟨S1x512, .i32⟩
  | 58 => ⟨S_, .i32⟩
  | 59 => ⟨S1x512, .i32⟩
  | 60 => ⟨S1x512, .i1⟩
  | 61 => ⟨S_, .i32⟩
  | 62 => ⟨S1x512, .i32⟩
  | 63 => ⟨S1x512, .i1⟩
  | 64 => ⟨S_, .i32⟩
  | 65 => ⟨S_, .i1⟩
  | 66 => ⟨S1x512, .i1⟩
  | 67 => ⟨S1x512, .i1⟩
  | 68 => ⟨S1x512, .i1⟩
  | 69 => ⟨S1x512, .i32⟩
  | 70 => ⟨S1x512, .i32⟩
  | 71 => ⟨S1x512, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S512x1, .i32⟩
  | 79 => ⟨S512x1, .i32⟩
  | 80 => ⟨S_, .i32⟩
  | 81 => ⟨S512x1, .i32⟩
  | 82 => ⟨S512x1, .i1⟩
  | 83 => ⟨S_, .i32⟩
  | 84 => ⟨S512x1, .i32⟩
  | 85 => ⟨S512x1, .i1⟩
  | 86 => ⟨S_, .i32⟩
  | 87 => ⟨S_, .i1⟩
  | 88 => ⟨S512x1, .i1⟩
  | 89 => ⟨S512x1, .i1⟩
  | 90 => ⟨S512x1, .i1⟩
  | 91 => ⟨S512x1, .i32⟩
  | 92 => ⟨S512x1, .i32⟩
  | 93 => ⟨S512x1, .i32⟩
  | 94 => ⟨S512x512, .i32⟩
  | 95 => ⟨S512x512, .i32⟩
  | 96 => ⟨S512x512, .i1⟩
  | 97 => ⟨S512x512, .i1⟩
  | 98 => ⟨S2x256x512x512, .f32⟩
  | 99 => ⟨S_, .f32⟩
  | 100 => ⟨S2x256x512x512, .f32⟩
  | 101 => ⟨S2x256x512x512, .f32⟩
  | 102 => ⟨S1x1x512x512, .i1⟩
  | 103 => ⟨S_, .f32⟩
  | 104 => ⟨S_, .f32⟩
  | 105 => ⟨S2x256x512x512, .i1⟩
  | 106 => ⟨S2x256x512x512, .f32⟩
  | 107 => ⟨S2x256x512x512, .f32⟩
  | 108 => ⟨S_, .f32⟩
  | 109 => ⟨S2x256x512, .f32⟩
  | 110 => ⟨S2x256x512x1, .f32⟩
  | 111 => ⟨S2x256x512x512, .f32⟩
  | 112 => ⟨S2x256x512x512, .f32⟩
  | 113 => ⟨S2x256x512x512, .f32⟩
  | 114 => ⟨S_, .i1⟩
  | 115 => ⟨S512, .i1⟩
  | 116 => ⟨S1x1x512x1, .i1⟩
  | 117 => ⟨S_, .f32⟩
  | 118 => ⟨S2x256x512, .f32⟩
  | 119 => ⟨S2x256x512x1, .f32⟩
  | 120 => ⟨S_, .f32⟩
  | 121 => ⟨S_, .f32⟩
  | 122 => ⟨S2x256x512x1, .i1⟩
  | 123 => ⟨S2x256x512x1, .f32⟩
  | 124 => ⟨S2x256x512x1, .f32⟩
  | 125 => ⟨S2x256x512x512, .f32⟩
  | 126 => ⟨S2x256x512x512, .f32⟩
  | 127 => ⟨S1x1x512x1, .i1⟩
  | _ => ⟨S2x512x768, .f32⟩

abbrev hbmTy0_1 (i : Nat) : BufTy := match i % 128 with
  | 0 => ⟨S_, .f32⟩
  | 1 => ⟨S_, .f32⟩
  | 2 => ⟨S2x256x512x512, .i1⟩
  | 3 => ⟨S2x256x512x512, .f32⟩
  | 4 => ⟨S2x256x512x512, .f32⟩
  | 5 => ⟨S2x256x64x512, .f32⟩
  | 6 => ⟨S2x512x256x64, .f32⟩
  | 7 => ⟨S2x512x16384, .f32⟩
  | 8 => ⟨S2x512x768, .f32⟩
  | _ => ⟨S2x512x768, .f32⟩

abbrev hbmTy (i : Nat) : BufTy := match i / 128 with
  | 0 => hbmTy0_0 i
  | 1 => hbmTy0_1 i
  | _ => ⟨S2x512x768, .f32⟩

abbrev bufTy : (tb : Table) → Fin (tcTables nBuf tb) → BufTy
  | .hbm, ⟨i, _⟩ => hbmTy i
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Steps.lean ====
module

public import proofs.«01_k».proof.Proof.Gen.KernelIdeal.Skeleton
public import Idealize.ShloMosaic.Lib.Tactic

/-!
The all-reduce body as a list of guarded steps.

The printed body is unrolled over the 32 peers and cut into parts. Here one step is named per kind of operation, at
any peer number, and each part is shown to be the list of its steps.
-/

@[expose] public section

set_option maxRecDepth 65536

noncomputable section

namespace Cert.KernelIdeal.Ar

open Idealize.ShloMosaic Idealize.ShloMosaic.TcCoe
open Idealize.SL.Sem
open Cert.KernelIdeal.Gen

variable {F : FTy → Type} [FloatOps F]

/-- A program of one core of the kernel. -/
abbrev Code (F : FTy → Type) [FloatOps F] (α : Type) := Prog (TpuEff nD τ sig (Elt F) Λ₀ .tc) α

/-- A guarded step: a condition and what runs when it holds. -/
abbrev Step (F : FTy → Type) [FloatOps F] := BitVec 1 × Code F PUnit

/-- Guarded steps in order, then `k`. -/
def steps {α : Type} (l : List (Step F)) (k : Code F α) : Code F α :=
  l.foldr (fun s r => if _h : s.1 = 1#1 then s.2 >>= fun _ => r else r) k

/-- What follows a list of steps may be moved inside it. -/
theorem steps_bind {α β : Type} (l : List (Step F)) (k : Code F α) (g : α → Code F β) :
    steps l k >>= g = steps l (k >>= g) := by
  induction l with
  | nil => rfl
  | cons s l ih =>
    simp only [steps, List.foldr_cons] at ih ⊢
    by_cases h : s.1 = 1#1
    · rw [dif_pos h, dif_pos h, bind_assoc, ih]
    · rw [dif_neg h, dif_neg h, ih]

/-- Two lists one after the other are one list. -/
theorem steps_append {α : Type} (l l' : List (Step F)) (k : Code F α) : steps l (steps l' k) = steps (l ++ l') k := by
  simp only [steps, List.foldr_append]

/-- The device's own index along the axis, as the kernel computes it. -/
def me (d : Dev nD) : BitVec 32 := Scalar.remsi (Scalar.divsi (Dev.word d) 1#32) 32#32
/-- Whether the peer is another device, as the kernel's comparison answers. -/
def differs (d : Dev nD) (n : Fin 32) : BitVec 1 := Scalar.cmpi .ne (me d) (BitVec.ofNat 32 n.val)
/-- That answer widened to a word. -/
def differsW (d : Dev nD) (n : Fin 32) : BitVec 32 := Scalar.extui (differs d n)
/-- The guard: the peer is not the device itself. -/
def other (d : Dev nD) (n : Fin 32) : BitVec 1 := Scalar.cmpi .ne (differsW d n) 0#32
/-- The peer's device number, as the kernel computes it. -/
def peer (n : Fin 32) : ℕ := (Scalar.addi 0#32 (Scalar.muli (BitVec.ofNat 32 n.val) 1#32)).toNat

/-- The device's index as a number. -/
theorem me_toNat (d : Dev nD) : (me d).toNat = d.val := by revert d; decide
/-- The first row of its chunk. -/
theorem me_rows (d : Dev nD) : (Scalar.muli (me d) 32#32).toNat = 32 * d.val := by revert d; decide
/-- A peer's number is its index. -/
theorem peer_eq (n : Fin 32) : peer n = n.val := by revert n; decide
/-- It is a device. -/
theorem peer_lt (n : Fin 32) : peer n < nD := by rw [peer_eq]; exact n.isLt
/-- The guard holds for the other devices. -/
theorem other_iff (d : Dev nD) (n : Fin 32) : other d n = 1#1 ↔ n ≠ d := by revert d n; decide

/-- A semaphore of an array of 32 lies in it. -/
theorem inb_sem (k : ℕ) (h : k < 32) : ∀ a, (![k] : Fin 1 → ℕ) a + S1.size a ≤ S32.size a := by
  intro a; fin_cases a; show k + 1 ≤ 32; omega
/-- 32 rows lie in a buffer of 1024. -/
theorem inb_rows (k : ℕ) (h : k + 32 ≤ 1024) : ∀ a, (![k, 0] : Fin 2 → ℕ) a + S32x768.size a ≤ S1024x768.size a := by
  intro a; fin_cases a
  · show k + 32 ≤ 1024; omega
  · show 0 + 768 ≤ 768; omega

/-- Semaphore `k` of an array of 32. -/
def semAt (s : DmaSems sig S32) (k : ℕ) (h : k < 32) : DmaSem sig :=
  ((s.slice (Rect.unit (s := S32) ![k] S1.size (inb_sem k h))).squeeze S_ squeezes_S1_S_).sem
/-- The 32 rows of a buffer from row `k` on. -/
def rowsAt (m : Memref sig .tc .vmem S1024x768 .f32) (k : ℕ) (h : k + 32 ≤ 1024) : Memref sig .tc .vmem S32x768 .f32 :=
  m.slice (Rect.unit (s := S1024x768) ![k, 0] S32x768.size (inb_rows k h)) (fun _ => rfl)

variable (a b acc : Memref sig .tc .vmem S1024x768 .f32) (s1 r1 s2 r2 : DmaSems sig S32)

/-- The device's index is below 32. -/
theorem me_lt (d : Dev nD) : (me d).toNat < 32 := by rw [me_toNat]; exact d.isLt
/-- The device's chunk lies in the buffer. -/
theorem me_rows_le (d : Dev nD) : (Scalar.muli (me d) 32#32).toNat + 32 ≤ 1024 := by
  rw [me_rows]; have : d.val < 32 := d.isLt; omega
/-- Chunk `n` lies in the buffer. -/
theorem rows_le (n : Fin 32) : 32 * n.val + 32 ≤ 1024 := by have := n.isLt; omega

/-- A copy of 32 rows to a peer. -/
def copyTo (src dst : Memref sig .tc .vmem S32x768 .f32) (p : Dev nD) (ss rs : DmaSem sig) : Code F PUnit :=
  Prog.lift (.enqueueDma src (.remote (Dev.tc p) dst (.dma ss)) (.dma rs) (View.wordExact_bits rfl) (View.wordExact_bits rfl)
    ⟨⟨rfl, Or.inl rfl⟩, trivial⟩)
/-- A wait for a copy of 32 rows. -/
def waitFor (src dst : Memref sig .tc .vmem S32x768 .f32) (ss : DmaSem sig) : Code F PUnit :=
  Prog.lift (.waitDma2 ss src dst (View.wordExact_bits rfl) (View.wordExact_bits rfl))

/-- Signal the peer that this device has entered. -/
def sSig (d : Dev nD) (n : Fin 32) : Step F :=
  (other d n, semSignalWord (⟨peer n, peer_lt n⟩ : Dev nD) (SemArray.scalar (sig.barrier 0 rfl) : Sems sig S_).sem 1#32)
/-- Send the peer its chunk of this device's partial result. -/
def sSend1 (d : Dev nD) (n : Fin 32) : Step F :=
  (other d n, copyTo (rowsAt a (32 * n.val) (rows_le n)) (rowsAt acc (Scalar.muli (me d) 32#32).toNat (me_rows_le d)) ⟨peer n, peer_lt n⟩
    (semAt s1 n.val n.isLt) (semAt r1 (me d).toNat (me_lt d)))
/-- Wait for the peer's partial result of this device's chunk. -/
def sRecv1 (d : Dev nD) (n : Fin 32) : Step F :=
  (other d n, waitFor (rowsAt acc (32 * n.val) (rows_le n)) (rowsAt acc (32 * n.val) (rows_le n)) (semAt r1 n.val n.isLt))
/-- Send the peer this device's reduced chunk. -/
def sSend2 (d : Dev nD) (n : Fin 32) : Step F :=
  (other d n, copyTo (rowsAt b (Scalar.muli (me d) 32#32).toNat (me_rows_le d)) (rowsAt b (Scalar.muli (me d) 32#32).toNat (me_rows_le d))
    ⟨peer n, peer_lt n⟩ (semAt s2 n.val n.isLt) (semAt r2 (me d).toNat (me_lt d)))
/-- Wait for the peer's reduced chunk. -/
def sRecv2 (d : Dev nD) (n : Fin 32) : Step F :=
  (other d n, waitFor (rowsAt b (32 * n.val) (rows_le n)) (rowsAt b (32 * n.val) (rows_le n)) (semAt r2 n.val n.isLt))
/-- Wait until the first copy to the peer has been sent. -/
def sSent1 (d : Dev nD) (n : Fin 32) : Step F :=
  (other d n, waitFor (rowsAt acc (Scalar.muli (me d) 32#32).toNat (me_rows_le d)) (rowsAt a (32 * n.val) (rows_le n)) (semAt s1 n.val n.isLt))
/-- Wait until the second copy to the peer has been sent. -/
def sSent2 (d : Dev nD) (n : Fin 32) : Step F :=
  (other d n, waitFor (rowsAt b (Scalar.muli (me d) 32#32).toNat (me_rows_le d)) (rowsAt b (Scalar.muli (me d) 32#32).toNat (me_rows_le d))
    (semAt s2 n.val n.isLt))

/-- The waits for the sent copies, alternating between the two rounds of copies. -/
def sSent (d : Dev nD) (k : ℕ) : Step F :=
  if k % 2 = 0 then sSent1 a acc s1 d (Fin.ofNat 32 (k / 2)) else sSent2 b s2 d (Fin.ofNat 32 (k / 2))

/-- The barrier's semaphore. -/
def bar : Sems sig S_ := SemArray.scalar (sig.barrier 0 rfl)

/-- The steps `i … i + n - 1` of a kind of step. -/
def stretch (f : ℕ → Step F) (i n : ℕ) : List (Step F) := (List.range' i n).map f
/-- A kind of step by plain number. -/
def byNat (f : Fin 32 → Step F) (k : ℕ) : Step F := f (Fin.ofNat 32 k)

/-- Consecutive stretches of a kind of step join. -/
theorem stretch_append (f : ℕ → Step F) (i n m : ℕ) : stretch f i n ++ stretch f (i + n) m = stretch f i (n + m) := by
  rw [stretch, stretch, stretch, ← List.map_append, List.range'_append_1]

/-- The reduction of the device's own chunk, its rows from row `o` on, then `k`. -/
def reduceFrom {α : Type} (o : ℕ) (ho : o + 32 ≤ 1024) (d : Dev nD) (k : Code F α) : Code F α := do
  let own ← Prog.lift (.load a (Rect.unit (s := S1024x768) ![o, 0] S32x768.size (inb_rows o ho)).toLoadRect (View.loadsAt_vmem h_S32x768))
  let got ← Prog.lift (.load acc (Rect.unit (s := S1024x768) ![0, 0] S1024x768.size inb_S1024x768_S1024x768_0_0).toLoadRect
    (View.loadsAt_vmem h_S1024x768))
  let _ ← Prog.lift (.load b (Rect.unit (s := S1024x768) ![o, 0] S32x768.size (inb_rows o ho)).toLoadRect (View.loadsAt_vmem h_S32x768))
  Prog.lift (.store b (Rect.unit (s := S1024x768) ![o, 0] S32x768.size (inb_rows o ho))
    (k2_pay1 (me d) own got) Finset.univ (View.stores_vmem_bits_univ h_S32x768 rfl) (.inl rfl))
  k
/-- The reduction with its rows as the kernel computes them. -/
def reduce {α : Type} (d : Dev nD) (k : Code F α) : Code F α := reduceFrom a b acc (Scalar.muli (me d) 32#32).toNat (me_rows_le d) d k
/-- The reduction with its rows in plain numbers. -/
def reduceAt {α : Type} (d : Dev nD) (k : Code F α) : Code F α := reduceFrom a b acc (32 * d.val) (rows_le d) d k

/-- Equal first rows give equal reductions. -/
theorem reduceFrom_congr {α : Type} {o o' : ℕ} (e : o = o') (ho : o + 32 ≤ 1024) (ho' : o' + 32 ≤ 1024) (d : Dev nD) (k : Code F α) :
    reduceFrom a b acc o ho d k = reduceFrom a b acc o' ho' d k := by subst e; rfl
/-- The kernel's rows are the plain ones. -/
theorem reduce_eq {α : Type} (d : Dev nD) (k : Code F α) : reduce a b acc d k = reduceAt a b acc d k :=
  reduceFrom_congr a b acc (me_rows d) _ _ d k

/-- What follows the reduction may be moved inside it. -/
theorem reduce_bind {α β : Type} (d : Dev nD) (k : Code F α) (g : α → Code F β) :
    reduce a b acc d k >>= g = reduce a b acc d (k >>= g) := by simp only [reduce, reduceFrom, bind_assoc]

variable (ha : a.IsWhole) (hb : b.IsWhole) (hc : acc.IsWhole)

/-- Part 1 of the body: entry signals. -/
theorem part1_eq : k2_part1 (F := F) a ha b hb acc hc s1 r1 s2 r2
    = Prog.lift .deviceId >>= fun d => steps (stretch (byNat (sSig d)) 0 8) (pure ⟨d, me d, bar⟩) := by sl_kernel_rfl
/-- Part 2 of the body: entry signals. -/
theorem part2_eq (d : Dev nD) : k2_part2 (F := F) a ha b hb acc hc s1 r1 s2 r2 d (me d) bar
    = steps (stretch (byNat (sSig d)) 8 10) (pure ⟨⟩) := by sl_kernel_rfl
/-- Part 3 of the body: entry signals. -/
theorem part3_eq (d : Dev nD) : k2_part3 (F := F) a ha b hb acc hc s1 r1 s2 r2 d (me d) bar
    = steps (stretch (byNat (sSig d)) 18 10) (pure ⟨⟩) := by sl_kernel_rfl
/-- Part 4 of the body: entry signals, then first copies. -/
theorem part4_eq (d : Dev nD) : k2_part4 (F := F) a ha b hb acc hc s1 r1 s2 r2 d (me d) bar
    = steps (stretch (byNat (sSig d)) 28 4) (semWaitWord (bar).sem 31#32 >>= fun _ => steps (stretch (byNat (sSend1 a acc s1 r1 d)) 0 4) (pure ⟨⟩)) := by sl_kernel_rfl
/-- Part 5 of the body: first copies. -/
theorem part5_eq (d : Dev nD) : k2_part5 (F := F) a ha b hb acc hc s1 r1 s2 r2 d (me d)
    = steps (stretch (byNat (sSend1 a acc s1 r1 d)) 4 6) (pure ⟨⟩) := by sl_kernel_rfl
/-- Part 6 of the body: first copies. -/
theorem part6_eq (d : Dev nD) : k2_part6 (F := F) a ha b hb acc hc s1 r1 s2 r2 d (me d)
    = steps (stretch (byNat (sSend1 a acc s1 r1 d)) 10 7) (pure (differsW d 17)) := by sl_kernel_rfl
/-- Part 7 of the body: first copies. -/
theorem part7_eq (d : Dev nD) : k2_part7 (F := F) a ha b hb acc hc s1 r1 s2 r2 d (me d) (differsW d 17)
    = steps (stretch (byNat (sSend1 a acc s1 r1 d)) 17 7) (pure ⟨⟩) := by sl_kernel_rfl
/-- Part 8 of the body: first copies. -/
theorem part8_eq (d : Dev nD) : k2_part8 (F := F) a ha b hb acc hc s1 r1 s2 r2 d (me d)
    = steps (stretch (byNat (sSend1 a acc s1 r1 d)) 24 6) (pure ⟨⟩) := by sl_kernel_rfl
/-- Part 9 of the body: first copies, then waits for the first copies. -/
theorem part9_eq (d : Dev nD) : k2_part9 (F := F) a ha b hb acc hc s1 r1 s2 r2 d (me d)
    = steps (stretch (byNat (sSend1 a acc s1 r1 d)) 30 2) (steps (stretch (byNat (sRecv1 acc r1 d)) 0 6) (pure (differs d 6))) := by sl_kernel_rfl
/-- Part 10 of the body: waits for the first copies. -/
theorem part10_eq (d : Dev nD) : k2_part10 (F := F) a ha b hb acc hc s1 r1 s2 r2 (me d) (differs d 6)
    = steps (stretch (byNat (sRecv1 acc r1 d)) 6 7) (pure ⟨differsW d 13, 0#32⟩) := by sl_kernel_rfl
/-- Part 11 of the body: waits for the first copies. -/
theorem part11_eq (d : Dev nD) : k2_part11 (F := F) a ha b hb acc hc s1 r1 s2 r2 (me d) (differsW d 13) 0#32
    = steps (stretch (byNat (sRecv1 acc r1 d)) 13 8) (pure (differs d 21)) := by sl_kernel_rfl
/-- Part 12 of the body: waits for the first copies. -/
theorem part12_eq (d : Dev nD) : k2_part12 (F := F) a ha b hb acc hc s1 r1 s2 r2 (me d) (differs d 21)
    = steps (stretch (byNat (sRecv1 acc r1 d)) 21 7) (pure ⟨differsW d 28, 0#32⟩) := by sl_kernel_rfl
/-- Part 13 of the body: waits for the first copies, then the reduction. -/
theorem part13_eq (d : Dev nD) : k2_part13 (F := F) a ha b hb acc hc s1 r1 s2 r2 d (me d) (differsW d 28) 0#32
    = steps (stretch (byNat (sRecv1 acc r1 d)) 28 4) (reduce a b acc d (pure (differsW d 0))) := by sl_kernel_rfl
/-- Part 14 of the body: second copies. -/
theorem part14_eq (d : Dev nD) : k2_part14 (F := F) a ha b hb acc hc s1 r1 s2 r2 d (me d) (differsW d 0)
    = steps (stretch (byNat (sSend2 b s2 r2 d)) 0 6) (pure 32#32) := by sl_kernel_rfl
/-- Part 15 of the body: second copies. -/
theorem part15_eq (d : Dev nD) : k2_part15 (F := F) a ha b hb acc hc s1 r1 s2 r2 d (me d) 32#32
    = steps (stretch (byNat (sSend2 b s2 r2 d)) 6 5) (pure (differs d 11)) := by sl_kernel_rfl
/-- Part 16 of the body: second copies. -/
theorem part16_eq (d : Dev nD) : k2_part16 (F := F) a ha b hb acc hc s1 r1 s2 r2 d (me d) (differs d 11)
    = steps (stretch (byNat (sSend2 b s2 r2 d)) 11 6) (pure ⟨⟩) := by sl_kernel_rfl
/-- Part 17 of the body: second copies. -/
theorem part17_eq (d : Dev nD) : k2_part17 (F := F) a ha b hb acc hc s1 r1 s2 r2 d (me d)
    = steps (stretch (byNat (sSend2 b s2 r2 d)) 17 5) (pure 22#32) := by sl_kernel_rfl
/-- Part 18 of the body: second copies. -/
theorem part18_eq (d : Dev nD) : k2_part18 (F := F) a ha b hb acc hc s1 r1 s2 r2 d (me d) 22#32
    = steps (stretch (byNat (sSend2 b s2 r2 d)) 22 5) (pure ⟨⟩) := by sl_kernel_rfl
/-- Part 19 of the body: second copies, then waits for the second copies. -/
theorem part19_eq (d : Dev nD) : k2_part19 (F := F) a ha b hb acc hc s1 r1 s2 r2 d (me d)
    = steps (stretch (byNat (sSend2 b s2 r2 d)) 27 5) (steps (stretch (byNat (sRecv2 b r2 d)) 0 1) (pure (other d 1))) := by sl_kernel_rfl
/-- Part 20 of the body: waits for the second copies. -/
theorem part20_eq (d : Dev nD) : k2_part20 (F := F) a ha b hb acc hc s1 r1 s2 r2 (me d) (other d 1)
    = steps (stretch (byNat (sRecv2 b r2 d)) 1 8) (pure (differsW d 9)) := by sl_kernel_rfl
/-- Part 21 of the body: waits for the second copies. -/
theorem part21_eq (d : Dev nD) : k2_part21 (F := F) a ha b hb acc hc s1 r1 s2 r2 (me d) (differsW d 9)
    = steps (stretch (byNat (sRecv2 b r2 d)) 9 7) (pure (other d 16)) := by sl_kernel_rfl
/-- Part 22 of the body: waits for the second copies. -/
theorem part22_eq (d : Dev nD) : k2_part22 (F := F) a ha b hb acc hc s1 r1 s2 r2 (me d) (other d 16)
    = steps (stretch (byNat (sRecv2 b r2 d)) 16 8) (pure (differsW d 24)) := by sl_kernel_rfl
/-- Part 23 of the body: waits for the second copies. -/
theorem part23_eq (d : Dev nD) : k2_part23 (F := F) a ha b hb acc hc s1 r1 s2 r2 (me d) (differsW d 24)
    = steps (stretch (byNat (sRecv2 b r2 d)) 24 7) (pure (other d 31)) := by sl_kernel_rfl
/-- Part 24 of the body: waits for the second copies, then waits for the sent copies. -/
theorem part24_eq (d : Dev nD) : k2_part24 (F := F) a ha b hb acc hc s1 r1 s2 r2 d (me d) (other d 31)
    = steps (stretch (byNat (sRecv2 b r2 d)) 31 1) (steps (stretch (sSent a b acc s1 s2 d) 0 8) (pure (differsW d 4))) := by sl_kernel_rfl
/-- Part 25 of the body: waits for the sent copies. -/
theorem part25_eq (d : Dev nD) : k2_part25 (F := F) a ha b hb acc hc s1 r1 s2 r2 d (me d) (differsW d 4)
    = steps (stretch (sSent a b acc s1 s2 d) 8 9) (pure ⟨⟩) := by sl_kernel_rfl
/-- Part 26 of the body: waits for the sent copies. -/
theorem part26_eq (d : Dev nD) : k2_part26 (F := F) a ha b hb acc hc s1 r1 s2 r2 d (me d)
    = steps (stretch (sSent a b acc s1 s2 d) 17 8) (pure (differsW d 12)) := by sl_kernel_rfl
/-- Part 27 of the body: waits for the sent copies. -/
theorem part27_eq (d : Dev nD) : k2_part27 (F := F) a ha b hb acc hc s1 r1 s2 r2 d (me d) (differsW d 12)
    = steps (stretch (sSent a b acc s1 s2 d) 25 9) (pure 17#32) := by sl_kernel_rfl
/-- Part 28 of the body: waits for the sent copies. -/
theorem part28_eq (d : Dev nD) : k2_part28 (F := F) a ha b hb acc hc s1 r1 s2 r2 d (me d) 17#32
    = steps (stretch (sSent a b acc s1 s2 d) 34 8) (pure ⟨differsW d 21, 0#32⟩) := by sl_kernel_rfl
/-- Part 29 of the body: waits for the sent copies. -/
theorem part29_eq (d : Dev nD) : k2_part29 (F := F) a ha b hb acc hc s1 r1 s2 r2 d (me d) (differsW d 21) 0#32
    = steps (stretch (sSent a b acc s1 s2 d) 42 9) (pure (differs d 25)) := by sl_kernel_rfl
/-- Part 30 of the body: waits for the sent copies. -/
theorem part30_eq (d : Dev nD) : k2_part30 (F := F) a ha b hb acc hc s1 r1 s2 r2 d (me d) (differs d 25)
    = steps (stretch (sSent a b acc s1 s2 d) 51 8) (pure ⟨⟩) := by sl_kernel_rfl

/-- The whole body as its steps. -/
theorem body_steps : cc2__ar_body (F := F) a ha b hb acc hc s1 r1 s2 r2
    = Prog.lift .deviceId >>= fun d =>
      steps (stretch (byNat (sSig d)) 0 32) (semWaitWord (bar).sem 31#32 >>= fun _ =>
      steps (stretch (byNat (sSend1 a acc s1 r1 d)) 0 32) (steps (stretch (byNat (sRecv1 acc r1 d)) 0 32) (reduce a b acc d (
      steps (stretch (byNat (sSend2 b s2 r2 d)) 0 32) (steps (stretch (byNat (sRecv2 b r2 d)) 0 32) (
      steps (stretch (sSent a b acc s1 s2 d) 0 64) (pure ⟨⟩))))))) := by
  rw [cc2__ar_body_eq_skeleton]
  simp only [cc2__ar_body_skel, part1_eq, part2_eq, part3_eq, part4_eq, part5_eq, part6_eq, part7_eq, part8_eq, part9_eq, part10_eq,
    part11_eq, part12_eq, part13_eq, part14_eq, part15_eq, part16_eq, part17_eq, part18_eq, part19_eq, part20_eq,
    part21_eq, part22_eq, part23_eq, part24_eq, part25_eq, part26_eq, part27_eq, part28_eq, part29_eq, part30_eq,
    bind_assoc, steps_bind, reduce_bind, pure_bind]
  sl_kernel_rfl

/-! ## The steps in plain numbers -/

/-- For each peer in the list other than the device itself, `f`; then `k`. -/
def each {α : Type} (d : Dev nD) (f : Fin 32 → Code F PUnit) (l : List (Fin 32)) (k : Code F α) : Code F α :=
  l.foldr (fun n r => if n ≠ d then f n >>= fun _ => r else r) k

/-- All steps of a kind, as a list over the devices. -/
theorem all_map (f : Fin 32 → Step F) : stretch (byNat f) 0 32 = (List.finRange 32).map f := by sl_kernel_rfl
/-- The waits for the sent copies, as a list over the devices. -/
theorem all_sent (d : Dev nD) : stretch (sSent (F := F) a b acc s1 s2 d) 0 64
    = (List.finRange 32).flatMap fun n => [sSent1 a acc s1 d n, sSent2 b s2 d n] := by sl_kernel_rfl

/-- A list of steps guarded by the peer's being another is a loop over the other peers. -/
theorem steps_map {α : Type} (d : Dev nD) (f : Fin 32 → Code F PUnit) (l : List (Fin 32)) (k : Code F α) :
    steps (l.map fun n => (other d n, f n)) k = each d f l k := by
  induction l with
  | nil => rfl
  | cons n l ih =>
    simp only [steps, each, List.map_cons, List.foldr_cons] at ih ⊢
    by_cases h : n ≠ d
    · rw [dif_pos ((other_iff d n).2 h), if_pos h, ih]
    · rw [dif_neg (fun h' => h ((other_iff d n).1 h')), if_neg h, ih]

/-- Likewise when each peer has two steps. -/
theorem steps_flatMap {α : Type} (d : Dev nD) (f g : Fin 32 → Code F PUnit) (l : List (Fin 32)) (k : Code F α) :
    steps (l.flatMap fun n => [(other d n, f n), (other d n, g n)]) k = each d (fun n => f n >>= fun _ => g n) l k := by
  induction l with
  | nil => rfl
  | cons n l ih =>
    simp only [steps, each, List.flatMap_cons, List.cons_append, List.nil_append, List.foldr_cons] at ih ⊢
    by_cases h : n ≠ d
    · rw [dif_pos ((other_iff d n).2 h), dif_pos ((other_iff d n).2 h), if_pos h, ih, bind_assoc]
    · rw [dif_neg (fun h' => h ((other_iff d n).1 h')), dif_neg (fun h' => h ((other_iff d n).1 h')), if_neg h, ih]

/-- The rows of chunk `n`. -/
def chunk (m : Memref sig .tc .vmem S1024x768 .f32) (n : Fin 32) : Memref sig .tc .vmem S32x768 .f32 := rowsAt m (32 * n.val) (rows_le n)
/-- Semaphore `n` of an array. -/
def cell (s : DmaSems sig S32) (n : Fin 32) : DmaSem sig := semAt s n.val n.isLt

/-- The whole body as loops over the peers, in plain numbers. -/
theorem body_eq : cc2__ar_body (F := F) a ha b hb acc hc s1 r1 s2 r2
    = Prog.lift .deviceId >>= fun d =>
      each d (fun n => semSignalWord n (bar).sem 1#32) (List.finRange 32) (semWaitWord (bar).sem 31#32 >>= fun _ =>
      each d (fun n => copyTo (chunk a n) (chunk acc d) n (cell s1 n) (cell r1 d)) (List.finRange 32) (
      each d (fun n => waitFor (chunk acc n) (chunk acc n) (cell r1 n)) (List.finRange 32) (
      reduceAt a b acc d (
      each d (fun n => copyTo (chunk b d) (chunk b d) n (cell s2 n) (cell r2 d)) (List.finRange 32) (
      each d (fun n => waitFor (chunk b n) (chunk b n) (cell r2 n)) (List.finRange 32) (
      each d (fun n => waitFor (chunk acc d) (chunk a n) (cell s1 n) >>= fun _ => waitFor (chunk b d) (chunk b d) (cell s2 n))
        (List.finRange 32) (pure ⟨⟩))))))) := by
  rw [body_steps]
  simp only [all_map, all_sent]
  unfold sSig sSend1 sRecv1 sSend2 sRecv2 sSent1 sSent2
  simp only [steps_map, steps_flatMap, reduce_eq, me_rows, me_toNat, peer_eq, Fin.eta]
  rfl

end Cert.KernelIdeal.Ar
-- ==== Proof.Proto.lean ====
/-
The protocol of the all-reduce: what each buffer holds, who hands what to whom at which semaphore, what each device owes.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Rows -/

/-- Entries of a whole buffer. -/
abbrev Big (F : FTy → Type) [FloatOps F] := S1024x768.Idx → Elt F .f32
/-- Entries of a chunk. -/
abbrev Small (F : FTy → Type) [FloatOps F] := S32x768.Idx → Elt F .f32

/-- The chunk a row lies in. -/
def hi (i : S1024x768.Idx) : Fin 32 := ⟨(i 0).val / 32, by have : (i 0).val < 1024 := (i 0).isLt; omega⟩
/-- Its place within the chunk. -/
def low (i : S1024x768.Idx) : S32x768.Idx := fun
  | 0 => ⟨(i 0).val % 32, by show _ < 32; omega⟩
  | 1 => ⟨(i 1).val, (i 1).isLt⟩
/-- Place `j` of chunk `n`. -/
def up (n : Fin 32) (j : S32x768.Idx) : S1024x768.Idx := fun
  | 0 => ⟨32 * n.val + (j 0).val, by have : (j 0).val < 32 := (j 0).isLt; have := n.isLt; show _ < 1024; omega⟩
  | 1 => ⟨(j 1).val, (j 1).isLt⟩

/-- A place of chunk `n` lies in chunk `n`. -/
theorem hi_up (n : Fin 32) (j : S32x768.Idx) : hi (up n j) = n := by
  have : (j 0).val < 32 := (j 0).isLt
  exact Fin.ext (show (32 * n.val + (j 0).val) / 32 = n.val by omega)
/-- A place of a chunk is at its own place there. -/
theorem low_up (n : Fin 32) (j : S32x768.Idx) : low (up n j) = j := by
  have : (j 0).val < 32 := (j 0).isLt
  funext a; fin_cases a
  · exact Fin.ext (show (32 * n.val + (j 0).val) % 32 = (j 0).val by omega)
  · rfl
/-- Chunk and place within it give a place back. -/
theorem up_low (i : S1024x768.Idx) : up (hi i) (low i) = i := by
  funext a; fin_cases a
  · exact Fin.ext (show 32 * ((i 0).val / 32) + (i 0).val % 32 = (i 0).val by omega)
  · rfl

/-- The places of chunk `n`. -/
def rows (n : Fin 32) : Finset S1024x768.Idx := Finset.univ.filter fun i => hi i = n
/-- The places of chunk `n` are those that lie in it. -/
theorem mem_rows {n : Fin 32} {i : S1024x768.Idx} : i ∈ rows n ↔ hi i = n := by simp [rows]
/-- Different chunks share no place. -/
theorem rows_disjoint {n n' : Fin 32} (h : n ≠ n') : Disjoint (rows n) (rows n') :=
  Finset.disjoint_left.2 fun i hi hi' => h ((mem_rows.1 hi).symm.trans (mem_rows.1 hi'))
/-- The chunks are the whole buffer. -/
theorem rows_cover : (Finset.univ : Finset (Fin 32)).biUnion rows = Finset.univ :=
  Finset.eq_univ_of_forall fun i => Finset.mem_biUnion.2 ⟨hi i, Finset.mem_univ _, mem_rows.2 rfl⟩
/-- A placement of a chunk that is `up n` fills the places of chunk `n`. -/
theorem map_rows (E : S32x768.Idx ↪ S1024x768.Idx) (n : Fin 32) (h : ∀ j, E j = up n j) : Finset.univ.map E = rows n := by
  ext i
  rw [Finset.mem_map, mem_rows]
  constructor
  · rintro ⟨j, -, rfl⟩; rw [h, hi_up]
  · intro hi; exact ⟨low i, Finset.mem_univ _, by rw [h, ← hi, up_low]⟩

/-! ## Contents -/

/-- Chunk `n` of a buffer. -/
def part (f : Big F) (n : Fin 32) : Small F := fun j => f (up n j)
/-- What the landing buffer of device `c` holds in the end: in chunk `s`, chunk `c` of the buffer of device `s`. -/
def landed (x : Dev nD → Big F) (c : Dev nD) : Big F := fun i => x (hi i) (up c (low i))
/-- What device `s` computes of its chunk. -/
def reduced (x : Dev nD → Big F) (s : Dev nD) : Small F := k2_pay1 (me s) (part (x s) s) (landed x s)
/-- The whole result. -/
def total (x : Dev nD → Big F) : Big F := fun i => reduced x (hi i) (low i)

/-! ## Resources -/

/-- The names of duties: devices. -/
abbrev UB : Type := URounds (GSem nD τ sig) (Fin 32)
/-- The ghost state: the pipeline's and the protocol's. -/
abbrev UU : Type := UR sig nD τ × UB

local notation "𝕄" => MT nD τ sig Unit (Elt F) ℕ UU ℕ

/-- The pipeline's part of it. -/
abbrev EP : Emb (UR sig nD τ) (MT nD τ sig Unit (Elt F) ℕ UU ℕ) := embL
/-- The protocol's part of it. -/
abbrev ER : Emb UB (MT nD τ sig Unit (Elt F) ℕ UU ℕ) := embR

/-- The input. -/
abbrev aM : Memref sig .tc .vmem S1024x768 .f32 := Memref.whole cc2_stg0_0
/-- The result. -/
abbrev bM : Memref sig .tc .vmem S1024x768 .f32 := Memref.whole cc2_stg1_0
/-- The landing buffer. -/
abbrev accM : Memref sig .tc .vmem S1024x768 .f32 := Memref.whole cc2_scratch0

/-- Chunk `n` of the input of device `c`. -/
def aPts (c : Dev nD) (n : Fin 32) (f : Big F) : sProp 𝕄 := (c : Thread nD τ).loc cc2_stg0_0 ↦[rows n]{fullShare} f
/-- Chunk `n` of the result of device `c`, at a share. -/
def bPts (c : Dev nD) (n : Fin 32) (q : PosShare TreeShare) (f : Big F) : sProp 𝕄 := (c : Thread nD τ).loc cc2_stg1_0 ↦[rows n]{q} f
/-- Chunk `n` of the landing buffer of device `c`. -/
def accPts (c : Dev nD) (n : Fin 32) (f : Big F) : sProp 𝕄 := (c : Thread nD τ).loc cc2_scratch0 ↦[rows n]{fullShare} f

omit [FloatOps F] in
/-- A chunk of the input may be handed over. -/
instance aPts_storable [FloatOps F] (c : Dev nD) (n) (f : Big F) : BI.Storable (upEmb : UEmb _ 𝕄) (aPts c n f) := by unfold aPts; infer_instance
/-- A chunk of the result may be handed over. -/
instance bPts_storable (c : Dev nD) (n q) (f : Big F) : BI.Storable (upEmb : UEmb _ 𝕄) (bPts c n q f) := by unfold bPts; infer_instance
/-- A chunk of the landing buffer may be handed over. -/
instance accPts_storable (c : Dev nD) (n) (f : Big F) : BI.Storable (upEmb : UEmb _ 𝕄) (accPts c n f) := by unfold accPts; infer_instance

/-! ## Semaphores -/

/-- A device's semaphores: the barrier, and four kinds (first copies sent, first copies received, second copies sent, second copies
    received) with one per device each. -/
abbrev Slot : Type := Option (Fin 4 × Fin 32)

/-- Copy semaphore `n` of kind `j`. -/
def dmaAt (j : Fin 4) (n : Fin 32) : DmaSem sig := ⟨20 + 32 * j.val + n.val, by have := j.isLt; have := n.isLt; show _ < 148; omega⟩
/-- The kernel's first array of semaphores is kind 0. -/
theorem cell_sent1 (n : Fin 32) : cell cc2_scratch1 n = dmaAt 0 n := by revert n; decide
/-- The second is kind 1. -/
theorem cell_recv1 (n : Fin 32) : cell cc2_scratch2 n = dmaAt 1 n := by revert n; decide
/-- The third is kind 2. -/
theorem cell_sent2 (n : Fin 32) : cell cc2_scratch3 n = dmaAt 2 n := by revert n; decide
/-- The fourth is kind 3. -/
theorem cell_recv2 (n : Fin 32) : cell cc2_scratch4 n = dmaAt 3 n := by revert n; decide

/-- The semaphore of a name. -/
def semOf : Slot → SemLoc sig
  | none => .reg bar.sem
  | some (j, n) => .dma (dmaAt j n)
/-- The name of a semaphore, where it has one. -/
def slotOf : SemLoc sig → Option Slot
  | .reg _ => some none
  | .dma k => if h : 20 ≤ k.val then
      some (some (⟨(k.val - 20) / 32, by have : k.val < 148 := k.isLt; omega⟩, ⟨(k.val - 20) % 32, by omega⟩)) else none
/-- A name's semaphore has that name. -/
theorem slotOf_semOf (k : Slot) : slotOf (semOf k) = some k := by
  obtain _ | ⟨j, n⟩ := k
  · rfl
  · have h : 20 ≤ (dmaAt j n).val := by show 20 ≤ 20 + 32 * j.val + n.val; omega
    have hn := n.isLt
    show dite _ _ _ = _
    rw [dif_pos h]
    congr 3
    · exact Fin.ext (show (20 + 32 * j.val + n.val - 20) / 32 = j.val by omega)
    · exact Fin.ext (show (20 + 32 * j.val + n.val - 20) % 32 = n.val by omega)
/-- Different names are different semaphores. -/
theorem semOf_injective : Function.Injective semOf := fun k k' h => by
  have := congrArg slotOf h; rw [slotOf_semOf, slotOf_semOf] at this; exact Option.some.inj this

/-- Semaphore `k` of device `c`. -/
abbrev kc (c : Dev nD) (k : Slot) : GSem nD τ sig := ((c : Thread nD τ), semOf k)

/-- What a copy of a chunk counts. -/
def N : ℕ := (chunk accM 0).view.dmaCredit
/-- A copy counts something. -/
theorem N_pos : 0 < N := View.dmaCredit_pos _ (by decide)

/-! ## The schedule -/

/-- Room at device `n` for the first copy of device `c`: chunk `c` of its landing buffer, and that the arrival's semaphore is in use. -/
def room1 (c n : Dev nD) : sProp 𝕄 := iprop((∃ f, accPts n c f) ∗ reached ER (kc n (some (1, c))) 0)
/-- Likewise for the second copy: chunk `c` of its result. -/
def room2 (c n : Dev nD) : sProp 𝕄 := iprop((∃ f, bPts n c fullShare f) ∗ reached ER (kc n (some (3, c))) 0)
/-- What device `p` hands device `c` on entry: room for both of its copies. -/
def barPay (p c : Dev nD) : sProp 𝕄 := iprop(room1 c p ∗ room2 c p)
/-- What comes with a copy at semaphore `(j, n)` of device `c`. -/
def copyPay (x : Dev nD → Big F) (c : Dev nD) (j : Fin 4) (n : Fin 32) : sProp 𝕄 :=
  match j with
  | 0 => aPts c n (x c)
  | 1 => accPts c n (landed x c)
  | 2 => bPts c c (ShareLeaves.leaf 5 fullShare n) (total x)
  | 3 => bPts c n fullShare (total x)

variable (x : Dev nD → Big F)

/-- One round: at a barrier every other device pays one unit; at a copy's semaphore of another device, that device's copy pays. -/
def sched : Rounds.Schedule (GSem nD τ sig) (Fin 32) 𝕄 where
  duties g r := if r = 0 ∧ g.1.2 = .tc then
      match slotOf g.2 with
      | some none => Finset.univ.erase g.1.1
      | some (some (_, n)) => if n = g.1.1 then ∅ else {n}
      | none => ∅
    else ∅
  unitless _ := False
  amount g _ _ := match slotOf g.2 with
    | some none => 1
    | _ => N
  payload g _ d := match slotOf g.2 with
    | some none => barPay d g.1.1
    | some (some (j, n)) => copyPay x g.1.1 j n
    | none => iprop(emp)
  amount_pos g _ _ _ := by
    split
    · exact Nat.one_pos
    · exact N_pos

/-- What comes with a copy may be handed over. -/
instance copyPay_storable (c : Dev nD) (j : Fin 4) (n : Fin 32) : BI.Storable (upEmb : UEmb _ 𝕄) (copyPay x c j n) := by
  unfold copyPay; split <;> infer_instance
/-- What comes with an entry signal may be handed over. -/
instance barPay_storable (p c : Dev nD) : BI.Storable (upEmb : UEmb _ 𝕄) (barPay (F := F) p c) := by
  unfold barPay room1 room2; infer_instance

/-- So may all that the schedule promises. -/
instance sched_payload_storable (g : GSem nD τ sig) (r : ℕ) (d : Fin 32) : BI.Storable (upEmb : UEmb _ 𝕄) ((sched x).payload g r d) := by
  show BI.Storable upEmb (match slotOf g.2 with
    | some none => barPay d g.1.1 | some (some (j, n)) => copyPay x g.1.1 j n | none => iprop(emp))
  split <;> infer_instance

section Sched
variable (c : Dev nD) (j : Fin 4) (n : Fin 32)

/-- At a barrier every other device pays. -/
theorem duties_bar : (sched x).duties (kc c none) 0 = Finset.univ.erase c := by
  dsimp only [sched]; rw [if_pos ⟨rfl, rfl⟩, slotOf_semOf]
/-- At a copy's semaphore the named device pays, if it is another. -/
theorem duties_copy : (sched x).duties (kc c (some (j, n))) 0 = if n = c then ∅ else {n} := by
  dsimp only [sched]; rw [if_pos ⟨rfl, rfl⟩, slotOf_semOf]
/-- There is no second round. -/
theorem duties_later (g : GSem nD τ sig) : ∀ r, 1 ≤ r → (sched x).duties g r = ∅ :=
  fun r hr => by dsimp only [sched]; rw [if_neg fun h => by omega]
/-- Nobody pays at a device's own semaphore of its own name. -/
theorem duties_self (g : GSem nD τ sig) (hg : g = kc c (some (j, c))) : ∀ r, 0 ≤ r → (sched x).duties g r = ∅ := fun r _ => by
  subst hg
  obtain rfl | h := Nat.eq_zero_or_pos r
  · rw [duties_copy, if_pos rfl]
  · exact duties_later x _ r h
/-- An entry signal is one unit. -/
theorem amount_bar (d : Fin 32) : (sched x).amount (kc c none) 0 d = 1 := by dsimp only [sched]; rw [slotOf_semOf]
/-- A copy pays its count. -/
theorem amount_copy (d : Fin 32) : (sched x).amount (kc c (some (j, n))) 0 d = N := by dsimp only [sched]; rw [slotOf_semOf]
/-- What an entry signal hands over. -/
theorem payload_bar (d : Fin 32) : (sched x).payload (kc c none) 0 d = barPay d c := by dsimp only [sched]; rw [slotOf_semOf]
/-- What a copy hands over. -/
theorem payload_copy (d : Fin 32) : (sched x).payload (kc c (some (j, n))) 0 d = copyPay x c j n := by dsimp only [sched]; rw [slotOf_semOf]

/-- A barrier expects 31 units. -/
theorem expect_bar : (sched x).expect (kc c none) 0 = 31 := by
  unfold Schedule.expect Schedule.amountOf
  rw [duties_bar, Finset.sum_congr rfl fun d _ => amount_bar x c d, Finset.sum_const, Finset.card_erase_of_mem (Finset.mem_univ _)]
  rfl
/-- A copy's semaphore expects one copy. -/
theorem expect_copy (h : n ≠ c) : (sched x).expect (kc c (some (j, n))) 0 = N := by
  unfold Schedule.expect Schedule.amountOf; rw [duties_copy, if_neg h, Finset.sum_singleton, amount_copy]
/-- What a barrier yields in all. -/
theorem rest_bar : bigSep ((sched x).duties (kc c none) 0 \ ∅) (fun d => (sched x).payload (kc c none) 0 d)
    = bigSep (Finset.univ.erase c) fun p => barPay p c := by
  rw [Finset.sdiff_empty, duties_bar]; exact bigSep_congr fun d _ => payload_bar x c d
/-- What a copy's semaphore yields in all. -/
theorem rest_copy (h : n ≠ c) : bigSep ((sched x).duties (kc c (some (j, n))) 0 \ ∅) (fun d => (sched x).payload (kc c (some (j, n))) 0 d)
    = copyPay x c j n := by
  rw [Finset.sdiff_empty, duties_copy, if_neg h, bigSep_singleton, payload_copy]
end Sched

/-! ## What a device owes, and the levels -/

/-- What is owed at one cell for each device of a set. -/
def owing (g : Fin 32 → GSem nD τ sig) (k : ℕ) (s : Finset (Fin 32)) : CellTallies nD τ sig Unit := ∑ n ∈ s, tallyAt (g n) () k
/-- To nobody nothing is owed. -/
theorem owing_empty (g : Fin 32 → GSem nD τ sig) (k : ℕ) : owing g k ∅ = 0 := Finset.sum_empty
/-- What is owed to a set is what is owed to the rest and to one of it. -/
theorem owing_erase (g : Fin 32 → GSem nD τ sig) (k : ℕ) {s : Finset (Fin 32)} {n : Fin 32} (h : n ∈ s) :
    owing g k s = owing g k (s.erase n) + tallyAt (g n) () k := (Finset.sum_erase_add _ _ h).symm
/-- What is owed is owed to one of the set. -/
theorem owing_pos {g : Fin 32 → GSem nD τ sig} {k : ℕ} {s : Finset (Fin 32)} {h : GSem nD τ sig} {u : Unit}
    (hp : 0 < owing g k s h u) : ∃ n ∈ s, h = g n := by
  unfold owing at hp
  rw [Finset.sum_apply, Finsupp.finset_sum_apply] at hp
  obtain ⟨n, hn, hne⟩ := Finset.exists_ne_zero_of_sum_ne_zero (Nat.pos_iff_ne_zero.1 hp)
  refine ⟨n, hn, ?_⟩
  by_contra hc
  rw [tallyAt_apply, if_neg fun h' => hc h'.1] at hne
  exact hne rfl

/-- The other devices. -/
abbrev others (c : Dev nD) : Finset (Fin 32) := Finset.univ.erase c
/-- The entry signals to a set of devices. -/
abbrev owB (s : Finset (Fin 32)) : CellTallies nD τ sig Unit := owing (fun n => kc n none) 1 s
/-- The first copies to a set of devices. -/
abbrev ow1 (c : Dev nD) (s : Finset (Fin 32)) : CellTallies nD τ sig Unit := owing (fun n => kc n (some (1, c))) N s
/-- The second copies to a set of devices. -/
abbrev ow2 (c : Dev nD) (s : Finset (Fin 32)) : CellTallies nD τ sig Unit := owing (fun n => kc n (some (3, c))) N s
/-- What device `c` owes on entry. -/
def O₀ (c : Dev nD) : CellTallies nD τ sig Unit := ow2 c (others c) + ow1 c (others c) + owB (others c)

/-- Levels are of the devices' main cores. -/
def L (g : GSem nD τ sig) : Finset Unit := if g.1.2 = .tc then {()} else ∅
/-- Barriers at 1, first copies' arrivals at 2, second copies' at 3, the rest at 0. -/
def lv (g : GSem nD τ sig) (_ : Unit) : ℕ := match slotOf g.2 with
  | some none => 1
  | some (some (j, _)) => if j = 1 then 2 else if j = 3 then 3 else 0
  | none => 0

/-- Other cores have none. -/
theorem L_of_ne (g : GSem nD τ sig) (h : g.1.2 ≠ .tc) : L g = ∅ := if_neg h
/-- A main core has one at each semaphore. -/
theorem L_tc (c : Dev nD) (sm : SemLoc sig) : L ((c : Thread nD τ), sm) = {()} := if_pos rfl
/-- The level of a barrier. -/
theorem lv_bar (c : Dev nD) : lv (kc c none) () = 1 := by unfold lv; rw [slotOf_semOf]
/-- The level of a copy's semaphore. -/
theorem lv_copy (c : Dev nD) (j : Fin 4) (n : Fin 32) : lv (kc c (some (j, n))) () = if j = 1 then 2 else if j = 3 then 3 else 0 := by
  unfold lv; rw [slotOf_semOf]

/-- The level facts. -/
@[irreducible] def levels : sProp 𝕄 := levAts L lv
instance levels_persistent : BI.Persistent (levels (F := F)) := by unfold levels; infer_instance

/-- A wait at a level below all that is owed is allowed. -/
theorem mayWait_below (c : Dev nD) (sm : SemLoc sig) (cut : ℕ) (O : CellTallies nD τ sig Unit) (hsm : lv ((c : Thread nD τ), sm) () = cut)
    (hO : ∀ g u, 0 < O g u → ∃ d k, g = kc d k ∧ cut < lv g ()) : (levels : sProp 𝕄) ⊢ MayWait (c : Thread nD τ) sm () O := by
  unfold levels
  exact MayOwe.of_cut (L := L) (lev := lv) cut (fun p hp => by rw [Finset.mem_singleton.mp hp, L_tc]; exact Finset.mem_singleton_self _)
    (fun g u hg => by obtain ⟨d, k, rfl, -⟩ := hO g u hg; rw [L_tc]; exact Finset.mem_singleton_self _)
    (fun p hp => by rw [Finset.mem_singleton.mp hp]; exact hsm.le)
    (fun g u hg => by obtain ⟨d, k, -, h⟩ := hO g u hg; exact h)

/-- What a sum owes one of its terms owes. -/
theorem add_pos {O O' : CellTallies nD τ sig Unit} {g u} (h : 0 < (O + O') g u) : 0 < O g u ∨ 0 < O' g u := by
  rw [Pi.add_apply, Finsupp.add_apply] at h; omega

/-- Second copies are owed above level 2. -/
theorem ow2_pos {c : Dev nD} {s g u} (h : 0 < ow2 c s g u) : ∃ d k, g = kc d k ∧ 2 < lv g () := by
  obtain ⟨n, -, rfl⟩ := owing_pos h; exact ⟨n, _, rfl, by rw [lv_copy]; decide⟩
/-- First copies are owed above level 1. -/
theorem ow1_pos {c : Dev nD} {s g u} (h : 0 < ow1 c s g u) : ∃ d k, g = kc d k ∧ 1 < lv g () := by
  obtain ⟨n, -, rfl⟩ := owing_pos h; exact ⟨n, _, rfl, by rw [lv_copy]; decide⟩
/-- Entry signals are owed above level 0. -/
theorem owB_pos {s g u} (h : 0 < owB s g u) : ∃ d k, g = kc d k ∧ 0 < lv g () := by
  obtain ⟨n, -, rfl⟩ := owing_pos h; exact ⟨n, _, rfl, by rw [lv_bar]; decide⟩
/-- All that is owed on entry is owed above level 0. -/
theorem O₀_pos {c : Dev nD} {g u} (h : 0 < O₀ c g u) : ∃ d k, g = kc d k ∧ 0 < lv g () := by
  obtain h | h := add_pos h
  · obtain h | h := add_pos h
    · obtain ⟨d, k, e, hl⟩ := ow2_pos h; exact ⟨d, k, e, by omega⟩
    · obtain ⟨d, k, e, hl⟩ := ow1_pos h; exact ⟨d, k, e, by omega⟩
  · exact owB_pos h

/-- A wait of the staging is allowed on entry and at the end. -/
theorem mayWait_stage (c : Dev nD) (q : DmaSem sig) (hq : slotOf (.dma q) = none) (O : CellTallies nD τ sig Unit) (hO : O = O₀ c ∨ O = 0) :
    (levels : sProp 𝕄) ⊢ MayWait (c : Thread nD τ) (.dma q) () O := by
  rcases hO with rfl | rfl
  · exact mayWait_below c _ 0 _ (by unfold lv; rw [hq]) fun g u => O₀_pos
  · rw [MayWait_zero]; iintro -; iempintro
/-- The wait at the barrier is allowed while the copies are owed. -/
theorem mayWait_bar (c : Dev nD) : (levels : sProp 𝕄) ⊢ MayWait (c : Thread nD τ) (.reg bar.sem) () (ow2 c (others c) + ow1 c (others c)) :=
  mayWait_below c _ 1 _ (lv_bar c) fun g u h => by
    obtain h | h := add_pos h
    · obtain ⟨d, k, e, hl⟩ := ow2_pos h; exact ⟨d, k, e, by omega⟩
    · exact ow1_pos h
/-- A wait for a first copy is allowed while the second copies are owed. -/
theorem mayWait_recv1 (c : Dev nD) (n : Fin 32) : (levels : sProp 𝕄) ⊢ MayWait (c : Thread nD τ) (.dma (dmaAt 1 n)) () (ow2 c (others c)) :=
  mayWait_below c _ 2 _ (lv_copy c 1 n) fun g u h => ow2_pos h

end Cert.KernelIdeal.Ar
-- ==== Proof.Body.lean ====
/-
The body of the all-reduce, executed symbolically: one lemma per loop over the peers, then the whole.
-/
module

public import proofs.«01_k».proof.Proof.Proto

@[expose] public section

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop variants are needed. -/
abbrev 𝒱₀ : Variants := Variants.none

/-! ## Chunks of the three buffers -/

section Chunks
variable (n : Fin 32) (j : S32x768.Idx)

/-- Place `j` of chunk `n` of the input is place `up n j` of the whole. -/
theorem emb_a : (chunk aM n).view.emb j = up n j := by
  funext a; fin_cases a
  · exact Fin.ext (show 32 * n.val + 1 * (j 0).val = 32 * n.val + (j 0).val by omega)
  · exact Fin.ext (show 0 + 1 * (j 1).val = (j 1).val by omega)
/-- Likewise of the result. -/
theorem emb_b : (chunk bM n).view.emb j = up n j := by
  funext a; fin_cases a
  · exact Fin.ext (show 32 * n.val + 1 * (j 0).val = 32 * n.val + (j 0).val by omega)
  · exact Fin.ext (show 0 + 1 * (j 1).val = (j 1).val by omega)
/-- Likewise of the landing buffer. -/
theorem emb_acc : (chunk accM n).view.emb j = up n j := by
  funext a; fin_cases a
  · exact Fin.ext (show 32 * n.val + 1 * (j 0).val = 32 * n.val + (j 0).val by omega)
  · exact Fin.ext (show 0 + 1 * (j 1).val = (j 1).val by omega)
/-- A chunk of the input is the places of its rows. -/
theorem set_a : (chunk aM n).view.set = rows n := map_rows _ n (emb_a n)
/-- Likewise of the result. -/
theorem set_b : (chunk bM n).view.set = rows n := map_rows _ n (emb_b n)
/-- Likewise of the landing buffer. -/
theorem set_acc : (chunk accM n).view.set = rows n := map_rows _ n (emb_acc n)
/-- What a chunk of the input reads. -/
theorem read_a (f : Big F) : (chunk aM n).view.read (Elt F) f = part f n := funext fun j =>
  congrArg (fun i : S1024x768.Idx => (f i : Elt F .f32)) (emb_a n j)
/-- What a chunk of the result reads. -/
theorem read_b (f : Big F) : (chunk bM n).view.read (Elt F) f = part f n := funext fun j =>
  congrArg (fun i : S1024x768.Idx => (f i : Elt F .f32)) (emb_b n j)
/-- A chunk of the landing buffer rewritten holds what was written. -/
theorem write_acc (f : Big F) (w : Small F) {i : S1024x768.Idx} (h : i ∈ rows n) :
    (chunk accM n).view.write (Elt F) f w Finset.univ i = w (low i) := by
  have e : i = (chunk accM n).view.emb (low i) := by rw [emb_acc, ← mem_rows.1 h, up_low]
  exact (congrArg _ e).trans (View.write_emb_of_mem (v := (chunk accM n).view) f w (Finset.mem_univ (low i)))
/-- Likewise of the result. -/
theorem write_b (f : Big F) (w : Small F) {i : S1024x768.Idx} (h : i ∈ rows n) :
    (chunk bM n).view.write (Elt F) f w Finset.univ i = w (low i) := by
  have e : i = (chunk bM n).view.emb (low i) := by rw [emb_b, ← mem_rows.1 h, up_low]
  exact (congrArg _ e).trans (View.write_emb_of_mem (v := (chunk bM n).view) f w (Finset.mem_univ (low i)))

/-- What a copy of a chunk of the landing buffer counts. -/
theorem credit_acc : (chunk accM n).view.dmaCredit = N := rfl
/-- Likewise of the input. -/
theorem credit_a : (chunk aM n).view.dmaCredit = N := rfl
/-- Likewise of the result. -/
theorem credit_b : (chunk bM n).view.dmaCredit = N := rfl
end Chunks

/-! ## A loop over the peers -/

/-- What a core still owes, whatever it has waited for. -/
def ow (c : Dev nD) (O : CellTallies nD τ sig Unit) : sProp 𝕄 := iprop(∃ W, owes (c : Thread nD τ) O W)

/-- A program of core `c` runs to `Q`. -/
abbrev WP {α : Type} (c : Dev nD) (p : Code F α) (Q : α → sProp 𝕄) : sProp 𝕄 :=
  wp frame (wpE (defs₀ (F := F)) 𝒱₀ (c : Thread nD τ) none) Set.univ p Q

/-- One member of a family set apart. -/
theorem bigSep_apart {I : Type} [DecidableEq I] {s : Finset I} {i : I} (h : i ∈ s) (Φ : I → sProp 𝕄) :
    bigSep s Φ = iprop(Φ i ∗ bigSep (s.erase i) Φ) := BI.bigSep_erase h
/-- One member of a family. -/
theorem bigSep_one {I : Type} [DecidableEq I] {s : Finset I} {i : I} (h : i ∈ s) (Φ : I → sProp 𝕄) : bigSep s Φ ⊢ Φ i := BI.bigSep_elim h

/-- A loop: each step turns its peer's `Φ` into its `Ψ` and pays off what is owed to it. -/
theorem wp_each {α : Type} (c : Dev nD) (f : Fin 32 → Code F PUnit) (k : Code F α) (Q : α → sProp 𝕄) (R : sProp 𝕄) [BI.Persistent R]
    (Φ Ψ : Fin 32 → sProp 𝕄) (O : Finset (Fin 32) → CellTallies nD τ sig Unit)
    (step : ∀ (s : Finset (Fin 32)) (n : Fin 32), n ∈ s → n ≠ c → ∀ r : Code F α,
      iprop(R ∗ ow c (O s) ∗ Φ n) ⊢ iprop((ow c (O (s.erase n)) ∗ Ψ n -∗ WP c r Q) -∗ WP c (f n >>= fun _ => r) Q)) :
    iprop(R ∗ ow c (O (others c)) ∗ bigSep (others c) Φ)
      ⊢ iprop((ow c (O ∅) ∗ bigSep (others c) Ψ -∗ WP c k Q) -∗ WP c (each c f (List.finRange 32) k) Q) := by
  have go : ∀ l : List (Fin 32), l.Nodup → iprop(R ∗ ow c (O (l.toFinset.erase c)) ∗ bigSep (l.toFinset.erase c) Φ)
      ⊢ iprop((ow c (O ∅) ∗ bigSep (l.toFinset.erase c) Ψ -∗ WP c k Q) -∗ WP c (each c f l k) Q) := by
    intro l
    induction l with
    | nil =>
      intro _
      rw [List.toFinset_nil, Finset.erase_empty]
      iintro ⟨#HR, HO, HΦ⟩ Hk
      iapply Hk
      isplitl [HO]; · iexact HO
      iexact HΦ
    | cons n l ih =>
      intro hl
      obtain ⟨hn, hl⟩ := List.nodup_cons.1 hl
      have hn' : n ∉ l.toFinset := fun h => hn (List.mem_toFinset.1 h)
      show _ ⊢ iprop(_ -∗ WP c (if n ≠ c then f n >>= fun _ => each c f l k else each c f l k) Q)
      by_cases h : n ≠ c
      · have hm : n ∈ ((n :: l).toFinset.erase c) := Finset.mem_erase.2 ⟨h, by rw [List.toFinset_cons]; exact Finset.mem_insert_self _ _⟩
        have he : ((n :: l).toFinset.erase c).erase n = l.toFinset.erase c := by
          rw [List.toFinset_cons, Finset.erase_right_comm, Finset.erase_insert hn']
        rw [if_pos h, bigSep_apart hm, bigSep_apart hm, he]
        iintro ⟨#HR, HO, HΦn, HΦ⟩ Hk
        iapply (step _ n hm h (each c f l k)) $$ [HO HΦn]
        · isplitr; · iexact HR
          isplitl [HO]; · iexact HO
          iexact HΦn
        rw [he]
        iintro ⟨HO, HΨn⟩
        iapply (ih hl) $$ [HO HΦ]
        · isplitr; · iexact HR
          isplitl [HO]; · iexact HO
          iexact HΦ
        iintro ⟨HO, HΨ⟩
        iapply Hk
        isplitl [HO]; · iexact HO
        isplitl [HΨn]; · iexact HΨn
        iexact HΨ
      · rw [if_neg h]
        have hc : n = c := not_not.1 h
        have he : (n :: l).toFinset.erase c = l.toFinset.erase c := by rw [List.toFinset_cons, ← hc, Finset.erase_insert_eq_erase]
        rw [he]
        exact ih hl
  have := go (List.finRange 32) (List.nodup_finRange 32)
  rwa [show (List.finRange 32).toFinset = Finset.univ from List.toFinset_finRange 32] at this

/-! ## What every device knows -/

variable (x : Dev nD → Big F) (K : Dev nD × Slot → ℕ)

/-- What device `c` knows: all semaphores follow the schedule; all barriers and its own semaphores are in its round; the levels. -/
def known (c : Dev nD) : sProp 𝕄 := iprop((bigSep Finset.univ fun p : Dev nD × Slot => cellInv ER (sched x) (K p) (kc p.1 p.2))
  ∗ (bigSep Finset.univ fun p : Dev nD => reached ER (kc p none) 0)
  ∗ (bigSep Finset.univ fun q : Fin 4 × Fin 32 => reached ER (kc c (some q)) 0) ∗ levels)
/-- What is known stays known. -/
instance known_persistent (c : Dev nD) : BI.Persistent (known x K c) := by unfold known; infer_instance
/-- Every semaphore follows the schedule. -/
theorem known_inv (c n : Dev nD) (k : Slot) : known x K c ⊢ cellInv ER (sched x) (K (n, k)) (kc n k) := by
  unfold known
  iintro ⟨H, -, -, -⟩
  iapply (bigSep_one (Finset.mem_univ (n, k)) (fun p : Dev nD × Slot => (cellInv ER (sched x) (K p) (kc p.1 p.2) : sProp 𝕄)))
  iexact H
/-- Every barrier follows the schedule and is in its round. -/
theorem known_bar (c n : Dev nD) : known x K c ⊢ iprop(cellInv ER (sched x) (K (n, none)) (kc n none) ∗ reached ER (kc n none) 0) := by
  iintro #H
  isplitr
  · iapply (known_inv x K c n none); iexact H
  · unfold known
    icases H with ⟨-, H, -, -⟩
    iapply (bigSep_one (Finset.mem_univ n) (fun p : Dev nD => (reached ER (kc p none) 0 : sProp 𝕄)))
    iexact H
/-- Every own semaphore is in its round. -/
theorem known_own (c : Dev nD) : known x K c ⊢ bigSep Finset.univ fun q : Fin 4 × Fin 32 => reached ER (kc c (some q)) 0 := by
  unfold known
  iintro ⟨-, -, H, -⟩
  iexact H
/-- One of the own semaphores. -/
theorem known_cell (c : Dev nD) (q : Fin 4 × Fin 32) :
    known x K c ⊢ iprop(cellInv ER (sched x) (K (c, some q)) (kc c (some q)) ∗ reached ER (kc c (some q)) 0) := by
  iintro #H
  isplitr
  · iapply (known_inv x K c c (some q)); iexact H
  · iapply (bigSep_one (Finset.mem_univ q) (fun q : Fin 4 × Fin 32 => (reached ER (kc c (some q)) 0 : sProp 𝕄)))
    iapply (known_own x K c); iexact H
/-- The levels are known. -/
theorem known_lev (c : Dev nD) : known x K c ⊢ (levels : sProp 𝕄) := by
  unfold known
  iintro ⟨-, -, -, H⟩
  iexact H

/-- Every other device has a duty at a barrier. -/
theorem mem_bar {c n : Dev nD} (hn : n ≠ c) : c ∈ (sched x).duties (kc n none) 0 := by
  rw [duties_bar]; exact Finset.mem_erase.2 ⟨hn.symm, Finset.mem_univ _⟩
/-- It is one unit. -/
theorem amount_one (c n : Dev nD) : (sched x).amount (kc n none) 0 c = (1#32).toInt.toNat := (amount_bar x n c).trans (by decide)
/-- A copy's semaphore of another device has that device's duty. -/
theorem mem_copy (c : Dev nD) (j : Fin 4) {n : Fin 32} (hn : n ≠ c) : n ∈ (sched x).duties (kc c (some (j, n))) 0 := by
  rw [duties_copy, if_neg hn]; exact Finset.mem_singleton_self _

/-- What the first copy takes along and what it brings. -/
theorem pay_sent1 (c n : Dev nD) : ((chunk aM n).view.loc (c : Thread nD τ) ↦[(chunk aM n).view.set]{fullShare} x c : sProp 𝕄)
    ⊢ (sched x).payload (kc c (some (0, n))) 0 n := by
  rw [set_a, payload_copy]; exact BI.Entails.refl _
/-- A first copy that landed at device `n` is what its receive semaphore promises. -/
theorem pay_recv1 (c n : Dev nD) (f : Big F) : ((chunk accM c).view.loc (n : Thread nD τ) ↦[(chunk accM c).view.set]{fullShare}
      (chunk accM c).view.write (Elt F) f ((chunk aM n).view.read (Elt F) (x c)) Finset.univ : sProp 𝕄)
    ⊢ (sched x).payload (kc n (some (1, c))) 0 c := by
  rw [set_acc, payload_copy, read_a]
  refine Entails.of_eq (pointsTo_congr fun i hi => ?_)
  rw [write_acc c f _ hi]
  show x c (up n (low i)) = x (Cert.KernelIdeal.Ar.hi i) (up n (low i))
  rw [mem_rows.1 hi]
/-- What the second copy takes along and what it brings. -/
theorem pay_sent2 (c n : Dev nD) : ((chunk bM c).view.loc (c : Thread nD τ) ↦[(chunk bM c).view.set]{ShareLeaves.leaf 5 fullShare n} total x : sProp 𝕄)
    ⊢ (sched x).payload (kc c (some (2, n))) 0 n := by
  rw [set_b, payload_copy]; exact BI.Entails.refl _
/-- A second copy that landed at device `n` is what its receive semaphore promises. -/
theorem pay_recv2 (c n : Dev nD) (f : Big F) : ((chunk bM c).view.loc (n : Thread nD τ) ↦[(chunk bM c).view.set]{fullShare}
      (chunk bM c).view.write (Elt F) f ((chunk bM c).view.read (Elt F) (total x)) Finset.univ : sProp 𝕄)
    ⊢ (sched x).payload (kc n (some (3, c))) 0 c := by
  rw [set_b, payload_copy, read_b]
  refine Entails.of_eq (pointsTo_congr fun i hi => ?_)
  rw [write_b c f _ hi]
  exact congrArg (total x) ((congrArg (fun n => up n (low i)) (mem_rows.1 hi).symm).trans (up_low i))

section Steps
variable {α : Type} (c n : Dev nD) (hn : n ≠ c) (r : Code F α)
include hn

/-- The entry signal to peer `n`. -/
theorem wp_sig (Q : α → sProp 𝕄) (O : CellTallies nD τ sig Unit) :
    iprop(known x K c ∗ ow c (O + tallyAt (kc n none) () 1) ∗ (dutyTok ER (kc n none) 0 c ∗ barPay c n))
      ⊢ iprop((ow c O ∗ emp -∗ WP c r Q) -∗ WP c (semSignalWord n bar.sem 1#32 >>= fun _ => r) Q) := by
  unfold ow
  simp only [semSignalWord, Prog.lift, Prog.bind_op, Prog.bind_ret, Prog.pure_eq_ret]
  iintro ⟨#H, ⟨%W, HO⟩, Ht, Hp⟩ Hk
  ihave ⟨#HI, #Hr⟩ := (known_bar x K c n) $$ H
  iapply (Rounds.wp_signal 𝒱₀ ER (sched x) (c : Thread nD τ) none (dst := (n : Thread nD τ)) (κ := K (n, none))
      (d := c) (mem_bar x hn) (amount_one x c n) () O rfl (W := W))
    $$ [HO Ht Hp]
  · isplitr; · iexact HI
    isplitl [HO]; · iexact HO
    isplitl [Ht]; · iexact Ht
    isplitl [Hp]; · rw [show ((n : Thread nD τ), SemLoc.reg bar.sem) = kc n none from rfl, payload_bar]; iexact Hp
    iexact Hr
  iintro HO
  iapply Hk
  isplitl [HO]; · iexists W; iexact HO
  iempintro

/-- A wait for a copy: what came with it is the core's. -/
theorem wp_wait (Q : α → sProp 𝕄) (j : Fin 4) (src dst : Memref sig .tc .vmem S32x768 .f32) (sm : DmaSem sig) (hsm : sm = dmaAt j n)
    (hN : dst.view.dmaCredit = N) (O : CellTallies nD τ sig Unit) (hO : known x K c ⊢ MayWait (c : Thread nD τ) (.dma (dmaAt j n)) () O) :
    iprop(known x K c ∗ ow c O ∗ (cred (tallyAt (kc c (some (j, n))) () N) ∗ atPos ER (kc c (some (j, n))) 0 ∅ 0))
      ⊢ iprop((ow c O ∗ (atPos ER (kc c (some (j, n))) 1 ∅ 0 ∗ copyPay x c j n) -∗ WP c r Q) -∗ WP c (waitFor src dst sm >>= fun _ => r) Q) := by
  subst hsm
  unfold ow waitFor
  simp only [Prog.lift, Prog.bind_op, Prog.bind_ret, Prog.pure_eq_ret]
  iintro ⟨#H, ⟨%W, HO⟩, Hc, Hat⟩ Hk
  ihave ⟨#HI, #Hr⟩ := (known_cell x K c (j, n)) $$ H
  have hk : 0 + dst.view.dmaCredit = (sched x).expect (kc c (some (j, n))) 0 := by rw [Nat.zero_add, expect_copy x c j n hn]; exact hN
  iapply (Rounds.wp_wait_rest_token 𝒱₀ ER (sched x) (c : Thread nD τ) none (κ := K (c, some (j, n)))
      (wpE_waitDma2_eq 𝒱₀ (c : Thread nD τ) none Set.univ) (Set.mem_univ _) () (O := O) (W := W) (R := 0) (m := 0) (T := ∅)
      hk) $$ [Hc HO Hat]
  · isplitr; · iexact HI
    isplitl [Hc]; · rw [hN]; iexact Hc
    isplitl [HO]; · iexact HO
    isplitr; · iapply hO; iexact H
    iexact Hat
  iintro ⟨HO, Hat, -, Hpay⟩
  iapply Hk
  isplitl [HO]; · iexists _; iexact HO
  isplitl [Hat]; · iexact Hat
  iapply (Entails.of_eq (rest_copy x c j n hn)); iexact Hpay

/-- The first copy: chunk `n` of the input to peer `n`. -/
theorem wp_copy1 (Q : α → sProp 𝕄) (O : CellTallies nD τ sig Unit) :
    iprop(known x K c ∗ ow c (O + tallyAt (kc n (some (1, c))) () N)
        ∗ (aPts c n (x c) ∗ room1 c n ∗ dutyTok ER (kc c (some (0, n))) 0 n ∗ dutyTok ER (kc n (some (1, c))) 0 c))
      ⊢ iprop((ow c O ∗ cred (tallyAt (kc c (some (0, n))) () N) -∗ WP c r Q)
        -∗ WP c (copyTo (chunk aM n) (chunk accM c) n (cell cc2_scratch1 n) (cell cc2_scratch2 c) >>= fun _ => r) Q) := by
  rw [cell_sent1, cell_recv1]
  unfold ow copyTo room1
  simp only [Prog.lift, Prog.bind_op, Prog.bind_ret, Prog.pure_eq_ret]
  iintro ⟨#H, ⟨%W, HO⟩, Ha, ⟨⟨%f, Hd⟩, #Hr2⟩, Ht1, Ht2⟩ Hk
  ihave ⟨#HI1, #Hr1⟩ := (known_cell x K c (0, n)) $$ H
  ihave #HI2 := (known_inv x K c n (some (1, c))) $$ H
  unfold aPts accPts
  iapply (Rounds.wp_send_pointsTo 𝒱₀ ER (sched x) (c : Thread nD τ) none (c' := (n : Thread nD τ)) (κ₁ := K (c, some (0, n))) (κ₂ := K (n, some (1, c)))
    (src := chunk aM n) (dst := chunk accM c) (q := fullShare) (fs := x c) (fd := f) (sS := .dma (dmaAt 0 n)) (sem := .dma (dmaAt 1 c))
    (r₁ := 0) (r₂ := 0) (d₁ := n) (d₂ := c)
    (mem_copy x c 0 hn) (mem_copy x n 1 hn.symm)
    () () N (credit_acc c) (amount_copy x c 0 n n) (amount_copy x n 1 c c) O rfl (W := W) (pay_sent1 x c n) (pay_recv1 x c n f)) $$ [HO Ha Hd Ht1 Ht2]
  · isplitr; · iexact HI1
    isplitr; · iexact HI2
    isplitl [Ha]; · rw [set_a]; iexact Ha
    isplitl [Hd]; · rw [set_acc]; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-- The second copy: chunk `c` of the result to peer `n`. -/
theorem wp_copy2 (Q : α → sProp 𝕄) (O : CellTallies nD τ sig Unit) :
    iprop(known x K c ∗ ow c (O + tallyAt (kc n (some (3, c))) () N)
        ∗ (bPts c c (ShareLeaves.leaf 5 fullShare n) (total x) ∗ room2 c n ∗ dutyTok ER (kc c (some (2, n))) 0 n
          ∗ dutyTok ER (kc n (some (3, c))) 0 c))
      ⊢ iprop((ow c O ∗ cred (tallyAt (kc c (some (2, n))) () N) -∗ WP c r Q)
        -∗ WP c (copyTo (chunk bM c) (chunk bM c) n (cell cc2_scratch3 n) (cell cc2_scratch4 c) >>= fun _ => r) Q) := by
  rw [cell_sent2, cell_recv2]
  unfold ow copyTo room2
  simp only [Prog.lift, Prog.bind_op, Prog.bind_ret, Prog.pure_eq_ret]
  iintro ⟨#H, ⟨%W, HO⟩, Ha, ⟨⟨%f, Hd⟩, #Hr2⟩, Ht1, Ht2⟩ Hk
  ihave ⟨#HI1, #Hr1⟩ := (known_cell x K c (2, n)) $$ H
  ihave #HI2 := (known_inv x K c n (some (3, c))) $$ H
  unfold bPts
  iapply (Rounds.wp_send_pointsTo 𝒱₀ ER (sched x) (c : Thread nD τ) none (c' := (n : Thread nD τ)) (κ₁ := K (c, some (2, n))) (κ₂ := K (n, some (3, c)))
    (src := chunk bM c) (dst := chunk bM c) (q := ShareLeaves.leaf 5 fullShare n) (fs := total x) (fd := f) (sS := .dma (dmaAt 2 n)) (sem := .dma (dmaAt 3 c))
    (r₁ := 0) (r₂ := 0) (d₁ := n) (d₂ := c)
    (mem_copy x c 2 hn) (mem_copy x n 3 hn.symm)
    () () N (credit_b c) (amount_copy x c 2 n n) (amount_copy x n 3 c c) O rfl (W := W) (pay_sent2 x c n) (pay_recv2 x c n f)) $$ [HO Ha Hd Ht1 Ht2]
  · isplitr; · iexact HI1
    isplitr; · iexact HI2
    isplitl [Ha]; · rw [set_b]; iexact Ha
    isplitl [Hd]; · rw [set_b]; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

end Steps

end Cert.KernelIdeal.Ar
-- ==== Proof.Reduce.lean ====
/-
The reduction's masking: the device's own chunk of the landing buffer does not count.
-/
module

public import proofs.«01_k».proof.Proof.Proto
public import Idealize.ShloMosaic.Lib.Pipeline.Value

@[expose] public section

noncomputable section

namespace Cert.KernelIdeal.Ar

open Cert.KernelIdeal Cert.KernelIdeal.Gen
open Idealize.ShloMosaic

variable {F : FTy → Type} [FloatOps F]

/-- Place of row and column within a chunk. -/
def at3 (i : S32x32x768.Idx) : S32x768.Idx := fun
  | 0 => ⟨(i 1).val, (i 1).isLt⟩
  | 1 => ⟨(i 2).val, (i 2).isLt⟩
/-- Chunk of an entry of the stacked chunks. -/
def top3 (i : S32x32x768.Idx) : Fin 32 := ⟨(i 0).val, (i 0).isLt⟩

/-- The buffer seen as a stack of chunks. -/
theorem stack_apply {α : Type} (v : S1024x768.Idx → α) (i : S32x32x768.Idx) :
    shapeCast S32x32x768 v shapeCasts_S1024x768_S32x32x768 i = v (up (top3 i) (at3 i)) := by
  refine shapeCast_apply v _ i _ ?_
  rw [Shape.rowMajor_val_two, Shape.rowMajor_val_three]
  show (32 * (i 0).val + (i 1).val) * 768 + (i 2).val = ((i 0).val * 32 + (i 1).val) * 768 + (i 2).val
  rw [Nat.mul_comm 32]

/-- Whether a chunk is the device's own. -/
def mask (v : BitVec 32) : IVec S32x32x768 1 :=
  broadcastTo S32x32x768 (shapeCast S32x1x1 (cmpi .eq (iota .tc S32x1x1 32 [0] iota_S32x1x1_d0_w32) (broadcast S32x1x1 v))
    shapeCasts_S32x1x1_S32x1x1) broadcasts_S32x1x1_S32x32x768

/-- The mask compares the chunk with the device. -/
theorem mask_apply (v : BitVec 32) (i : S32x32x768.Idx) : mask v i = Scalar.cmpi .eq (BitVec.ofNat 32 (top3 i).val) v := by
  unfold mask
  rw [shapeCast_self]
  show Scalar.cmpi .eq (BitVec.ofNat 32 (0 * 32 + (top3 i).val)) v = _
  rw [Nat.zero_mul, Nat.zero_add]

/-- It holds at the device's own chunk alone. -/
theorem own_iff (c n : Fin 32) : Scalar.cmpi .eq (BitVec.ofNat 32 n.val) (me c) = 1#1 ↔ n = c := by revert c n; decide

/-- The stacked chunks with the device's own put to zero. -/
def masked (c : Dev nD) (g : Big F) : FVec F S32x32x768 .f32 :=
  select (mask (me c)) (broadcast S32x32x768 (Scalar.ofBits .f32 0x00000000#32 : F .f32)) (shapeCast S32x32x768 g shapeCasts_S1024x768_S32x32x768)

/-- The masked landing buffer: zero in the device's own chunk. -/
theorem masked_apply (c : Dev nD) (g : Big F) (i : S32x32x768.Idx) :
    masked c g i = if top3 i = c then (Scalar.ofBits .f32 0x00000000#32 : F .f32) else g (up (top3 i) (at3 i)) := by
  unfold masked
  show (if mask (me c) i = 1#1 then _ else _) = _
  rw [mask_apply, stack_apply]
  exact if_congr (own_iff c (top3 i)) rfl rfl

/-- What the device's own chunk holds doesn't matter. -/
theorem masked_congr (c : Dev nD) (g g' : Big F) (h : ∀ n, n ≠ c → ∀ i ∈ rows n, g i = g' i) : masked c g = masked c g' := by
  funext i
  rw [masked_apply, masked_apply]
  split
  · rfl
  · rename_i hi
    exact h _ hi _ (mem_rows.2 (hi_up _ _))

/-- The payload from its masked stack. -/
theorem pay_eq (c : Dev nD) (own : Small F) (g : Big F) : k2_pay1 (me c) own g
    = addf own (multiReduction .add [0] S32x768 (masked c g) 0x00000000#32 reduces_S32x32x768_S32x768 (.inl rfl) rfl) := by
  show addf (shapeCast S32x768 own shapeCasts_S32x768_S32x768) _ = _
  rw [shapeCast_self]
  rfl

/-- The device's own chunk of the landing buffer does not matter. -/
theorem pay_congr (c : Dev nD) (own : Small F) (g g' : Big F) (h : ∀ n, n ≠ c → ∀ i ∈ rows n, g i = g' i) :
    k2_pay1 (me c) own g = k2_pay1 (me c) own g' := by rw [pay_eq, pay_eq, masked_congr c g g' h]

end Cert.KernelIdeal.Ar
-- ==== Proof.Run.lean ====
/-
The whole body of the all-reduce on one device, from its loops.
-/
module

public import proofs.«01_k».proof.Proof.Body
public import proofs.«01_k».proof.Proof.Reduce

@[expose] public section

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

section Families
variable {I : Type} {s : Finset I}
/-- A family of pairs is a pair of families. -/
theorem both (Φ Ψ : I → sProp 𝕄) : bigSep s (fun n => iprop(Φ n ∗ Ψ n)) = iprop(bigSep s Φ ∗ bigSep s Ψ) := BI.bigSep_sep s Φ Ψ
/-- A family follows member by member. -/
theorem mono {Φ Ψ : I → sProp 𝕄} (h : ∀ n ∈ s, Φ n ⊢ Ψ n) : bigSep s Φ ⊢ bigSep s Ψ := BI.bigSep_mono h
end Families

/-! ## Buffers as chunks -/

section Buffers
variable (c : Dev nD) (f : Big F)

/-- The input is its own chunk and the others. -/
theorem a_chunks : ((c : Thread nD τ).loc cc2_stg0_0 ↦{fullShare} f : sProp 𝕄) = iprop(aPts c c f ∗ bigSep (others c) fun n => aPts c n f) := by
  rw [← bigSep_apart (Finset.mem_univ c) (fun n => aPts c n f)]
  refine Eq.trans ?_ (pointsTo_biUnion (ℓ := (c : Thread nD τ).loc cc2_stg0_0) Finset.univ rows fun t _ t' _ h => rows_disjoint h)
  exact congrArg (fun S => ((c : Thread nD τ).loc cc2_stg0_0 ↦[S]{fullShare} f : sProp 𝕄)) rows_cover.symm
/-- The result is its own chunk and the others. -/
theorem b_chunks : ((c : Thread nD τ).loc cc2_stg1_0 ↦{fullShare} f : sProp 𝕄)
    = iprop(bPts c c fullShare f ∗ bigSep (others c) fun n => bPts c n fullShare f) := by
  rw [← bigSep_apart (Finset.mem_univ c) (fun n => bPts c n fullShare f)]
  refine Eq.trans ?_ (pointsTo_biUnion (ℓ := (c : Thread nD τ).loc cc2_stg1_0) Finset.univ rows fun t _ t' _ h => rows_disjoint h)
  exact congrArg (fun S => ((c : Thread nD τ).loc cc2_stg1_0 ↦[S]{fullShare} f : sProp 𝕄)) rows_cover.symm
/-- The landing buffer is its own chunk and the others. -/
theorem acc_chunks : ((c : Thread nD τ).loc cc2_scratch0 ↦{fullShare} f : sProp 𝕄)
    = iprop(accPts c c f ∗ bigSep (others c) fun n => accPts c n f) := by
  rw [← bigSep_apart (Finset.mem_univ c) (fun n => accPts c n f)]
  refine Eq.trans ?_ (pointsTo_biUnion (ℓ := (c : Thread nD τ).loc cc2_scratch0) Finset.univ rows fun t _ t' _ h => rows_disjoint h)
  exact congrArg (fun S => ((c : Thread nD τ).loc cc2_scratch0 ↦[S]{fullShare} f : sProp 𝕄)) rows_cover.symm
/-- A chunk of the result is 32 shares of it, the device's own and the others'. -/
theorem b_shares : (bPts c c fullShare f : sProp 𝕄)
    = iprop(bPts c c (ShareLeaves.leaf 5 fullShare c) f ∗ bigSep (others c) fun n => bPts c c (ShareLeaves.leaf 5 fullShare n) f) := by
  rw [← bigSep_apart (Finset.mem_univ c) (fun n => bPts c c (ShareLeaves.leaf 5 fullShare n) f)]
  exact ShareLeaves.pointsTo_leaves (ℓ := (c : Thread nD τ).loc cc2_stg1_0) (rows c) f 5 fullShare

/-- The device's own chunk, whatever it holds, and the others as they landed make up the landing buffer. -/
theorem acc_landed (x : Dev nD → Big F) : iprop(accPts c c f ∗ bigSep (others c) fun n => accPts c n (landed x c))
    ⊢ (iprop(∃ g, ⌜∀ n, n ≠ c → ∀ i ∈ rows n, g i = landed x c i⌝ ∗ (c : Thread nD τ).loc cc2_scratch0 ↦{fullShare} g) : sProp 𝕄) := by
  have e1 : (accPts c c f : sProp 𝕄) = accPts c c (fun i => if hi i = c then f i else landed x c i) :=
    pointsTo_congr fun i h => (if_pos (mem_rows.1 h)).symm
  have e2 : (bigSep (others c) fun n => (accPts c n (landed x c) : sProp 𝕄))
      = bigSep (others c) fun n => accPts c n (fun i => if hi i = c then f i else landed x c i) :=
    bigSep_congr fun n hn => pointsTo_congr fun i h => (if_neg (by rw [mem_rows.1 h]; exact (Finset.mem_erase.1 hn).1)).symm
  rw [e1, e2, ← acc_chunks]
  iintro H
  iexists (fun i => if hi i = c then f i else landed x c i)
  isplitr
  · ipureintro
    exact fun n hn i h => if_neg (by rw [mem_rows.1 h]; exact hn)
  · iexact H
end Buffers

/-! ## The reduction -/

variable (x : Dev nD → Big F) (K : Dev nD × Slot → ℕ)

/-- The offset zero. -/
theorem off_zero : (![0, 0] : Fin 2 → Nat) = fun _ => 0 := funext fun a => by fin_cases a <;> rfl
/-- A load of the whole landing buffer reads its contents. -/
theorem read_acc (f : Big F) : (accM : Memref sig .tc .vmem S1024x768 .f32).view.readAt (Elt F)
    (Rect.unit (s := S1024x768) ![0, 0] S1024x768.size inb_S1024x768_S1024x768_0_0).toLoadRect f = f :=
  Memref.readAt_unit_zero (Elt F) cc2_scratch0 off_zero _ f

/-- The result's own chunk after the store. -/
theorem stored (c : Dev nD) (f g : Big F) (hg : ∀ n, n ≠ c → ∀ i ∈ rows n, g i = landed x c i) :
    ((c : Thread nD τ).loc cc2_stg1_0 ↦[rows c]{fullShare}
      (chunk bM c).view.write (Elt F) f (k2_pay1 (me c) (part (x c) c) g) Finset.univ : sProp 𝕄) = bPts c c fullShare (total x) :=
  pointsTo_congr fun i h => by
    rw [write_b c f _ h, pay_congr c _ g (landed x c) hg]
    show reduced x c (low i) = reduced x (Cert.KernelIdeal.Ar.hi i) (low i)
    rw [mem_rows.1 h]

/-- The reduction: from the landed chunks to the result's own chunk. -/
theorem wp_reduce {α : Type} (c : Dev nD) (k : Code F α) (Q : α → sProp 𝕄) (f g : Big F) (hg : ∀ n, n ≠ c → ∀ i ∈ rows n, g i = landed x c i) :
    iprop(aPts c c (x c) ∗ ((c : Thread nD τ).loc cc2_scratch0 ↦{fullShare} g) ∗ bPts c c fullShare f)
      ⊢ iprop((aPts c c (x c) ∗ ((c : Thread nD τ).loc cc2_scratch0 ↦{fullShare} g) ∗ bPts c c fullShare (total x) -∗ WP c k Q)
        -∗ WP c (reduceAt aM bM accM c k) Q) := by
  have ha : (aM.access (Rect.unit (s := S1024x768) ![32 * c.val, 0] S32x768.size (inb_rows _ (rows_le c)))).set ⊆ rows c := (set_a c).subset
  have hb : (bM.access (Rect.unit (s := S1024x768) ![32 * c.val, 0] S32x768.size (inb_rows _ (rows_le c)))).set ⊆ rows c := (set_b c).subset
  unfold reduceAt reduceFrom aPts
  simp only [Prog.lift, Prog.bind_op, Prog.bind_ret, Prog.pure_eq_ret]
  iintro ⟨Ha, Hacc, Hb⟩ Hk
  iapply (wp_load_rect 𝒱₀ (c : Thread nD τ) none Set.univ (m := aM) ha) $$ Ha; iintro Ha
  iapply (wp_load 𝒱₀ (c : Thread nD τ) none Set.univ (m := accM) (Finset.subset_univ _)) $$ Hacc; iintro Hacc
  unfold bPts
  iapply (wp_load_rect 𝒱₀ (c : Thread nD τ) none Set.univ (m := bM) hb) $$ Hb; iintro Hb
  iapply (wp_store 𝒱₀ (c : Thread nD τ) none Set.univ (m := bM) (Mk := Finset.univ) hb) $$ Hb; iintro Hb
  iapply Hk
  isplitl [Ha]; · iexact Ha
  isplitl [Hacc]; · iexact Hacc
  have e : (aM.access (Rect.unit (s := S1024x768) ![32 * c.val, 0] S32x768.size (inb_rows _ (rows_le c)))).read (Elt F) (x c) = part (x c) c := read_a c (x c)
  rw [read_acc, e]
  have h := stored x c f g hg
  unfold bPts at h
  iapply (Entails.of_eq h)
  iexact Hb

/-- The wait for all others' entry. -/
theorem wp_bar {α : Type} (c : Dev nD) (k : Code F α) (Q : α → sProp 𝕄) :
    iprop(known x K c ∗ ow c (ow2 c (others c) + ow1 c (others c)) ∗ cred (tallyAt (kc c none) () 31) ∗ atPos ER (kc c none) 0 ∅ 0)
      ⊢ iprop((ow c (ow2 c (others c) + ow1 c (others c)) ∗ atPos ER (kc c none) 1 ∅ 0 ∗ (bigSep (others c) fun p => barPay p c) -∗ WP c k Q)
        -∗ WP c (semWaitWord bar.sem 31#32 >>= fun _ => k) Q) := by
  have hk : 0 + (31#32 : BitVec 32).toInt.toNat = (sched x).expect (kc c none) 0 := by rw [expect_bar]; decide
  unfold ow
  simp only [semWaitWord, Prog.lift, Prog.bind_op, Prog.bind_ret, Prog.pure_eq_ret]
  iintro ⟨#H, ⟨%W, HO⟩, Hc, Hat⟩ Hk
  ihave ⟨#HI, #Hr⟩ := (known_bar x K c c) $$ H
  iapply (Rounds.wp_wait_rest_token 𝒱₀ ER (sched x) (c : Thread nD τ) none (κ := K (c, none))
      (wpE_semWait_eq 𝒱₀ (c : Thread nD τ) none Set.univ) (Set.mem_univ _) () (O := ow2 c (others c) + ow1 c (others c)) (W := W) (R := 0) (m := 0) (T := ∅)
      hk) $$ [Hc HO Hat]
  · isplitr; · iexact HI
    isplitl [Hc]; · iexact Hc
    isplitl [HO]; · iexact HO
    isplitr
    · iapply (mayWait_bar (F := F) c)
      iapply (known_lev x K c); iexact H
    iexact Hat
  iintro ⟨HO, Hat, -, Hpay⟩
  iapply Hk
  isplitl [HO]; · iexists _; iexact HO
  isplitl [Hat]; · iexact Hat
  iapply (Entails.of_eq (rest_bar x c)); iexact Hpay

/-! ## The loops -/

section Loops
variable {α : Type} (c : Dev nD) (k : Code F α)

/-- The entry signals. -/
theorem loop_sig (Q : α → sProp 𝕄) :
    iprop(known x K c ∗ ow c (O₀ c) ∗ bigSep (others c) fun n => iprop(dutyTok ER (kc n none) 0 c ∗ barPay c n))
      ⊢ iprop((ow c (ow2 c (others c) + ow1 c (others c)) ∗ (bigSep (others c) fun _ => iprop(emp)) -∗ WP c k Q)
        -∗ WP c (each c (fun n => semSignalWord n bar.sem 1#32) (List.finRange 32) k) Q) := by
  have h := wp_each c (fun n => semSignalWord n bar.sem 1#32) k Q (known x K c)
    (fun n => iprop(dutyTok ER (kc n none) 0 c ∗ barPay c n)) (fun _ => iprop(emp)) (fun s => ow2 c (others c) + ow1 c (others c) + owB s)
    (fun s n hs hn r => by
      rw [owB, owing_erase _ _ hs, ← add_assoc]
      exact wp_sig x K c n hn r Q _)
  rwa [owB, owB, owing_empty, add_zero] at h

/-- The first copies. -/
theorem loop_copy1 (Q : α → sProp 𝕄) :
    iprop(known x K c ∗ ow c (ow2 c (others c) + ow1 c (others c)) ∗ bigSep (others c) fun n => iprop(aPts c n (x c) ∗ room1 c n
        ∗ dutyTok ER (kc c (some (0, n))) 0 n ∗ dutyTok ER (kc n (some (1, c))) 0 c))
      ⊢ iprop((ow c (ow2 c (others c)) ∗ (bigSep (others c) fun n => cred (tallyAt (kc c (some (0, n))) () N)) -∗ WP c k Q)
        -∗ WP c (each c (fun n => copyTo (chunk aM n) (chunk accM c) n (cell cc2_scratch1 n) (cell cc2_scratch2 c)) (List.finRange 32) k) Q) := by
  have h := wp_each c (fun n => copyTo (chunk aM n) (chunk accM c) n (cell cc2_scratch1 n) (cell cc2_scratch2 c)) k Q (known x K c)
    (fun n => iprop(aPts c n (x c) ∗ room1 c n ∗ dutyTok ER (kc c (some (0, n))) 0 n ∗ dutyTok ER (kc n (some (1, c))) 0 c))
    (fun n => cred (tallyAt (kc c (some (0, n))) () N)) (fun s => ow2 c (others c) + ow1 c s)
    (fun s n hs hn r => by
      rw [ow1, owing_erase _ _ hs, ← add_assoc]
      exact wp_copy1 x K c n hn r Q _)
  rwa [show ow1 c ∅ = 0 from owing_empty _ _, add_zero] at h

/-- The waits for the first copies. -/
theorem loop_recv1 (Q : α → sProp 𝕄) :
    iprop(known x K c ∗ ow c (ow2 c (others c)) ∗ bigSep (others c) fun n => iprop(cred (tallyAt (kc c (some (1, n))) () N) ∗ atPos ER (kc c (some (1, n))) 0 ∅ 0))
      ⊢ iprop((ow c (ow2 c (others c)) ∗ (bigSep (others c) fun n => iprop(atPos ER (kc c (some (1, n))) 1 ∅ 0 ∗ accPts c n (landed x c))) -∗ WP c k Q)
        -∗ WP c (each c (fun n => waitFor (chunk accM n) (chunk accM n) (cell cc2_scratch2 n)) (List.finRange 32) k) Q) :=
  wp_each c (fun n => waitFor (chunk accM n) (chunk accM n) (cell cc2_scratch2 n)) k Q (known x K c)
    (fun n => iprop(cred (tallyAt (kc c (some (1, n))) () N) ∗ atPos ER (kc c (some (1, n))) 0 ∅ 0))
    (fun n => iprop(atPos ER (kc c (some (1, n))) 1 ∅ 0 ∗ accPts c n (landed x c))) (fun s => ow2 c (others c))
    (fun s n hs hn r => wp_wait x K c n hn r Q 1 _ _ _ (cell_recv1 n) (credit_acc n) _ ((known_lev x K c).trans (mayWait_recv1 (F := F) c n)))

/-- The second copies, each from a share of the one chunk. -/
theorem loop_copy2 (Q : α → sProp 𝕄) :
    iprop(known x K c ∗ ow c (ow2 c (others c)) ∗ bigSep (others c) fun n => iprop(bPts c c (ShareLeaves.leaf 5 fullShare n) (total x) ∗ room2 c n
        ∗ dutyTok ER (kc c (some (2, n))) 0 n ∗ dutyTok ER (kc n (some (3, c))) 0 c))
      ⊢ iprop((ow c 0 ∗ (bigSep (others c) fun n => cred (tallyAt (kc c (some (2, n))) () N)) -∗ WP c k Q)
        -∗ WP c (each c (fun n => copyTo (chunk bM c) (chunk bM c) n (cell cc2_scratch3 n) (cell cc2_scratch4 c)) (List.finRange 32) k) Q) := by
  have h := wp_each c (fun n => copyTo (chunk bM c) (chunk bM c) n (cell cc2_scratch3 n) (cell cc2_scratch4 c)) k Q (known x K c)
    (fun n => iprop(bPts c c (ShareLeaves.leaf 5 fullShare n) (total x) ∗ room2 c n
        ∗ dutyTok ER (kc c (some (2, n))) 0 n ∗ dutyTok ER (kc n (some (3, c))) 0 c))
    (fun n => cred (tallyAt (kc c (some (2, n))) () N)) (fun s => ow2 c s)
    (fun s n hs hn r => by
      rw [ow2, owing_erase _ _ hs]
      exact wp_copy2 x K c n hn r Q _)
  rwa [show ow2 c ∅ = 0 from owing_empty _ _] at h

/-- Who owes nothing may wait. -/
theorem known_free (c : Dev nD) (sm : SemLoc sig) : known x K c ⊢ MayWait (c : Thread nD τ) sm () 0 := by
  rw [MayWait_zero]; iintro -; iempintro

/-- The waits for the second copies. -/
theorem loop_recv2 (Q : α → sProp 𝕄) :
    iprop(known x K c ∗ ow c 0 ∗ bigSep (others c) fun n => iprop(cred (tallyAt (kc c (some (3, n))) () N) ∗ atPos ER (kc c (some (3, n))) 0 ∅ 0))
      ⊢ iprop((ow c 0 ∗ (bigSep (others c) fun n => iprop(atPos ER (kc c (some (3, n))) 1 ∅ 0 ∗ bPts c n fullShare (total x))) -∗ WP c k Q)
        -∗ WP c (each c (fun n => waitFor (chunk bM n) (chunk bM n) (cell cc2_scratch4 n)) (List.finRange 32) k) Q) :=
  wp_each c (fun n => waitFor (chunk bM n) (chunk bM n) (cell cc2_scratch4 n)) k Q (known x K c)
    (fun n => iprop(cred (tallyAt (kc c (some (3, n))) () N) ∗ atPos ER (kc c (some (3, n))) 0 ∅ 0))
    (fun n => iprop(atPos ER (kc c (some (3, n))) 1 ∅ 0 ∗ bPts c n fullShare (total x))) (fun s => 0)
    (fun s n hs hn r => wp_wait x K c n hn r Q 3 _ _ _ (cell_recv2 n) (credit_b n) _ (known_free x K c _))

/-- The waits until all copies are sent: the input and the shares come back. -/
theorem loop_sent (Q : α → sProp 𝕄) :
    iprop(known x K c ∗ ow c 0 ∗ bigSep (others c) fun n => iprop((cred (tallyAt (kc c (some (0, n))) () N) ∗ atPos ER (kc c (some (0, n))) 0 ∅ 0)
        ∗ (cred (tallyAt (kc c (some (2, n))) () N) ∗ atPos ER (kc c (some (2, n))) 0 ∅ 0)))
      ⊢ iprop((ow c 0 ∗ (bigSep (others c) fun n => iprop((atPos ER (kc c (some (0, n))) 1 ∅ 0 ∗ aPts c n (x c))
          ∗ (atPos ER (kc c (some (2, n))) 1 ∅ 0 ∗ bPts c c (ShareLeaves.leaf 5 fullShare n) (total x)))) -∗ WP c k Q)
        -∗ WP c (each c (fun n => waitFor (chunk accM c) (chunk aM n) (cell cc2_scratch1 n) >>= fun _ =>
            waitFor (chunk bM c) (chunk bM c) (cell cc2_scratch3 n)) (List.finRange 32) k) Q) :=
  wp_each c (fun n => waitFor (chunk accM c) (chunk aM n) (cell cc2_scratch1 n) >>= fun _ =>
      waitFor (chunk bM c) (chunk bM c) (cell cc2_scratch3 n)) k Q (known x K c)
    (fun n => iprop((cred (tallyAt (kc c (some (0, n))) () N) ∗ atPos ER (kc c (some (0, n))) 0 ∅ 0)
        ∗ (cred (tallyAt (kc c (some (2, n))) () N) ∗ atPos ER (kc c (some (2, n))) 0 ∅ 0)))
    (fun n => iprop((atPos ER (kc c (some (0, n))) 1 ∅ 0 ∗ aPts c n (x c))
        ∗ (atPos ER (kc c (some (2, n))) 1 ∅ 0 ∗ bPts c c (ShareLeaves.leaf 5 fullShare n) (total x)))) (fun s => 0)
    (fun s n hs hn r => by
      rw [bind_assoc]
      iintro ⟨#H, HO, H0, H2⟩ Hk
      iapply (wp_wait x K c n hn _ Q 0 (chunk accM c) (chunk aM n) _ (cell_sent1 n) (credit_a n) 0 (known_free x K c _)) $$ [HO H0]
      · isplitr; · iexact H
        isplitl [HO]; · iexact HO
        iexact H0
      iintro ⟨HO, H0⟩
      iapply (wp_wait x K c n hn r Q 2 (chunk bM c) (chunk bM c) _ (cell_sent2 n) (credit_b c) 0 (known_free x K c _)) $$ [HO H2]
      · isplitr; · iexact H
        isplitl [HO]; · iexact HO
        iexact H2
      iintro ⟨HO, H2⟩
      iapply Hk
      isplitl [HO]; · iexact HO
      isplitl [H0]; · iexact H0
      iexact H2)
end Loops

end Cert.KernelIdeal.Ar
-- ==== Proof.Sound.lean ====
/-
The body of the all-reduce on one device: from its buffers and its part of the protocol to the result.
-/
module

public import proofs.«01_k».proof.Proof.Run

@[expose] public section

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A family over a device's semaphores: its barrier, and for each kind its own and the others'. -/
theorem slots (c : Dev nD) (Φ : Slot → sProp 𝕄) : bigSep Finset.univ Φ = iprop(Φ none
    ∗ (Φ (some (0, c)) ∗ bigSep (others c) fun n => Φ (some (0, n))) ∗ (Φ (some (1, c)) ∗ bigSep (others c) fun n => Φ (some (1, n)))
    ∗ (Φ (some (2, c)) ∗ bigSep (others c) fun n => Φ (some (2, n))) ∗ (Φ (some (3, c)) ∗ bigSep (others c) fun n => Φ (some (3, n)))) := by
  have e : (Finset.univ : Finset Slot).erase none = (Finset.univ : Finset (Fin 4 × Fin 32)).map Function.Embedding.some := by
    ext k; cases k <;> simp
  rw [bigSep_apart (Finset.mem_univ none), e, BI.bigSep_map, BI.bigSep_univ_prod,
    bigSep_univ_eq_bigSepL [0, 1, 2, 3] (by decide) (by decide), bigSepL_cons_cons, bigSepL_cons_cons, bigSepL_cons_cons, bigSepL_singleton]
  have a (j : Fin 4) := bigSep_apart (Finset.mem_univ c) (fun n : Fin 32 => Φ (some (j, n)))
  rw [← a 0, ← a 1, ← a 2, ← a 3]
  rfl

/-- What holds of each member under an update, given what all know, holds of the family. -/
theorem update_all {I : Type} [DecidableEq I] (s : Finset I) (P : sProp 𝕄) [BI.Persistent P] (Φ Ψ : I → sProp 𝕄)
    (h : ∀ n ∈ s, iprop(P ∗ Φ n) ⊢ iprop(|={Set.univ}=> Ψ n)) : iprop(P ∗ bigSep s Φ) ⊢ iprop(|={Set.univ}=> bigSep s Ψ) := by
  induction s using Finset.induction_on with
  | empty =>
    iintro ⟨-, -⟩
    imodintro
    rw [BI.bigSep_empty]
    iempintro
  | insert n s hn ih =>
    have e (Φ : I → sProp 𝕄) : bigSep (insert n s) Φ = iprop(Φ n ∗ bigSep s Φ) := BI.bigSep_insert hn
    rw [e, e]
    iintro ⟨#HP, Hn, Hs⟩
    imod (h n (Finset.mem_insert_self n s)) $$ [Hn] with Hn
    · isplitr; · iexact HP
      iexact Hn
    imod (ih fun n hn => h n (Finset.mem_insert_of_mem hn)) $$ [Hs] with Hs
    · isplitr; · iexact HP
      iexact Hs
    imodintro
    isplitl [Hn]; · iexact Hn
    iexact Hs

variable (x : Dev nD → Big F) (K : Dev nD × Slot → ℕ)

/-! ## Closing the semaphores -/

/-- A semaphore whose rounds are over is at zero. -/
theorem close_one (c : Dev nD) (k : Slot) (R : ℕ) (h : ∀ r, R ≤ r → (sched x).duties (kc c k) r = ∅) :
    iprop(known x K c ∗ atPos ER (kc c k) R ∅ 0) ⊢ iprop(|={Set.univ}=> semVal (kc c k) 0) := by
  iintro ⟨#H, Hat⟩
  ihave #HI := (known_inv x K c c k) $$ H
  imod (Rounds.cell_close ER (sched x) (Set.mem_univ (K (c, k))) (fun h => h) (R := R) h) $$ [Hat] with Hz
  · isplitr; · iexact HI
    iexact Hat
  imodintro
  iexact Hz

/-- All of a kind. -/
theorem close_kind (c : Dev nD) (j : Fin 4) :
    iprop(known x K c ∗ atPos ER (kc c (some (j, c))) 0 ∅ 0 ∗ bigSep (others c) fun n => atPos ER (kc c (some (j, n))) 1 ∅ 0)
      ⊢ iprop(|={Set.univ}=> (semVal (kc c (some (j, c))) 0 ∗ bigSep (others c) fun n => semVal (kc c (some (j, n))) 0)) := by
  iintro ⟨#H, Hc, Ho⟩
  imod (close_one x K c (some (j, c)) 0 (duties_self x c j _ rfl)) $$ [Hc] with Hc
  · isplitr; · iexact H
    iexact Hc
  imod (update_all (others c) (known x K c) (fun n => atPos ER (kc c (some (j, n))) 1 ∅ 0) (fun n => semVal (kc c (some (j, n))) 0)
    fun n _ => close_one x K c (some (j, n)) 1 (duties_later x _)) $$ [Ho] with Ho
  · isplitr; · iexact H
    iexact Ho
  imodintro
  isplitl [Hc]; · iexact Hc
  iexact Ho

/-! ## The body -/

/-- The rights to pay: at the others' barriers and arrivals, at the own departures. -/
def toks (c : Dev nD) : sProp 𝕄 := iprop(
  (bigSep (others c) fun n => dutyTok ER (kc n none) 0 c)
  ∗ (bigSep (others c) fun n => dutyTok ER (kc c (some (0, n))) 0 n)
  ∗ (bigSep (others c) fun n => dutyTok ER (kc n (some (1, c))) 0 c)
  ∗ (bigSep (others c) fun n => dutyTok ER (kc c (some (2, n))) 0 n)
  ∗ bigSep (others c) fun n => dutyTok ER (kc n (some (3, c))) 0 c)
/-- What others owe it. -/
def credits (c : Dev nD) : sProp 𝕄 := iprop(cred (tallyAt (kc c none) () 31)
  ∗ (bigSep (others c) fun n => cred (tallyAt (kc c (some (1, n))) () N))
  ∗ bigSep (others c) fun n => cred (tallyAt (kc c (some (3, n))) () N))

/-- What the body of the all-reduce begins with. -/
def bodyPre (c : Dev nD) : sProp 𝕄 :=
  iprop(known x K c ∗ (bigSep Finset.univ fun k => atPos ER (kc c k) 0 ∅ 0) ∗ toks c ∗ credits c ∗ ow c (O₀ c)
    ∗ ((c : Thread nD τ).loc cc2_stg0_0 ↦{fullShare} x c) ∗ (∃ f : Big F, (c : Thread nD τ).loc cc2_stg1_0 ↦{fullShare} f)
    ∗ ∃ f : Big F, (c : Thread nD τ).loc cc2_scratch0 ↦{fullShare} f)
/-- What it ends with. -/
def bodyPost (c : Dev nD) : sProp 𝕄 :=
  iprop((bigSep Finset.univ fun k => semVal (kc c k) 0) ∗ ow c 0
    ∗ ((c : Thread nD τ).loc cc2_stg0_0 ↦{fullShare} x c) ∗ ((c : Thread nD τ).loc cc2_stg1_0 ↦{fullShare} total x)
    ∗ ∃ f : Big F, (c : Thread nD τ).loc cc2_scratch0 ↦{fullShare} f)

section Shuffle
variable {I : Type} [DecidableEq I] (s : Finset I)

/-- Two families as one. -/
theorem zip2 (A B : I → sProp 𝕄) : iprop(bigSep s A ∗ bigSep s B) ⊢ bigSep s fun n => iprop(A n ∗ B n) := by
  rw [both]
/-- Four families as one. -/
theorem zip4 (A B C D : I → sProp 𝕄) : iprop(bigSep s A ∗ bigSep s B ∗ bigSep s C ∗ bigSep s D)
    ⊢ bigSep s fun n => iprop(A n ∗ B n ∗ C n ∗ D n) := by
  rw [both, both, both]
end Shuffle

/-- The own semaphores of a kind for the others' data are in their round. -/
theorem known_kind (c : Dev nD) (j : Fin 4) : known x K c ⊢ bigSep (others c) fun n => reached ER (kc c (some (j, n))) 0 := by
  refine (known_own x K c).trans ?_
  rw [BI.bigSep_univ_prod]
  exact (bigSep_one (Finset.mem_univ j) (fun j : Fin 4 => (bigSep Finset.univ fun n : Fin 32 => reached ER (kc c (some (j, n))) 0 : sProp 𝕄))).trans
    (BI.bigSep_subset (Finset.erase_subset c _))
/-- What the others are told at entry: the places for their data. -/
theorem to_bar (c : Dev nD) (f g : Big F) :
    iprop((bigSep (others c) fun n => dutyTok ER (kc n none) 0 c) ∗ (bigSep (others c) fun n => accPts c n f)
        ∗ (bigSep (others c) fun n => bPts c n fullShare g) ∗ (bigSep (others c) fun n => reached ER (kc c (some (1, n))) 0)
        ∗ bigSep (others c) fun n => reached ER (kc c (some (3, n))) 0)
      ⊢ bigSep (others c) fun n => iprop(dutyTok ER (kc n none) 0 c ∗ barPay c n) := by
  rw [← both, ← both, ← both, ← both]
  refine mono fun n _ => ?_
  unfold barPay room1 room2
  iintro ⟨Ht, Ha, Hb, Hr1, Hr3⟩
  isplitl [Ht]; · iexact Ht
  isplitl [Ha Hr1]
  · isplitl [Ha]
    · iexists f; iexact Ha
    · iexact Hr1
  · isplitl [Hb]
    · iexists g; iexact Hb
    · iexact Hr3
/-- What the others have told. -/
theorem from_bar (c : Dev nD) : (bigSep (others c) fun p => barPay p c : sProp 𝕄)
    = iprop((bigSep (others c) fun p => room1 c p) ∗ bigSep (others c) fun p => room2 c p) := by
  unfold barPay
  rw [both]

/-- The body from entry to exit. -/
theorem sound_body (c : Dev nD) (Q : PUnit → sProp 𝕄) :
    iprop(bodyPre x K c ∗ (bodyPost x c -∗ Q ⟨⟩))
      ⊢ WP c (cc2__ar_body aM (Memref.isWhole_whole _) bM (Memref.isWhole_whole _) accM (Memref.isWhole_whole _)
          cc2_scratch1 cc2_scratch2 cc2_scratch3 cc2_scratch4) Q := by
  rw [body_eq]
  simp only [Prog.lift, Prog.bind_op, Prog.bind_ret, Prog.pure_eq_ret, wp_deviceId]
  unfold bodyPre toks credits
  rw [slots c, a_chunks]
  iintro ⟨⟨#H, ⟨HatB, ⟨Hz0, Hat0⟩, ⟨Hz1, Hat1⟩, ⟨Hz2, Hat2⟩, ⟨Hz3, Hat3⟩⟩, ⟨HtB, Ht0, Ht1, Ht2, Ht3⟩, ⟨HcB, Hc1, Hc3⟩, HO, ⟨Hac, Ha⟩, ⟨%fb, Hb⟩, ⟨%fa, Hacc⟩⟩, Hk⟩
  ihave ⟨Hbc, Hb⟩ := (Entails.of_eq (b_chunks c fb)) $$ Hb
  ihave ⟨Haccc, Hacc⟩ := (Entails.of_eq (acc_chunks c fa)) $$ Hacc
  iapply (loop_sig x K c _ Q) $$ [HO HtB Hacc Hb]
  · isplitr; · iexact H
    isplitl [HO]; · iexact HO
    iapply (to_bar c fa fb)
    isplitl [HtB]; · iexact HtB
    isplitl [Hacc]; · iexact Hacc
    isplitl [Hb]; · iexact Hb
    isplitr
    · iapply (known_kind x K c 1); iexact H
    · iapply (known_kind x K c 3); iexact H
  iintro ⟨HO, -⟩
  iapply (wp_bar x K c _ Q) $$ [HO HcB HatB]
  · isplitr; · iexact H
    isplitl [HO]; · iexact HO
    isplitl [HcB]; · iexact HcB
    iexact HatB
  iintro ⟨HO, HatB, Hpay⟩
  ihave ⟨Hacc, Hb⟩ := (Entails.of_eq (from_bar c)) $$ Hpay
  iapply (loop_copy1 x K c _ Q) $$ [HO Ha Hacc Ht0 Ht1]
  · isplitr; · iexact H
    isplitl [HO]; · iexact HO
    iapply (zip4 (others c) (fun n => aPts c n (x c)) (fun n => room1 c n) (fun n => dutyTok ER (kc c (some (0, n))) 0 n) (fun n => dutyTok ER (kc n (some (1, c))) 0 c))
    isplitl [Ha]; · iexact Ha
    isplitl [Hacc]; · iexact Hacc
    isplitl [Ht0]; · iexact Ht0
    iexact Ht1
  iintro ⟨HO, Hc0⟩
  iapply (loop_recv1 x K c _ Q) $$ [HO Hc1 Hat1]
  · isplitr; · iexact H
    isplitl [HO]; · iexact HO
    iapply (zip2 (others c) (fun n => cred (tallyAt (kc c (some (1, n))) () N)) (fun n => atPos ER (kc c (some (1, n))) 0 ∅ 0))
    isplitl [Hc1]; · iexact Hc1
    iexact Hat1
  iintro ⟨HO, Hl⟩
  ihave ⟨Hat1, Hacc⟩ := (Entails.of_eq (both (s := others c) (fun n => atPos ER (kc c (some (1, n))) 1 ∅ 0) (fun n => accPts c n (landed x c)))) $$ Hl
  ihave ⟨%g, %hg, Hacc⟩ := (acc_landed c fa x) $$ [Haccc Hacc]
  · isplitl [Haccc]; · iexact Haccc
    iexact Hacc
  iapply (wp_reduce x c _ Q fb g hg) $$ [Hac Hacc Hbc]
  · isplitl [Hac]; · iexact Hac
    isplitl [Hacc]; · iexact Hacc
    iexact Hbc
  iintro ⟨Hac, Hacc, Hbc⟩
  ihave ⟨Hbc, Hbs⟩ := (Entails.of_eq (b_shares c (total x))) $$ Hbc
  iapply (loop_copy2 x K c _ Q) $$ [HO Hbs Hb Ht2 Ht3]
  · isplitr; · iexact H
    isplitl [HO]; · iexact HO
    iapply (zip4 (others c) (fun n => bPts c c (ShareLeaves.leaf 5 fullShare n) (total x)) (fun n => room2 c n) (fun n => dutyTok ER (kc c (some (2, n))) 0 n) (fun n => dutyTok ER (kc n (some (3, c))) 0 c))
    isplitl [Hbs]; · iexact Hbs
    isplitl [Hb]; · iexact Hb
    isplitl [Ht2]; · iexact Ht2
    iexact Ht3
  iintro ⟨HO, Hc2⟩
  iapply (loop_recv2 x K c _ Q) $$ [HO Hc3 Hat3]
  · isplitr; · iexact H
    isplitl [HO]; · iexact HO
    iapply (zip2 (others c) (fun n => cred (tallyAt (kc c (some (3, n))) () N)) (fun n => atPos ER (kc c (some (3, n))) 0 ∅ 0))
    isplitl [Hc3]; · iexact Hc3
    iexact Hat3
  iintro ⟨HO, Hl⟩
  ihave ⟨Hat3, Hb⟩ := (Entails.of_eq (both (s := others c) (fun n => atPos ER (kc c (some (3, n))) 1 ∅ 0) (fun n => bPts c n fullShare (total x)))) $$ Hl
  iapply (loop_sent x K c _ Q) $$ [HO Hc0 Hat0 Hc2 Hat2]
  · isplitr; · iexact H
    isplitl [HO]; · iexact HO
    iapply (zip2 (others c) (fun n => iprop(cred (tallyAt (kc c (some (0, n))) () N) ∗ atPos ER (kc c (some (0, n))) 0 ∅ 0)) (fun n => iprop(cred (tallyAt (kc c (some (2, n))) () N) ∗ atPos ER (kc c (some (2, n))) 0 ∅ 0)))
    isplitl [Hc0 Hat0]
    · iapply (zip2 (others c) (fun n => cred (tallyAt (kc c (some (0, n))) () N)) (fun n => atPos ER (kc c (some (0, n))) 0 ∅ 0))
      isplitl [Hc0]; · iexact Hc0
      iexact Hat0
    · iapply (zip2 (others c) (fun n => cred (tallyAt (kc c (some (2, n))) () N)) (fun n => atPos ER (kc c (some (2, n))) 0 ∅ 0))
      isplitl [Hc2]; · iexact Hc2
      iexact Hat2
  iintro ⟨HO, Hl⟩
  ihave ⟨H0, H2⟩ := (Entails.of_eq (both (s := others c) (fun n => iprop(atPos ER (kc c (some (0, n))) 1 ∅ 0 ∗ aPts c n (x c))) (fun n => iprop(atPos ER (kc c (some (2, n))) 1 ∅ 0 ∗ bPts c c (ShareLeaves.leaf 5 fullShare n) (total x))))) $$ Hl
  ihave ⟨Hat0, Ha⟩ := (Entails.of_eq (both (s := others c) (fun n => atPos ER (kc c (some (0, n))) 1 ∅ 0) (fun n => aPts c n (x c)))) $$ H0
  ihave ⟨Hat2, Hbs⟩ := (Entails.of_eq (both (s := others c) (fun n => atPos ER (kc c (some (2, n))) 1 ∅ 0) (fun n => bPts c c (ShareLeaves.leaf 5 fullShare n) (total x)))) $$ H2
  imod (close_one x K c none 1 (duties_later x _)) $$ [HatB] with HsB
  · isplitr; · iexact H
    iexact HatB
  imod (close_kind x K c 0) $$ [Hz0 Hat0] with Hs0
  · isplitr; · iexact H
    isplitl [Hz0]; · iexact Hz0
    iexact Hat0
  imod (close_kind x K c 1) $$ [Hz1 Hat1] with Hs1
  · isplitr; · iexact H
    isplitl [Hz1]; · iexact Hz1
    iexact Hat1
  imod (close_kind x K c 2) $$ [Hz2 Hat2] with Hs2
  · isplitr; · iexact H
    isplitl [Hz2]; · iexact Hz2
    iexact Hat2
  imod (close_kind x K c 3) $$ [Hz3 Hat3] with Hs3
  · isplitr; · iexact H
    isplitl [Hz3]; · iexact Hz3
    iexact Hat3
  rw [wp_ret]
  imodintro
  iapply Hk
  unfold bodyPost
  rw [slots c, a_chunks, b_chunks, b_shares]
  isplitl [HsB Hs0 Hs1 Hs2 Hs3]
  · isplitl [HsB]; · iexact HsB
    isplitl [Hs0]; · iexact Hs0
    isplitl [Hs1]; · iexact Hs1
    isplitl [Hs2]; · iexact Hs2
    iexact Hs3
  isplitl [HO]; · iexact HO
  isplitl [Hac Ha]
  · isplitl [Hac]; · iexact Hac
    iexact Ha
  isplitl [Hbc Hbs Hb]
  · isplitl [Hbc Hbs]
    · isplitl [Hbc]; · iexact Hbc
      iexact Hbs
    · iexact Hb
  iexists g
  iexact Hacc

end Cert.KernelIdeal.Ar
-- ==== Proof.Fund.lean ====
/-
What the launch deals the devices of the all-reduce: their places in the protocol, the rights to pay, the credit.
-/
module

public import proofs.«01_k».proof.Proof.Sound

@[expose] public section

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores of the launch -/

/-- The semaphores of the region. -/
abbrev osem : Fin 4 × Fin 32 → SemLoc sig := fun p => .dma (dmaAt p.1 p.2)

/-- They are the region's, distinct, and none of a staging buffer's. -/
theorem ownSemFacts : Pipeline.OwnSemFacts cfg2.spec osem := by decide +kernel

/-- A family over a device's semaphores: the barrier and the rest. -/
theorem slots_some (Φ : Slot → sProp 𝕄) : bigSep Finset.univ Φ = iprop(Φ none ∗ bigSep Finset.univ fun p => Φ (some p)) := by
  have e : (Finset.univ : Finset Slot).erase none = (Finset.univ : Finset (Fin 4 × Fin 32)).map Function.Embedding.some := by
    ext k; cases k <;> simp
  rw [bigSep_apart (Finset.mem_univ none), e, BI.bigSep_map]
  rfl

/-- The only semaphore outside the region is the barrier. -/
theorem outside (c : Dev nD) : (unscopedSems0 c : sProp 𝕄) = semVal (kc c none) 0 := by
  unfold unscopedSems0
  rw [bigSep_eq_bigSepL_of_eq [SemLoc.reg bar.sem] (by decide +kernel) (by decide)]
  rfl

/-- All of a device's semaphores are the barrier and the region's. -/
theorem all_sems_back (c : Dev nD) : (bigSep Finset.univ fun k : Slot => semVal (kc c k) 0 : sProp 𝕄)
    ⊢ iprop(unscopedSems0 c ∗ Pipeline.ownSems0 (Ix := Unit) (Name := ℕ) (U := UU) (Lvl := ℕ) (Val := Elt F) (τ := τ) osem c) := by
  unfold Pipeline.ownSems0
  rw [slots_some, outside]
  iintro ⟨Hb, Ho⟩
  isplitl [Hb]; · iexact Hb
  iexact Ho

/-! ## The rights to pay -/

/-- The right of device `p` at the barrier of `c`, or at its semaphore of a kind. -/
def right (o : Option (Fin 4)) (c p : Dev nD) : sProp 𝕄 := dutyTok ER (kc c (o.map fun j => (j, p))) 0 p
/-- What is minted for the semaphores of a device. -/
def minted (c : Dev nD) : sProp 𝕄 := bigSep Finset.univ fun o : Option (Fin 4) => bigSep Finset.univ fun p : Dev nD => right o c p

/-- Of what is minted, the rights at other devices. -/
theorem minted_others (c : Dev nD) : (minted c : sProp 𝕄) ⊢ iprop((bigSep (others c) fun p => right none c p)
    ∗ (bigSep (others c) fun p => right (some 0) c p) ∗ (bigSep (others c) fun p => right (some 1) c p)
    ∗ (bigSep (others c) fun p => right (some 2) c p) ∗ bigSep (others c) fun p => right (some 3) c p) := by
  have h (o : Option (Fin 4)) : (bigSep Finset.univ fun p : Dev nD => right o c p : sProp 𝕄) ⊢ bigSep (others c) fun p => right o c p :=
    BI.bigSep_subset (Finset.erase_subset c _)
  unfold minted
  rw [bigSep_univ_eq_bigSepL [none, some 0, some 1, some 2, some 3] (by decide) (by decide), bigSepL_cons_cons, bigSepL_cons_cons,
    bigSepL_cons_cons, bigSepL_cons_cons, bigSepL_singleton]
  show iprop((bigSep Finset.univ fun p => right none c p) ∗ (bigSep Finset.univ fun p => right (some 0) c p)
    ∗ (bigSep Finset.univ fun p => right (some 1) c p) ∗ (bigSep Finset.univ fun p => right (some 2) c p)
    ∗ bigSep Finset.univ fun p => right (some 3) c p) ⊢ _
  iintro ⟨Hb, H0, H1, H2, H3⟩
  isplitl [Hb]; · iapply (h none); iexact Hb
  isplitl [H0]; · iapply (h (some 0)); iexact H0
  isplitl [H1]; · iapply (h (some 1)); iexact H1
  isplitl [H2]; · iapply (h (some 2)); iexact H2
  iapply (h (some 3)); iexact H3

/-- All that is minted, dealt to those who pay. -/
theorem deal : (bigSep Finset.univ fun c : Dev nD => (minted c : sProp 𝕄)) ⊢ bigSep Finset.univ fun c => toks c := by
  refine (mono fun c _ => minted_others c).trans ?_
  unfold toks
  rw [both, both, both, both, both, both, both, both, BI.bigSep_erase_comm (fun c p : Dev nD => (right none c p : sProp 𝕄)),
    BI.bigSep_erase_comm (fun c p : Dev nD => (right (some 1) c p : sProp 𝕄)), BI.bigSep_erase_comm (fun c p : Dev nD => (right (some 3) c p : sProp 𝕄))]
  exact BI.Entails.refl _

/-! ## The places in the protocol -/

variable (x : Dev nD → Big F)

/-- The semaphores are distinct. -/
theorem kc_injective : Function.Injective fun p : Dev nD × Slot => kc p.1 p.2 := by
  rintro ⟨c, k⟩ ⟨c', k'⟩ h
  have h1 : c = c' := congrArg (fun g : GSem nD τ sig => g.1.1) h
  subst h1
  exact Prod.ext rfl (semOf_injective (congrArg Prod.snd h : semOf k = semOf k'))
/-- All semaphores of the protocol, on all devices. -/
def cells : Finset (GSem nD τ sig) := Finset.univ.map ⟨_, kc_injective⟩

/-- The names of what is minted. -/
abbrev rightOf (p : Dev nD × Option (Fin 4) × Dev nD) : GSem nD τ sig × ℕ × Fin 32 := (kc p.1 (p.2.1.map fun j => (j, p.2.2)), 0, p.2.2)
/-- Different rights have different names. -/
theorem rightOf_injective : Function.Injective rightOf := by
  rintro ⟨c, o, p⟩ ⟨c', o', p'⟩ h
  have h1 : p = p' := congrArg (fun y : GSem nD τ sig × ℕ × Fin 32 => y.2.2) h
  subst h1
  have h2 := kc_injective (a₁ := (c, o.map fun j => (j, p))) (a₂ := (c', o'.map fun j => (j, p))) (congrArg Prod.fst h)
  have h3 : c = c' := congrArg Prod.fst h2
  have h4 : (o.map fun j => (j, p)) = o'.map fun j => (j, p) := congrArg Prod.snd h2
  subst h3
  have h5 : o = o' := Option.map_injective (fun a b h => congrArg Prod.fst h) h4
  rw [h5]
/-- All that is minted. -/
def rights : Finset (GSem nD τ sig × ℕ × Fin 32) := Finset.univ.map ⟨rightOf, rightOf_injective⟩

/-- A family over all semaphores, device by device. -/
theorem over_cells (Φ : GSem nD τ sig → sProp 𝕄) :
    bigSep cells Φ = bigSep Finset.univ fun c : Dev nD => bigSep Finset.univ fun k : Slot => Φ (kc c k) := by
  unfold cells; rw [BI.bigSep_map, BI.bigSep_univ_prod]; rfl
/-- A family over all that is minted, device by device. -/
theorem over_rights : bigSep rights (fun y => (dutyTok ER y.1 y.2.1 y.2.2 : sProp 𝕄)) = bigSep Finset.univ fun c : Dev nD => minted c := by
  unfold rights
  rw [BI.bigSep_map, BI.bigSep_univ_prod]
  exact bigSep_congr fun c _ => BI.bigSep_univ_prod _

/-- The barriers. -/
def bars : Finset (GSem nD τ sig) := Finset.univ.map ⟨fun c : Dev nD => kc c none, fun _ _ h => congrArg Prod.fst (kc_injective (a₁ := (_, none)) (a₂ := (_, none)) h)⟩
/-- The semaphores of the region, on all devices. -/
def dmas : Finset (GSem nD τ sig) := Finset.univ.map ⟨fun p : Dev nD × (Fin 4 × Fin 32) => kc p.1 (some p.2), fun p p' h => by
  have e := kc_injective (a₁ := (p.1, some p.2)) (a₂ := (p'.1, some p'.2)) h
  obtain ⟨h1, h2⟩ := Prod.mk.inj e
  exact Prod.ext h1 (Option.some.inj h2)⟩
/-- No barrier is a semaphore of the region. -/
theorem bars_dmas : Disjoint bars dmas := by
  refine Finset.disjoint_left.2 fun g hg hg' => ?_
  obtain ⟨c, -, rfl⟩ := Finset.mem_map.1 hg
  obtain ⟨p, -, h⟩ := Finset.mem_map.1 hg'
  have e := kc_injective (a₁ := (p.1, some p.2)) (a₂ := (c, none)) h
  cases congrArg Prod.snd e
/-- The barriers and the semaphores of the region are all of them. -/
theorem bars_union : bars ∪ dmas = cells := by
  ext g
  simp only [Finset.mem_union, bars, dmas, cells, Finset.mem_map, Finset.mem_univ, true_and, Function.Embedding.coeFn_mk]
  constructor
  · rintro (⟨c, rfl⟩ | ⟨p, rfl⟩)
    · exact ⟨(c, none), rfl⟩
    · exact ⟨(p.1, some p.2), rfl⟩
  · rintro ⟨⟨c, _ | q⟩, rfl⟩
    · exact Or.inl ⟨c, rfl⟩
    · exact Or.inr ⟨(c, q), rfl⟩
/-- A family over the barriers, device by device. -/
theorem over_bars (Φ : GSem nD τ sig → sProp 𝕄) : bigSep bars Φ = bigSep Finset.univ fun c : Dev nD => Φ (kc c none) := by
  unfold bars; rw [BI.bigSep_map]; rfl
/-- A family over the semaphores of the region, device by device. -/
theorem over_dmas (Φ : GSem nD τ sig → sProp 𝕄) :
    bigSep dmas Φ = bigSep Finset.univ fun c : Dev nD => bigSep Finset.univ fun q : Fin 4 × Fin 32 => Φ (kc c (some q)) := by
  unfold dmas; rw [BI.bigSep_map, BI.bigSep_univ_prod]; rfl

/-- What all devices know from the launch on, but for the levels. -/
def marks (K : Dev nD × Slot → ℕ) : sProp 𝕄 := iprop((bigSep Finset.univ fun p : Dev nD × Slot => cellInv ER (sched x) (K p) (kc p.1 p.2))
  ∗ bigSep Finset.univ fun p : Dev nD => reached ER (kc p none) 0)
/-- These marks stay. -/
instance marks_persistent (K : Dev nD × Slot → ℕ) : BI.Persistent (marks x K) := by unfold marks; infer_instance

/-- What a device has before the region. -/
def place (c : Dev nD) : sProp 𝕄 := iprop(∃ K, marks x K ∗ atPos ER (kc c none) 0 ∅ 0
  ∗ (bigSep Finset.univ fun q : Fin 4 × Fin 32 => openTok ER (kc c (some q))) ∗ toks c)
/-- What it has in it, its semaphores in use. -/
def opened (c : Dev nD) : sProp 𝕄 := iprop(∃ K, (marks x K ∗ bigSep Finset.univ fun q : Fin 4 × Fin 32 => reached ER (kc c (some q)) 0)
  ∗ (bigSep Finset.univ fun k : Slot => atPos ER (kc c k) 0 ∅ 0) ∗ toks c)

/-- The launch's element. -/
def seed : UB := launchOf bars dmas rights

/-- All devices together. -/
theorem alloc_all : iprop((bigSep Finset.univ fun c : Dev nD => (unscopedSems0 c : sProp 𝕄)) ∗ BI.own (ER seed))
    ⊢ |={Set.univ}=> bigSep Finset.univ (place x) := by
  have h := Rounds.fund_launch ER (sched x) bars_dmas (fun _ _ h => h) rights (Es := Set.univ)
  rw [over_bars] at h
  iintro ⟨Hs, Hu⟩
  imod h $$ [Hs Hu] with ⟨%κ, -, HI, Hr, Ha, Ho, Ht⟩
  · isplitl [Hs]
    · iapply (Entails.of_eq (bigSep_congr fun c _ => (outside (F := F) c))); iexact Hs
    · unfold seed; iexact Hu
  imodintro
  ihave Ht := ((Entails.of_eq over_rights).trans (deal (F := F))) $$ Ht
  ihave Ho := (Entails.of_eq (over_dmas _)) $$ Ho
  ihave Ha := (Entails.of_eq (over_bars _)) $$ Ha
  ihave Hr := (Entails.of_eq (over_bars _)) $$ Hr
  ihave HI := (Entails.of_eq ((congrArg (fun S => bigSep S fun g => cellInv ER (sched x) (κ g) g) bars_union).trans (over_cells _))) $$ HI
  iapply (BI.bigSep_with_persistent (R := marks x fun p => κ (kc p.1 p.2)) (Φ := fun c => iprop(atPos ER (kc c none) 0 ∅ 0
      ∗ (bigSep Finset.univ fun q : Fin 4 × Fin 32 => openTok ER (kc c (some q))) ∗ toks c))
    fun c _ => (show iprop(marks x (fun p => κ (kc p.1 p.2)) ∗ atPos ER (kc c none) 0 ∅ 0
      ∗ (bigSep Finset.univ fun q : Fin 4 × Fin 32 => openTok ER (kc c (some q))) ∗ toks c) ⊢ place x c from by
      unfold place; iintro H; iexists (fun p => κ (kc p.1 p.2)); iexact H))
  isplitl [HI Hr]
  · unfold marks
    isplitl [HI]
    · iapply (Entails.of_eq (BI.bigSep_univ_prod (fun p : Dev nD × Slot => (cellInv ER (sched x) (κ (kc p.1 p.2)) (kc p.1 p.2) : sProp 𝕄))).symm)
      iexact HI
    · iexact Hr
  rw [both, both]
  isplitl [Ha]; · iexact Ha
  isplitl [Ho]; · iexact Ho
  iexact Ht

/-- One semaphore put in use. -/
theorem open_one (K : Dev nD × Slot → ℕ) (c : Dev nD) (q : Fin 4 × Fin 32) :
    iprop(marks x K ∗ openTok ER (kc c (some q)) ∗ semVal (kc c (some q)) 0)
      ⊢ iprop(|={Set.univ}=> (atPos ER (kc c (some q)) 0 ∅ 0 ∗ reached ER (kc c (some q)) 0)) := by
  unfold marks
  iintro ⟨⟨HI, -⟩, Ho, Hs⟩
  iapply (Rounds.cell_open ER (sched x) (Set.mem_univ (K (c, some q))))
  isplitl [HI]
  · iapply (bigSep_one (Finset.mem_univ (c, some q)) (fun p : Dev nD × Slot => (cellInv ER (sched x) (K p) (kc p.1 p.2) : sProp 𝕄)))
    iexact HI
  isplitl [Ho]; · iexact Ho
  iexact Hs

/-- A device's semaphores put in use at the region's entry. -/
theorem open_all (c : Dev nD) : iprop(place x c ∗ Pipeline.ownSems0 (Ix := Unit) (Name := ℕ) (U := UU) (Lvl := ℕ) (Val := Elt F) (τ := τ) osem c)
    ⊢ |={Set.univ}=> opened x c := by
  unfold place opened Pipeline.ownSems0
  iintro ⟨⟨%K, #Hm, Ha, Ho, Ht⟩, Hs⟩
  imod (update_all Finset.univ (marks x K) (fun q : Fin 4 × Fin 32 => iprop(openTok ER (kc c (some q)) ∗ semVal (kc c (some q)) 0))
    (fun q => iprop(atPos ER (kc c (some q)) 0 ∅ 0 ∗ reached ER (kc c (some q)) 0)) fun q _ => open_one x K c q) $$ [Ho Hs] with H
  · isplitr; · iexact Hm
    rw [both]
    isplitl [Ho]; · iexact Ho
    iexact Hs
  ihave ⟨Hp, Hr⟩ := (Entails.of_eq (both (s := Finset.univ) (fun q : Fin 4 × Fin 32 => (atPos ER (kc c (some q)) 0 ∅ 0 : sProp 𝕄)) (fun q => reached ER (kc c (some q)) 0))) $$ H
  imodintro
  iexists K
  isplitl [Hr]
  · isplitr; · iexact Hm
    iexact Hr
  isplitl [Ha Hp]
  · rw [slots_some]
    isplitl [Ha]; · iexact Ha
    iexact Hp
  iexact Ht

/-! ## The credit -/

/-- What is owed at one of distinct semaphores. -/
theorem owing_at {g : Fin 32 → GSem nD τ sig} (hg : Function.Injective g) (k : ℕ) (s : Finset (Fin 32)) (n : Fin 32) :
    owing g k s (g n) () = if n ∈ s then k else 0 := by
  unfold owing
  rw [Finset.sum_apply, Finsupp.finset_sum_apply, Finset.sum_congr rfl fun a _ => (tallyAt_apply (g a) () k (g n) ()),
    Finset.sum_congr rfl fun a _ => (if_congr (⟨fun h => (hg h.1), fun h => ⟨congrArg g h, rfl⟩⟩ : g n = g a ∧ () = () ↔ n = a) rfl rfl),
    Finset.sum_ite_eq]
/-- And at none of them. -/
theorem owing_off {g : Fin 32 → GSem nD τ sig} {h : GSem nD τ sig} (k : ℕ) (s : Finset (Fin 32)) (hh : ∀ n, h ≠ g n) : owing g k s h () = 0 := by
  by_contra hne
  obtain ⟨n, -, e⟩ := owing_pos (Nat.pos_of_ne_zero hne)
  exact hh n e

/-- Equal semaphores are of equal devices and names. -/
theorem kc_eq {c c' : Dev nD} {k k' : Slot} (h : kc c k = kc c' k') : c = c' ∧ k = k' := by
  have := kc_injective (a₁ := (c, k)) (a₂ := (c', k')) h
  exact ⟨congrArg Prod.fst this, congrArg Prod.snd this⟩
/-- A semaphore of one name differs from device to device. -/
theorem inj_at (k : Slot) : Function.Injective fun n : Dev nD => kc n k := fun _ _ h => (kc_eq h).1

/-- What device `d` owes at a barrier. -/
theorem owed_bar (d c : Dev nD) : O₀ d (kc c none) () = if c ∈ others d then 1 else 0 := by
  unfold O₀
  rw [Pi.add_apply, Finsupp.add_apply, Pi.add_apply, Finsupp.add_apply, owing_off _ _ fun n h => (by cases (kc_eq h).2),
    owing_off _ _ fun n h => (by cases (kc_eq h).2), owing_at (inj_at none), Nat.zero_add]
/-- What it owes at a first arrival. -/
theorem owed_recv1 (d c n : Dev nD) (hn : n ≠ c) : O₀ d (kc c (some (1, n))) () = if d = n then N else 0 := by
  unfold O₀
  rw [Pi.add_apply, Finsupp.add_apply, Pi.add_apply, Finsupp.add_apply, owing_off _ _ fun n h => (by cases (kc_eq h).2),
    owing_off (g := fun m => kc m none) _ _ fun n h => (by cases (kc_eq h).2), Nat.zero_add, Nat.add_zero]
  by_cases h : d = n
  · subst h
    rw [owing_at (inj_at (some (1, d))), if_pos rfl, if_pos (Finset.mem_erase.2 ⟨hn.symm, Finset.mem_univ _⟩)]
  · rw [if_neg h, owing_off _ _ fun m e => h (by have := (kc_eq e).2; cases this; rfl)]
/-- What it owes at a second arrival. -/
theorem owed_recv2 (d c n : Dev nD) (hn : n ≠ c) : O₀ d (kc c (some (3, n))) () = if d = n then N else 0 := by
  unfold O₀
  rw [Pi.add_apply, Finsupp.add_apply, Pi.add_apply, Finsupp.add_apply, owing_off (g := fun m => kc m (some (1, d))) _ _ fun n h => (by cases (kc_eq h).2),
    owing_off (g := fun m => kc m none) _ _ fun n h => (by cases (kc_eq h).2), Nat.add_zero]
  by_cases h : d = n
  · subst h
    rw [owing_at (inj_at (some (3, d))), if_pos rfl, if_pos (Finset.mem_erase.2 ⟨hn.symm, Finset.mem_univ _⟩)]
  · rw [if_neg h, owing_off _ _ fun m e => h (by have := (kc_eq e).2; cases this; rfl)]

/-- The launch credit at a semaphore, once the devices' dues there are summed. -/
theorem credit_of (g : GSem nD τ sig) (k : ℕ) (h : ∑ d : Dev nD, O₀ d g () = k) :
    (tallyOn g (launchCredit (Pipeline.owing O₀) 0 g) : CellTallies nD τ sig Unit) = tallyAt g () k := by
  unfold tallyAt; refine congrArg _ (Finsupp.ext fun u => ?_); cases u
  rw [Pipeline.launchCredit_owing, Finsupp.single_eq_same, h]
/-- All devices together owe a device's barrier 31 units. -/
theorem credit_bar (c : Dev nD) : ∑ d : Dev nD, O₀ d (kc c none) () = 31 := by
  rw [Finset.sum_congr rfl fun d _ => owed_bar d c]
  revert c; decide
/-- All devices together owe a receive semaphore of the first copies one copy. -/
theorem credit_recv1 (c n : Dev nD) (hn : n ≠ c) : ∑ d : Dev nD, O₀ d (kc c (some (1, n))) () = N := by
  rw [Finset.sum_congr rfl fun d _ => owed_recv1 d c n hn, Finset.sum_ite_eq' Finset.univ n fun _ => N, if_pos (Finset.mem_univ _)]
/-- Likewise of the second copies. -/
theorem credit_recv2 (c n : Dev nD) (hn : n ≠ c) : ∑ d : Dev nD, O₀ d (kc c (some (3, n))) () = N := by
  rw [Finset.sum_congr rfl fun d _ => owed_recv2 d c n hn, Finset.sum_ite_eq' Finset.univ n fun _ => N, if_pos (Finset.mem_univ _)]

/-- The launch's credit holds what the body needs. -/
theorem credits_intro (c : Dev nD) : (Pipeline.launchCred O₀ c : sProp 𝕄) ⊢ credits c := by
  have h0 : (Pipeline.launchCred O₀ c : sProp 𝕄) ⊢ bigSep Finset.univ fun k : Slot => cred (tallyOn (kc c k) (launchCredit (Pipeline.owing O₀) 0 (kc c k))) := by
    unfold Pipeline.launchCred
    refine (BI.bigSep_subset (Finset.subset_univ (Finset.univ.map ⟨semOf, semOf_injective⟩))).trans ?_
    rw [BI.bigSep_map]
    exact BI.Entails.refl _
  refine h0.trans ?_
  rw [slots c]
  unfold credits
  iintro ⟨Hb, -, ⟨-, H1⟩, -, ⟨-, H3⟩⟩
  isplitl [Hb]; · rw [credit_of _ _ (credit_bar c)]; iexact Hb
  isplitl [H1]
  · iapply (mono (s := others c) (Φ := fun n => (cred (tallyOn (kc c (some (1, n))) (launchCredit (Pipeline.owing O₀) 0 (kc c (some (1, n))))) : sProp 𝕄))
      fun n hn => Entails.of_eq (congrArg cred (credit_of _ _ (credit_recv1 c n (Finset.ne_of_mem_erase hn)))))
    iexact H1
  · iapply (mono (s := others c) (Φ := fun n => (cred (tallyOn (kc c (some (3, n))) (launchCredit (Pipeline.owing O₀) 0 (kc c (some (3, n))))) : sProp 𝕄))
      fun n hn => Entails.of_eq (congrArg cred (credit_of _ _ (credit_recv2 c n (Finset.ne_of_mem_erase hn)))))
    iexact H3

end Cert.KernelIdeal.Ar
-- ==== Proof.Segment.lean ====
/-
A call of the kernel as a segment of @main: entered from every array of the device held whole, left the same way.
-/
module

public import proofs.«01_k».proof.Proof.Fund
public import proofs.«01_k».proof.Proof.Gen.KernelIdeal.Regions
public import Idealize.ShloMosaic.Lib.Pipeline.RegionTalk
public import Idealize.ShloMosaic.Lib.Pipeline.RegionArraysT

@[expose] public section

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

/-- The tables the calls are given, per device. -/
abbrev Tables (F : FTy → Type) [FloatOps F] := Dev nD → (p : Fin 3) → (pcfgs (F := F) p).Adm
/-- The calls' data at those tables. -/
abbrev Data (a : Tables F) := (p : Fin 3) → (c : Dev nD) → Dat τ (Elt F) Unit ℕ UU ℕ (pinD pcfgs a c p) c

variable (a : Tables F) (D : Data a) (p : Fin 3)

/-- A call's arrays at full share are those arrays held at a valuation that agrees with them. -/
theorem arrays_as_held (kit : PLaunchFacts (nD := nD) (τ := τ) (pcfgs (F := F)) p) (c : Dev nD) (hs : ∀ w, (D p c).share w = fullShare)
    (G : (w : Fin (pinD pcfgs a c p).W) → Buf (Elt F) (((pinD pcfgs a c p).win w).arr.view.loc (c : Thread nD τ)))
    (W : Valuation τ sig (Elt F)) (hG : ∀ w, G w = W (Proc.devRef .tc (arrRef (pcfgs (F := F) p).spec w))) :
    ((D p c).arrays G : sProp 𝕄) = StableHlo.held (c : Thread nD τ) (arrRefs (pcfgs (F := F) p).spec) W := by
  refine (Pipeline.PerCore.arrays_eq (pinD pcfgs a) D p c kit.arr_whole hs G).trans ?_
  unfold StableHlo.held arrRefs
  rw [bigSep_map, show Finset.univ.image (arrRef (pcfgs (F := F) p).spec) = Finset.univ.map ⟨arrRef (pcfgs (F := F) p).spec, kit.win.arr_inj⟩
    from (Finset.map_eq_image ⟨arrRef (pcfgs (F := F) p).spec, kit.win.arr_inj⟩ Finset.univ).symm, bigSep_map]
  exact bigSep_congr fun w _ => by rw [hG]; rfl

/-- A call as a segment: the arrays go in at `W`, come out at `W'`, beside `E` on entry and `E'` on exit; `R` passes
    the call by. -/
def region (kit : PLaunchFacts (nD := nD) (τ := τ) (pcfgs (F := F)) p)
    (K : Type) [Fintype K] (osem : K → SemLoc sig) (ho : OwnSemFacts (pcfgs (F := F) p).spec osem)
    (hbody : ∀ c, BodyObligationLoose (D p c) (defs₀ (F := F)) 𝒱₀ () Set.univ)
    (hwaits : ∀ c, (levAts L lv : sProp 𝕄) ⊢ Pipeline.PerCore.cellsWaits (pinD pcfgs a) D () p c)
    (W W' : Dev nD → Valuation τ sig (Elt F)) (E E' X Y R : Dev nD → sProp 𝕄)
    (hs : ∀ c w, (D p c).share w = fullShare)
    (hW : ∀ c w, (D p c).arrAt w 0 = W c (Proc.devRef .tc (arrRef (pcfgs (F := F) p).spec w)))
    (hT : ∀ c k, (a c p).1 k = W c (Proc.devRef .tc ((pcfgs (F := F) p).pre.ref k)))
    (hW' : ∀ c w, (D p c).arrAt w (pinD pcfgs a c p).N = W' c (Proc.devRef .tc (arrRef (pcfgs (F := F) p).spec w)))
    (hrest : ∀ c b, b ∉ arrRefs (τ := τ) (pcfgs (F := F) p).spec → W' c b = W c b)
    (hent : ∀ c, iprop(E c ∗ ownSems0 osem c ∗ levAts L lv) ⊢ iprop(|={Set.univ}=> ((D p c).owesAt () 0 ∗ X c ∗ R c)))
    (hin : ∀ c, iprop(X c ∗ prefHeld (pcfgs (F := F) p).pre c (fun _ => fullShare) (a c p).1 ∗ scopedRest (pcfgs (F := F) p).spec c) ⊢ (D p c).Φ 0)
    (hout : ∀ c, (D p c).Φ (Fin.last (pinD pcfgs a c p).N)
      ⊢ iprop((Y c ∗ prefHeld (pcfgs (F := F) p).pre c (fun _ => fullShare) (a c p).1) ∗ ownSems0 osem c ∗ scopedRest (pcfgs (F := F) p).spec c))
    (hex : ∀ c, iprop((D p c).owesAt () (Fin.last (pinD pcfgs a c p).N) ∗ Y c ∗ R c) ⊢ E' c) :
    Pipeline.PerCore.RegionSeg (pcfgs (F := F)) a D () (defs₀ (F := F)) 𝒱₀ L lv p where
  win := kit.win.to₀
  block_pos := kit.block_pos
  stage_whole := kit.stage_whole
  K := K
  osem := osem
  ho := ho
  hbody := hbody
  hwaits := hwaits
  pre c := iprop(StableHlo.held (c : Thread nD τ) (ucRefs τ sig) (W c) ∗ E c)
  post c := iprop(StableHlo.held (c : Thread nD τ) (ucRefs τ sig) (W' c) ∗ E' c)
  X := X
  Y c := iprop(Y c ∗ prefHeld (pcfgs (F := F) p).pre c (fun _ => fullShare) (a c p).1)
  Z c := iprop(StableHlo.held (c : Thread nD τ) ((ucRefs τ sig \ arrRefs (pcfgs (F := F) p).spec) \ tblRefs (pcfgs (F := F) p).pre) (W c) ∗ R c)
  hentry c := by
    rw [arrays_as_held a D p kit c (hs c) _ (W c) (hW c), Pipeline.prefHeld_held (pcfgs (F := F) p).pre kit.pre.inj c (a c p).1 (W c) (hT c),
      StableHlo.held_sub_split (c : Thread nD τ) (Pipeline.arrRefs_sub_ucRefs _ kit.win.arr_unscoped) (W c),
      StableHlo.held_sub_split (c : Thread nD τ) (Pipeline.tblRefs_sub_ucRefs_sdiff _ _ kit.pre.unscoped kit.pre.disj) (W c)]
    iintro ⟨⟨⟨Ha, Ht, Hr⟩, HE⟩, Ho, Hl⟩
    imod (hent c) $$ [HE Ho Hl] with ⟨HO, HX, HR⟩
    · isplitl [HE]; · iexact HE
      isplitl [Ho]; · iexact Ho
      iexact Hl
    imodintro
    isplitl [Ha]; · iexact Ha
    isplitl [Ht]; · iexact Ht
    isplitl [HO]; · iexact HO
    isplitl [HX]; · iexact HX
    isplitl [Hr]; · iexact Hr
    iexact HR
  hin := hin
  hout := hout
  hexit c := by
    have h1 : ∀ b ∈ ucRefs τ sig \ arrRefs (τ := τ) (pcfgs (F := F) p).spec, W' c b = W c b :=
      fun b hb => hrest c b (Finset.mem_sdiff.mp hb).2
    rw [arrays_as_held a D p kit c (hs c) _ (W' c) (hW' c), Pipeline.prefHeld_held (pcfgs (F := F) p).pre kit.pre.inj c (a c p).1 (W c) (hT c),
      StableHlo.held_sub_split (c : Thread nD τ) (Pipeline.arrRefs_sub_ucRefs _ kit.win.arr_unscoped) (W' c),
      StableHlo.held_congr (c : Thread nD τ) h1,
      StableHlo.held_sub_split (c : Thread nD τ) (Pipeline.tblRefs_sub_ucRefs_sdiff _ _ kit.pre.unscoped kit.pre.disj) (W c)]
    iintro ⟨Ha, HO, ⟨HY, Ht⟩, Hr, HR⟩
    imodintro
    isplitl [Ha Ht Hr]
    · isplitl [Ha]; · iexact Ha
      isplitl [Ht]; · iexact Ht
      iexact Hr
    iapply (hex c)
    isplitl [HO]; · iexact HO
    isplitl [HY]; · iexact HY
    iexact HR

end Cert.KernelIdeal.Ar
-- ==== Proof.Whole.lean ====
/-
Loads and stores of a whole block, and the bodies of the first two calls run on their blocks.
-/
module

public import proofs.«01_k».proof.Proof.Segment
public import proofs.«01_k».proof.Proof.Gen.KernelIdeal.Skeleton
public import proofs.«01_k».proof.Proof.Gen.KernelIdeal.Points

@[expose] public section

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

section Access
variable {s : Shape} {e : EltTy} (M : Memref sig .tc .vmem s e)

/-- A block a memref names, at contents `X`. -/
abbrev blk (c : Dev nD) (X : s.Idx → Elt F e) : sProp 𝕄 := owns (Ix := Unit) (Name := ℕ) (U := UU) (Lvl := ℕ) (c : Thread nD τ) M fullShare X

/-- The rectangle of the whole block takes each index to itself. -/
theorem whole_at {off : Fin s.rank → Nat} (h : off = fun _ => 0) (inb : ∀ a, off a + s.size a ≤ s.size a) (j : s.Idx) :
    (Rect.unit (s := s) off s.size inb).emb j = j := by
  subst h
  funext a
  exact Fin.ext (show 0 + 1 * (j a).val = (j a).val by omega)

/-- The memref read through the rectangle of the whole block is the memref read. -/
theorem read_all {off : Fin s.rank → Nat} (h : off = fun _ => 0) (inb : ∀ a, off a + s.size a ≤ s.size a) (f) :
    (M.access (Rect.unit (s := s) off s.size inb)).read (Elt F) f = M.view.read (Elt F) f :=
  funext fun j => congrArg (M.view.read (Elt F) f) (whole_at h inb j)

/-- A load of the whole block gets its contents. -/
theorem load_all (c : Dev nD) {off : Fin s.rank → Nat} (h : off = fun _ => 0) (inb : ∀ a, off a + s.size a ≤ s.size a)
    (hl : M.view.LoadsAt (Rect.unit (s := s) off s.size inb).toLoadRect) (X : s.Idx → Elt F e) {α : Type}
    (k : (s.Idx → Elt F e) → Code F α) (Q : α → sProp 𝕄) :
    iprop(blk M c X ∗ (blk M c X -∗ WP c (k X) Q)) ⊢ WP c (.op (.load M (Rect.unit (s := s) off s.size inb).toLoadRect hl) k) Q := by
  unfold blk owns
  iintro ⟨⟨%f, %hf, Hf⟩, Hk⟩
  iapply (wp_load_rect 𝒱₀ (c : Thread nD τ) none Set.univ (m := M) (r := Rect.unit (s := s) off s.size inb) (S := M.view.set)
    (M.view.set_slice_subset _)) $$ Hf
  iintro Hf
  rw [read_all M h inb f, hf]
  iapply Hk
  iexists f
  isplitr; · (ipureintro; exact hf)
  iexact Hf

/-- A store of the whole block leaves what was stored. -/
theorem store_all (c : Dev nD) {off : Fin s.rank → Nat} (h : off = fun _ => 0) (inb : ∀ a, off a + s.size a ≤ s.size a)
    (w : s.Idx → Elt F e) (hx : (M.access (Rect.unit (s := s) off s.size inb)).Stores Finset.univ) (hm)
    (X : s.Idx → Elt F e) {α : Type} (k : PUnit → Code F α) (Q : α → sProp 𝕄) :
    iprop(blk M c X ∗ (blk M c w -∗ WP c (k ⟨⟩) Q)) ⊢ WP c (.op (.store M (Rect.unit (s := s) off s.size inb) w Finset.univ hx hm) k) Q := by
  unfold blk owns
  iintro ⟨⟨%f, %hf, Hf⟩, Hk⟩
  iapply (wp_store 𝒱₀ (c : Thread nD τ) none Set.univ (m := M) (r := Rect.unit (s := s) off s.size inb) (S := M.view.set)
    (M.view.set_slice_subset _)) $$ Hf
  iintro Hf
  iapply Hk
  iexists _
  isplitr
  rotate_left
  · iexact Hf
  · ipureintro
    exact (read_all M h inb _).symm.trans (View.read_write_univ _ _)

end Access

/-- The offset zero on four axes. -/
theorem zero4 : (![0, 0, 0, 0] : Fin 4 → Nat) = fun _ => 0 := by decide
/-- The offset zero on three axes. -/
theorem zero3 : (![0, 0, 0] : Fin 3 → Nat) = fun _ => 0 := by decide
/-- The offset zero on two axes. -/
theorem zero2 : (![0, 0] : Fin 2 → Nat) = fun _ => 0 := by decide

/-- The heads a device takes from a block of keys. -/
def takeK (c : Dev nD) (X : Vec F S1x128x64x128 .f32) : FVec F S1x128x512 .f32 := k0_pay3 c X
/-- The heads a device takes from a block of values. -/
def takeV (c : Dev nD) (X : Vec F S1x128x64x128 .f32) : FVec F S1x128x512 .f32 :=
  k0_pay1 (k0_pay2 c) (k0_pay4 X) (constant S8192x8 .f32 0x00000000#32)

/-- The first call's body on its blocks. -/
theorem extract_body (c : Dev nD) (i : grid0.Coords) (T : Memref sig .tc .smem S1 .i32) (hT : T.IsWhole)
    (A : Memref sig .tc .vmem S1x128x64x128 .f32) (hA : A.IsWhole) (B : Memref sig .tc .vmem S1x128x64x128 .f32) (hB : B.IsWhole)
    (C : Memref sig .tc .vmem S1x128x512 .f32) (hC : C.IsWhole) (D : Memref sig .tc .vmem S1x128x512 .f32) (hD : D.IsWhole)
    (X Y : Vec F S1x128x64x128 .f32) (U V : FVec F S1x128x512 .f32) (Q : PUnit → sProp 𝕄) :
    iprop(blk A c X ∗ blk B c Y ∗ blk C c U ∗ blk D c V
        ∗ (iprop(blk A c X ∗ blk B c Y ∗ blk C c (takeK c X) ∗ blk D c (takeV c Y)) -∗ Q ⟨⟩))
      ⊢ WP c (cc0__extract_body i T hT A hA B hB C hC D hD) Q := by
  rw [cc0__extract_body_eq_skeleton]
  unfold cc0__extract_body_skel
  rw [k0_part1_eq_skeleton]
  unfold k0_part1_skel WP
  simp only [Prog.lift, Prog.bind_op, Prog.bind_ret, Prog.pure_eq_ret, Prog.bind_assoc]
  iintro ⟨HA, HB, HC, HD, Hk⟩
  sl_step
  iapply (load_all A c zero4 _ _ X)
  isplitl [HA]; · iexact HA
  iintro HA
  iapply (load_all C c zero3 _ _ U)
  isplitl [HC]; · iexact HC
  iintro HC
  iapply (store_all C c zero3 _ _ _ _ U)
  isplitl [HC]; · iexact HC
  iintro HC
  iapply (load_all B c zero4 _ _ Y)
  isplitl [HB]; · iexact HB
  iintro HB
  iapply (load_all D c zero3 _ _ V)
  isplitl [HD]; · iexact HD
  iintro HD
  iapply (store_all D c zero3 _ _ _ _ V)
  isplitl [HD]; · iexact HD
  iintro HD
  iapply (le_wp_ret frame (wpE (defs₀ (F := F)) 𝒱₀ (c : Thread nD τ) none) Set.univ PUnit.unit Q)
  iapply Hk
  isplitl [HA]; · iexact HA
  isplitl [HB]; · iexact HB
  isplitl [HC]; · iexact HC
  iexact HD

/-- One batch of the attention, from its rows, the query weights, its keys and values and the output weights. -/
def attn (X : Vec F S1x512x768 .f32) (Wq : Vec F S768x512 .f32) (K V : Vec F S1x512x512 .f32) (Wo : Vec F S512x768 .f32) : FVec F S1x512x768 .f32 :=
  let q := k1_pay2 X Wq
  let k := k1_pay3 K
  let v := k1_pay4 V
  k1_pay1 (k1_pay7 (k1_pay5 V) (k1_pay6 X Wq K) (constant S4x128x64 .f32 0x00000000#32)) (k1_pay8 q k v) (k1_pay9 q k v)
    (k1_pay12 v (k1_pay10 q) (k1_pay11 k)) (k1_pay13 q k v) (k1_pay16 (k1_pay14 v) (k1_pay15 q k) (Scalar.ofBits .f32 0x3E000000#32))
    (k1_pay17 q k v) (k1_pay18 v) (k1_pay19 q k) (k1_pay20 q k) Wo

/-- The second call's body on its blocks. -/
theorem attn_body (c : Dev nD) (i : grid1.Coords)
    (A : Memref sig .tc .vmem S1x512x768 .f32) (hA : A.IsWhole) (B : Memref sig .tc .vmem S768x512 .f32) (hB : B.IsWhole)
    (C : Memref sig .tc .vmem S1x512x512 .f32) (hC : C.IsWhole) (D : Memref sig .tc .vmem S1x512x512 .f32) (hD : D.IsWhole)
    (G : Memref sig .tc .vmem S512x768 .f32) (hG : G.IsWhole) (H : Memref sig .tc .vmem S1x512x768 .f32) (hH : H.IsWhole)
    (X : Vec F S1x512x768 .f32) (Wq : Vec F S768x512 .f32) (K V : Vec F S1x512x512 .f32) (Wo : Vec F S512x768 .f32) (U : FVec F S1x512x768 .f32)
    (Q : PUnit → sProp 𝕄) :
    iprop(blk A c X ∗ blk B c Wq ∗ blk C c K ∗ blk D c V ∗ blk G c Wo ∗ blk H c U
        ∗ (iprop(blk A c X ∗ blk B c Wq ∗ blk C c K ∗ blk D c V ∗ blk G c Wo ∗ blk H c (attn X Wq K V Wo)) -∗ Q ⟨⟩))
      ⊢ WP c (cc1__attn_body i A hA B hB C hC D hD G hG H hH) Q := by
  rw [cc1__attn_body_eq_skeleton]
  unfold cc1__attn_body_skel
  rw [k1_part1_eq_skeleton, k1_part2_eq_skeleton, k1_part3_eq_skeleton, k1_part4_eq_skeleton]
  unfold k1_part1_skel k1_part2_skel k1_part3_skel k1_part4_skel WP
  simp only [Prog.lift, Prog.bind_op, Prog.bind_ret, Prog.pure_eq_ret, Prog.bind_assoc]
  iintro ⟨HA, HB, HC, HD, HG, HH, Hk⟩
  iapply (load_all A c zero3 _ _ X)
  isplitl [HA]; · iexact HA
  iintro HA
  iapply (load_all B c zero2 _ _ Wq)
  isplitl [HB]; · iexact HB
  iintro HB
  iapply (load_all C c zero3 _ _ K)
  isplitl [HC]; · iexact HC
  iintro HC
  iapply (load_all D c zero3 _ _ V)
  isplitl [HD]; · iexact HD
  iintro HD
  iapply (load_all G c zero2 _ _ Wo)
  isplitl [HG]; · iexact HG
  iintro HG
  iapply (load_all H c zero3 _ _ U)
  isplitl [HH]; · iexact HH
  iintro HH
  iapply (store_all H c zero3 _ _ _ _ U)
  isplitl [HH]; · iexact HH
  iintro HH
  iapply (le_wp_ret frame (wpE (defs₀ (F := F)) 𝒱₀ (c : Thread nD τ) none) Set.univ PUnit.unit Q)
  iapply Hk
  isplitl [HA]; · iexact HA
  isplitl [HB]; · iexact HB
  isplitl [HC]; · iexact HC
  isplitl [HD]; · iexact HD
  isplitl [HG]; · iexact HG
  unfold attn
  iexact HH

end Cert.KernelIdeal.Ar
-- ==== Proof.Heads.lean ====
/-
The attention body as eight heads: each is the same function of the projected rows, read at its own columns.
-/
module

public import proofs.«01_k».proof.Proof.Whole
public import Idealize.ShloMosaic.Lib.Pointwise
public import Idealize.ShloMosaic.Lib.WordCmp

@[expose] public section

noncomputable section

namespace Cert.KernelIdeal.Ar

open Cert.KernelIdeal Cert.KernelIdeal.Gen
open Idealize.ShloMosaic
open Idealize.ShloMosaic.TcCoe

section Generic
variable {F : FTy → Type} [FloatOps F]

/-- One head: 64 columns of the queries, keys and values, starting at column `o`, in four groups of 128 rows; each row
attends to the rows of its group. -/
def head (o : Nat) (hs : S512x512.Slices ![0, o] S512x64) (q k v : FVec F S512x512 .bf16) : FVec F S512x64 .bf16 :=
  have qh : FVec F S4x128x64 .bf16 := shapeCast S4x128x64 (extractStridedSlice S512x64 ![0, o] q hs) shapeCasts_S512x64_S4x128x64
  have kh : FVec F S4x128x64 .bf16 := shapeCast S4x128x64 (extractStridedSlice S512x64 ![0, o] k hs) shapeCasts_S512x64_S4x128x64
  have vh : FVec F S4x128x64 .bf16 := shapeCast S4x128x64 (extractStridedSlice S512x64 ![0, o] v hs) shapeCasts_S512x64_S4x128x64
  have s : FVec F S4x128x128 .f32 := mulf
    (matmul dot_S4x128x64_S4x128x64_S4x128x128_2_2_1_1_0_0 none qh kh (constant S4x128x128 .f32 0x00000000#32))
    (broadcast S4x128x128 (Scalar.ofBits .f32 0x3E000000#32))
  have top : FVec F S4x128x128 .f32 := broadcastTo S4x128x128 (shapeCast S4x128x1
    (multiReduction .maximumf [2] S4x128 s 0xFF800000#32 reduces_S4x128x128_S4x128 (.inl rfl) rfl)
    shapeCasts_S4x128_S4x128x1) broadcasts_S4x128x1_S4x128x128
  have e : FVec F S4x128x128 .f32 := exp (subf s top)
  have all : FVec F S4x128x128 .f32 := broadcastTo S4x128x128 (shapeCast S4x128x1
    (multiReduction .add [2] S4x128 e 0x00000000#32 reduces_S4x128x128_S4x128 (.inl rfl) rfl)
    shapeCasts_S4x128_S4x128x1) broadcasts_S4x128x1_S4x128x128
  shapeCast S512x64 (truncf .bf16
    (matmul dot_S4x128x128_S4x128x64_S4x128x64_2_1_1_2_0_0 none (truncf .bf16 (divf e all) bitsLt_bf16_f32) vh
      (constant S4x128x64 .f32 0x00000000#32)) bitsLt_bf16_f32) shapeCasts_S4x128x64_S512x64

/-- The eight heads side by side. -/
def beside (q k v : FVec F S512x512 .bf16) : FVec F S512x512 .bf16 :=
  concatenate S512x512 1
    [⟨S512x64, head 0 slices_S512x512_o0_0_S512x64 q k v⟩, ⟨S512x64, head 64 slices_S512x512_o0_64_S512x64 q k v⟩,
     ⟨S512x64, head 128 slices_S512x512_o0_128_S512x64 q k v⟩, ⟨S512x64, head 192 slices_S512x512_o0_192_S512x64 q k v⟩,
     ⟨S512x64, head 256 slices_S512x512_o0_256_S512x64 q k v⟩, ⟨S512x64, head 320 slices_S512x512_o0_320_S512x64 q k v⟩,
     ⟨S512x64, head 384 slices_S512x512_o0_384_S512x64 q k v⟩, ⟨S512x64, head 448 slices_S512x512_o0_448_S512x64 q k v⟩]
    concatenates_S512x64_S512x64_S512x64_S512x64_S512x64_S512x64_S512x64_S512x64_S512x512_d1

/-- The rows put back in their order and multiplied by the output weights. -/
def project (X : FVec F S512x512 .bf16) (Wo : FVec F S512x768 .f32) : FVec F S1x512x768 .f32 :=
  shapeCast S1x512x768
    (matmul dot_S512x512_S512x768_S512x768_1_0_0_1_n_n none
      (shapeCast S512x512 (transpose S2x4x64x512 [1, 0, 2, 3] (shapeCast S4x2x64x512 X shapeCasts_S512x512_S4x2x64x512)
        transposes_S4x2x64x512_p1_0_2_3_S2x4x64x512) shapeCasts_S2x4x64x512_S512x512)
      (truncf .bf16 (shapeCast S512x768 Wo shapeCasts_S512x768_S512x768) bitsLt_bf16_f32)
      (constant S512x768 .f32 0x00000000#32)) shapeCasts_S512x768_S1x512x768

/-- The attention body's result is the projection of its eight heads. -/
theorem attn_heads (X : Vec F S1x512x768 .f32) (Wq : Vec F S768x512 .f32) (K V : Vec F S1x512x512 .f32) (Wo : Vec F S512x768 .f32) :
    attn X Wq K V Wo = project (beside (k1_pay2 X Wq) (k1_pay3 K) (k1_pay4 V)) Wo := rfl

end Generic

/-- The scores' factor, one eighth. -/
abbrev eighth : EReal := Ideal.ofBits .f32 0x3E000000#32

/-- Values mixed by the softmax of their scores. -/
def mix {ι : Type} [Fintype ι] (s v : ι → EReal) : EReal :=
  ∑ x, Ideal.div (Ideal.exp (s x - Finset.univ.fold max (Ideal.ofBits .f32 0xFF800000#32) s))
    (∑ y, Ideal.exp (s y - Finset.univ.fold max (Ideal.ofBits .f32 0xFF800000#32) s)) * v x

/-- The row of position `x` of the group that grouped row `r` is in. -/
abbrev mate (r : Fin 512) (x : Fin 128) : Fin 512 := ⟨r.val / 128 * 128 + x.val, by omega⟩

/-- Column `e` of the head that starts at column `o`. -/
abbrev col (o : Nat) (ho : o + 64 ≤ 512) (e : Fin 64) : Fin 512 := ⟨o + e.val, by omega⟩

/-- Each entry of a head at the extended reals: the values of the row's group, mixed by the scores. -/
theorem head_apply (o : Nat) (ho : o + 64 ≤ 512) (hs : S512x512.Slices ![0, o] S512x64) (q k v : FVec Ideal S512x512 .bf16)
    (r : Fin 512) (d : Fin 64) :
    head o hs q k v (ix2 r d)
      = mix (fun x : Fin 128 => (∑ e : Fin 64, q (ix2 r (col o ho e)) * k (ix2 (mate r x) (col o ho e))) * eighth)
          (fun x => v (ix2 (mate r x) (col o ho d))) := by
  have hr : ∀ h, (⟨r.val / 128 * 128 + r.val % 128, h⟩ : Fin 512) = r := fun h => Fin.ext (Nat.div_add_mod' r.val 128)
  pointwise [head, mix]
  simp only [hr]

/-- The columns of each head lie inside the row. -/
theorem cuts : ∀ h : Fin 8, S512x512.Slices ![0, 64 * h.val] S512x64
  | 0 => slices_S512x512_o0_0_S512x64
  | 1 => slices_S512x512_o0_64_S512x64
  | 2 => slices_S512x512_o0_128_S512x64
  | 3 => slices_S512x512_o0_192_S512x64
  | 4 => slices_S512x512_o0_256_S512x64
  | 5 => slices_S512x512_o0_320_S512x64
  | 6 => slices_S512x512_o0_384_S512x64
  | 7 => slices_S512x512_o0_448_S512x64

set_option maxHeartbeats 2000000 in
/-- The eight heads side by side, read in one head's columns, are that head. -/
theorem beside_head (q k v : FVec Ideal S512x512 .bf16) (r : Fin 512) (h : Fin 8) (d : Fin 64) :
    beside q k v (ix2 r (col (64 * h.val) (by omega) d)) = head (64 * h.val) (cuts h) q k v (ix2 r d) := by
  fin_cases h <;> pointwise [beside] <;> split_ifs <;> first | omega | skip
  all_goals exact congrArg (fun t => head _ _ q k v (ix2 r t)) (Fin.ext (by dsimp only; omega))

/-- The row of the block that grouped row `r` holds. -/
abbrev rowOf (r : Fin 512) : Fin 512 := ⟨r.val / 64 % 2 * 256 + r.val / 128 * 64 + r.val % 64, by omega⟩

/-- The grouped row that holds row `i` of the block. -/
abbrev groupOf (i : Fin 512) : Fin 512 := ⟨i.val / 64 % 4 * 128 + i.val / 256 * 64 + i.val % 64, by omega⟩

/-- The queries: row by column products of the block and the device's weights, the rows in groups. -/
theorem queries_apply (X : Vec Ideal S1x512x768 .f32) (Wq : Vec Ideal S768x512 .f32) (r c : Fin 512) :
    k1_pay2 X Wq (ix2 r c) = ∑ e : Fin 768, X (ix3 0 (rowOf r) e) * Wq (ix2 e c) := by
  pointwise [k1_pay2]

/-- The keys, their rows in groups. -/
theorem keys_apply (X : Vec Ideal S1x512x512 .f32) (r c : Fin 512) : k1_pay3 X (ix2 r c) = X (ix3 0 (rowOf r) c) := by
  pointwise [k1_pay3]

/-- The values, their rows in groups. -/
theorem vals_apply (X : Vec Ideal S1x512x512 .f32) (r c : Fin 512) : k1_pay4 X (ix2 r c) = X (ix3 0 (rowOf r) c) := by
  pointwise [k1_pay4]

/-- The projection: each row is taken from its group. -/
theorem project_apply (X : FVec Ideal S512x512 .bf16) (Wo : Vec Ideal S512x768 .f32) (i : Fin 512) (n : Fin 768) :
    project X Wo (ix3 0 i n) = ∑ c : Fin 512, X (ix2 (groupOf i) c) * Wo (ix2 c n) := by
  pointwise [project]

/-- Eight times the place of the device in its half, as the kernel computes it. -/
theorem place_word : ∀ c : Dev nD, Scalar.muli
      (Scalar.select
        (Scalar.andi
          (Scalar.xori
            (Scalar.cmpi .slt (Scalar.remsi (Scalar.remsi (Scalar.divsi c.word 1#32) 32#32) (Scalar.select (Scalar.cmpi .eq 16#32 0#32) 1#32 16#32)) 0#32)
            (Scalar.cmpi .slt (Scalar.select (Scalar.cmpi .eq 16#32 0#32) 1#32 16#32) 0#32))
          (Scalar.cmpi .ne (Scalar.remsi (Scalar.remsi (Scalar.divsi c.word 1#32) 32#32) (Scalar.select (Scalar.cmpi .eq 16#32 0#32) 1#32 16#32)) 0#32))
        (Scalar.addi (Scalar.remsi (Scalar.remsi (Scalar.divsi c.word 1#32) 32#32) (Scalar.select (Scalar.cmpi .eq 16#32 0#32) 1#32 16#32))
          (Scalar.select (Scalar.cmpi .eq 16#32 0#32) 1#32 16#32))
        (Scalar.remsi (Scalar.remsi (Scalar.divsi c.word 1#32) 32#32) (Scalar.select (Scalar.cmpi .eq 16#32 0#32) 1#32 16#32)))
      8#32 = BitVec.ofNat 32 (c.val % 16 * 8) := by decide +kernel

/-- The head of the half that the device takes as its `n`-th. -/
abbrev headOf (c : Dev nD) (n : Fin 8) : Fin 128 := ⟨c.val % 16 * 8 + n.val, by omega⟩

/-- The selection matrix is one where a head of the half is the device's `n`-th, and zero elsewhere. -/
theorem select_apply (c : Dev nD) (x : Fin 128) (n : Fin 8) :
    k0_pay2 (F := Ideal) c (ix2 x n) = if x = headOf c n then 1 else 0 := by
  pointwise [k0_pay2]
  rw [place_word]
  by_cases h : x = headOf c n
  · rw [if_pos h]
    subst h
    rw [IntOp.addi, ← BitVec.ofNat_add, WordCmp.cmpi_eq_ofNat (by omega) (by omega)]
    simp; exact (congrArg ((↑) : ℝ → EReal) (by norm_num : (((1#32 : BitVec 32).toInt : ℤ) : ℝ) = 1)).trans EReal.coe_one
  · rw [if_neg h]
    have : x.val ≠ c.val % 16 * 8 + n.val := fun e => h (Fin.ext e)
    rw [IntOp.addi, ← BitVec.ofNat_add, WordCmp.cmpi_eq_ofNat (by omega) (by omega)]
    simp [this]; exact (congrArg ((↑) : ℝ → EReal) (by norm_num : (((0#32 : BitVec 32).toInt : ℤ) : ℝ) = 0)).trans EReal.coe_zero

/-- A sum against the selection is the selected term. -/
theorem select_sum (c : Dev nD) (n : Fin 8) (f : Fin 128 → EReal) :
    ∑ x, f x * k0_pay2 (F := Ideal) c (ix2 x n) = f (headOf c n) := by
  simp only [select_apply, mul_ite, mul_one, mul_zero, Finset.sum_ite_eq', Finset.mem_univ, if_true]

/-- The keys a device takes from a block: the eight heads that are its own, one after another along the columns. -/
theorem takeK_apply (c : Dev nD) (X : Vec Ideal S1x128x64x128 .f32) (r : Fin 128) (n : Fin 512) :
    takeK c X (ix3 0 r n) = X (ix4 0 r ⟨n.val % 64, by omega⟩ (headOf c ⟨n.val / 64, by omega⟩)) := by
  pointwise [takeK, k0_pay3]
  rw [select_sum c ⟨n.val / 64, by omega⟩ (fun x => X (ix4 0 r _ x))]
  congr 2
  exact Fin.ext (by show (r.val * 64 + n.val % 64) % 64 = n.val % 64; omega)

/-- The values a device takes from a block, in the same order. -/
theorem takeV_apply (c : Dev nD) (X : Vec Ideal S1x128x64x128 .f32) (r : Fin 128) (n : Fin 512) :
    takeV c X (ix3 0 r n) = X (ix4 0 r ⟨n.val % 64, by omega⟩ (headOf c ⟨n.val / 64, by omega⟩)) := by
  pointwise [takeV, k0_pay1, k0_pay4]
  rw [select_sum c ⟨n.val / 64, by omega⟩ (fun x => X (ix4 0 r _ x))]
  congr 2
  exact Fin.ext (by show (r.val * 64 + n.val % 64) % 64 = n.val % 64; omega)

end Cert.KernelIdeal.Ar
-- ==== Proof.Softmax.lean ====
/-
The softmax of scores that are −∞ outside a set is the softmax over the set.
-/
module

public import proofs.«01_k».proof.Proof.Heads
public import Idealize.ShloMosaic.Lib.IdealHost

@[expose] public section

noncomputable section

namespace Cert.KernelIdeal.Ar

open Idealize.ShloMosaic

/-- The pattern of −∞ is the least extended real. -/
theorem lowest : Ideal.ofBits .f32 0xFF800000#32 = ⊥ := by
  simp [Ideal.ofBits, Ideal.ieee]

/-- The extended reals that are reals. -/
def IsReal (x : EReal) : Prop := ∃ r : ℝ, x = (r : EReal)

/-- A product of reals is real. -/
theorem IsReal.mul {x y : EReal} : IsReal x → IsReal y → IsReal (x * y)
  | ⟨r, hr⟩, ⟨t, ht⟩ => ⟨r * t, by rw [hr, ht, EReal.coe_mul]⟩

/-- A sum of two reals is real. -/
theorem IsReal.add {x y : EReal} : IsReal x → IsReal y → IsReal (x + y)
  | ⟨r, hr⟩, ⟨t, ht⟩ => ⟨r + t, by rw [hr, ht, EReal.coe_add]⟩

/-- A finite sum of reals is real. -/
theorem IsReal.sum {ι : Type} [Fintype ι] {f : ι → EReal} (h : ∀ i, IsReal (f i)) : IsReal (∑ i, f i) :=
  Finset.sum_induction f IsReal (fun _ _ => IsReal.add) ⟨0, EReal.coe_zero.symm⟩ fun i _ => h i

/-- The scores' factor is real. -/
theorem eighth_real : IsReal eighth :=
  ⟨1 / 8, by simp [eighth, Ideal.ofBits, Ideal.ieee, -EReal.coe_mul]; norm_num⟩

/-- The running maximum from the least element is the supremum. -/
theorem top_eq_sup {ι : Type} [Fintype ι] (s : ι → EReal) : Finset.univ.fold max (⊥ : EReal) s = Finset.univ.sup s := rfl

/-- The exponential is never negative. -/
theorem exp_nonneg (x : EReal) : 0 ≤ Ideal.exp x := by
  induction x using EReal.rec with
  | bot => exact le_of_eq Ideal.exp_bot.symm
  | top => rw [Ideal.exp_top]; exact le_top
  | coe r => rw [Ideal.exp_coe]; exact_mod_cast (Real.exp_pos r).le

variable {ι κ : Type} [Fintype ι] [Fintype κ] [Nonempty κ]

/-- The normaliser of real scores is not zero: the largest score gives one. -/
theorem all_ne_zero (t : κ → EReal) (ht : ∀ x, IsReal (t x)) : ∑ y, Ideal.exp (t y - Finset.univ.sup t) ≠ 0 := by
  obtain ⟨x, -, hx⟩ := Finset.exists_mem_eq_sup (Finset.univ : Finset κ) Finset.univ_nonempty t
  obtain ⟨r, hr⟩ := ht x
  have h1 : Ideal.exp (t x - Finset.univ.sup t) = 1 := by
    rw [hx, hr, ← EReal.coe_sub, sub_self, EReal.coe_zero, ← EReal.coe_zero, Ideal.exp_coe, Real.exp_zero, EReal.coe_one]
  have h2 := Finset.single_le_sum (f := fun y => Ideal.exp (t y - Finset.univ.sup t)) (fun y _ => exp_nonneg _) (Finset.mem_univ x)
  have h3 : (1 : EReal) ≤ ∑ y, Ideal.exp (t y - Finset.univ.sup t) := h1 ▸ h2
  intro h
  rw [h] at h3
  exact absurd h3 (not_le.mpr zero_lt_one)

/-- Scores that are −∞ outside the image of `e` mix the values as the scores on the image do. -/
theorem mix_masked (A : ι → Prop) [DecidablePred A] (e : κ → ι) (he : Function.Injective e) (hA : ∀ j, A j ↔ ∃ x, e x = j)
    (t v : ι → EReal) (ht : ∀ x, IsReal (t (e x))) :
    mix (fun j => if A j then t j else ⊥) v = mix (fun x => t (e x)) (fun x => v (e x)) := by
  have hin : ∀ x, (if A (e x) then t (e x) else ⊥) = t (e x) := fun x => if_pos ((hA _).mpr ⟨x, rfl⟩)
  have hout : ∀ j, j ∉ Set.range e → (if A j then t j else (⊥ : EReal)) = ⊥ := fun j hj => if_neg fun h => hj ((hA j).mp h)
  have htop : Finset.univ.sup (fun j => if A j then t j else (⊥ : EReal)) = Finset.univ.sup (fun x => t (e x)) := by
    apply le_antisymm
    · refine Finset.sup_le fun j _ => ?_
      by_cases h : A j
      · obtain ⟨x, rfl⟩ := (hA j).mp h
        rw [hin]
        exact Finset.le_sup (f := fun x => t (e x)) (Finset.mem_univ x)
      · rw [if_neg h]; exact bot_le
    · refine Finset.sup_le fun x _ => ?_
      rw [← hin x]
      exact Finset.le_sup (f := fun j => if A j then t j else (⊥ : EReal)) (Finset.mem_univ (e x))
  have hsum : ∀ M : EReal, ∑ j, Ideal.exp ((if A j then t j else ⊥) - M) = ∑ x, Ideal.exp (t (e x) - M) := fun M =>
    (Finset.sum_of_injOn e he.injOn (fun x _ => Finset.mem_coe.mpr (Finset.mem_univ _))
      (fun j _ hj => by
        rw [hout j (fun ⟨x, hx⟩ => hj ⟨x, Finset.mem_coe.mpr (Finset.mem_univ x), hx⟩), sub_eq_add_neg, EReal.bot_add, Ideal.exp_bot])
      (fun x _ => by rw [hin])).symm
  unfold mix
  simp only [lowest, top_eq_sup]
  rw [htop, hsum]
  refine (Finset.sum_of_injOn e he.injOn (fun x _ => Finset.mem_coe.mpr (Finset.mem_univ _)) (fun j _ hj => ?_) (fun x _ => ?_)).symm
  · rw [hout j (fun ⟨x, hx⟩ => hj ⟨x, Finset.mem_coe.mpr (Finset.mem_univ x), hx⟩), sub_eq_add_neg, EReal.bot_add, Ideal.exp_bot,
      Idealize.ShloMosaic.Ideal.zero_div (all_ne_zero _ ht), zero_mul]
  · rw [hin]

/-- The position of the block that member `x` of position `i`'s group holds. -/
abbrev member (i : Fin 512) (x : Fin 128) : Fin 512 := ⟨x.val / 64 * 256 + i.val / 64 % 4 * 64 + x.val % 64, by omega⟩

/-- A position's group is the positions whose block is its own by fours. -/
theorem mem_group (i j : Fin 512) : (i.val / 64 % 4 = j.val / 64 % 4) ↔ ∃ x, member i x = j := by
  constructor
  · intro h
    refine ⟨⟨j.val / 256 * 64 + j.val % 64, by omega⟩, Fin.ext ?_⟩
    show (j.val / 256 * 64 + j.val % 64) / 64 * 256 + i.val / 64 % 4 * 64 + (j.val / 256 * 64 + j.val % 64) % 64 = j.val
    omega
  · rintro ⟨x, rfl⟩
    show i.val / 64 % 4 = (x.val / 64 * 256 + i.val / 64 % 4 * 64 + x.val % 64) / 64 % 4
    omega

/-- Each position of the group has one place. -/
theorem member_inj (i : Fin 512) : Function.Injective (member i) := fun x y h => by
  have h' : x.val / 64 * 256 + i.val / 64 % 4 * 64 + x.val % 64 = y.val / 64 * 256 + i.val / 64 % 4 * 64 + y.val % 64 := congrArg Fin.val h
  exact Fin.ext (by omega)

/-- The digits of a grouped row. -/
theorem grouped_digits (i : Fin 512) : (groupOf i).val / 64 % 2 = i.val / 256 ∧ (groupOf i).val / 128 = i.val / 64 % 4 ∧ (groupOf i).val % 64 = i.val % 64 := by
  show (i.val / 64 % 4 * 128 + i.val / 256 * 64 + i.val % 64) / 64 % 2 = _ ∧ (i.val / 64 % 4 * 128 + i.val / 256 * 64 + i.val % 64) / 128 = _
    ∧ (i.val / 64 % 4 * 128 + i.val / 256 * 64 + i.val % 64) % 64 = _
  have h : i.val / 256 < 2 := by omega
  have g : i.val / 64 % 4 < 4 := by omega
  have l : i.val % 64 < 64 := by omega
  generalize i.val / 256 = a at *
  generalize i.val / 64 % 4 = b at *
  generalize i.val % 64 = d at *
  omega

/-- A position is the row of the block that its grouped row holds. -/
theorem row_group (i : Fin 512) : rowOf (groupOf i) = i := Fin.ext (by
  obtain ⟨h1, h2, h3⟩ := grouped_digits i
  show (groupOf i).val / 64 % 2 * 256 + (groupOf i).val / 128 * 64 + (groupOf i).val % 64 = i.val
  rw [h1, h2, h3]
  omega)

/-- The rows of a position's group are the members of its group. -/
theorem row_mate (i : Fin 512) (x : Fin 128) : rowOf (mate (groupOf i) x) = member i x := Fin.ext (by
  obtain ⟨h1, h2, h3⟩ := grouped_digits i
  show ((groupOf i).val / 128 * 128 + x.val) / 64 % 2 * 256 + ((groupOf i).val / 128 * 128 + x.val) / 128 * 64
    + ((groupOf i).val / 128 * 128 + x.val) % 64 = x.val / 64 * 256 + i.val / 64 % 4 * 64 + x.val % 64
  rw [h2]
  generalize i.val / 64 % 4 = b
  omega)

end Cert.KernelIdeal.Ar
-- ==== Proof.Calls.lean ====
/-
The three calls as segments of @main.
-/
module

public import proofs.«01_k».proof.Proof.Whole
public import Idealize.ShloMosaic.Lib.Pipeline.FrameBody

@[expose] public section

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

/-- A block at contents is that block at contents equal to them. -/
theorem blk_of_eq {s : Shape} {e : EltTy} (M : Memref sig .tc .vmem s e) (c : Dev nD) {X Y : s.Idx → Elt F e} (h : X = Y) : blk M c X ⊢ blk M c Y := by
  rw [h]

/-! ## The table of the first call -/

/-- The half of the heads a device's own lie in. -/
abbrev half (c : Dev nD) : BitVec 32 := BitVec.ofNat 32 (c.val / 16)

/-- The table of a device: that half. -/
def tab (c : Dev nD) : pre0.Contents (Elt F) := fun
  | ⟨0, _⟩ => (fun _ : S1.Idx => half c)

/-- The table's entry is 0 or 1. -/
theorem half_lt (c : Dev nD) : (half c).toNat < 2 := by revert c; decide

/-- A word below two names a block of heads inside the arrays. -/
theorem block_in (i : grid0.Coords) (v : BitVec 32) (hv : v.toNat < 2) (a : Fin 4) :
    ((![(BitVec.ofNat 32 (i 0).val).toNat, (BitVec.ofNat 32 (i 1).val).toNat, (0#32 : BitVec 32).toNat, v.toNat] : Fin 4 → Nat) a + 1) * S1x128x64x128.size a
      ≤ S2x512x64x256.size a := by
  have h0 : (i 0).val < 2 := (i 0).isLt
  have h1 : (i 1).val < 4 := (i 1).isLt
  fin_cases a
  · show ((BitVec.ofNat 32 (i 0).val).toNat + 1) * 1 ≤ 2
    rw [BitVec.toNat_ofNat, Nat.mod_eq_of_lt (by omega)]; omega
  · show ((BitVec.ofNat 32 (i 1).val).toNat + 1) * 128 ≤ 512
    rw [BitVec.toNat_ofNat, Nat.mod_eq_of_lt (by omega)]; omega
  · show (0 + 1) * 64 ≤ 64; omega
  · show (v.toNat + 1) * 128 ≤ 256; omega

/-- The table keeps every block of the first call inside its array. -/
theorem tab_ok (c : Dev nD) : ok0 (F := F) (tab c) := by
  unfold ok0
  exact ⟨fun i => ⟨block_in i (half c) (half_lt c), Or.inl rfl⟩, fun i => ⟨block_in i (half c) (half_lt c), Or.inl rfl⟩⟩

/-- Every call's table. -/
def adm : Tables F := fun c p => match p with
  | ⟨0, _⟩ => ⟨tab c, tab_ok c⟩
  | ⟨1, _⟩ => cfg1.toPCfg_adm
  | ⟨2, _⟩ => cfg2.toPCfg_adm

/-- The first call on a device. -/
abbrev C0 (c : Dev nD) : Cfg sig Λ₀ := cfg0 (F := F) ⟨tab c, tab_ok c⟩

variable (W : Dev nD → Valuation τ sig (Elt F))

/-! ## The first call -/

/-- The keys and values a point of the first call is given. -/
abbrev keys (c : Dev nD) (t : Fin grid0.N) : Vec F S1x128x64x128 .f32 := (((C0 (F := F) c).win 0).blk t).view.read (Elt F) (W c main_v7)
/-- The block of V that a step of the first call reads. -/
abbrev vals (c : Dev nD) (t : Fin grid0.N) : Vec F S1x128x64x128 .f32 := (((C0 (F := F) c).win 1).blk t).view.read (Elt F) (W c main_v8)

/-- What the first call carries from point to point. -/
def carried (c : Dev nD) : sProp 𝕄 := iprop(scopedRest spec0 c ∗ prefHeld pre0 c (fun _ => fullShare) (tab c))

/-- The first call: what its arrays and its buffers hold at each step. -/
def dat0 (c : Dev nD) : Dat τ (Elt F) Unit ℕ UU ℕ (C0 (F := F) c) c where
  A w := W c (Proc.devRef .tc (arrRef spec0 w))
  after w t := match w with
    | ⟨0, _⟩ => keys W c t
    | ⟨1, _⟩ => vals W c t
    | ⟨2, _⟩ => takeK c (keys W c t)
    | ⟨3, _⟩ => takeV c (vals W c t)
  Φ _ := carried c
  q _ := fullShare
  owed _ := O₀ c

/-- Before a step the buffer of K holds its block. -/
theorem before0_0 (c : Dev nD) (t : Fin grid0.N) (d) : (dat0 W c).before 0 t d = keys W c t :=
  (dat0 W c).before_in_eq_fetched 0 rfl (fun _ => rfl) (fun _ _ _ => rfl) (fun _ => rfl) t d
/-- Before a step the buffer of V holds its block. -/
theorem before0_1 (c : Dev nD) (t : Fin grid0.N) (d) : (dat0 W c).before 1 t d = vals W c t :=
  (dat0 W c).before_in_eq_fetched 1 rfl (fun _ => rfl) (fun _ _ _ => rfl) (fun _ => rfl) t d

set_option maxRecDepth 4000 in
/-- The first call's body meets its description. -/
theorem obligation0 (c : Dev nD) : BodyObligation (dat0 W c) (defs₀ (F := F)) 𝒱₀ () Set.univ := fun t => by
  rw [bigSep_W0, bigSep_W0]
  rw [show (dat0 W c).Φ t.castSucc = carried c from rfl, show (dat0 W c).Φ t.succ = carried c from rfl,
    show (dat0 W c).owesAt () t.succ = (dat0 W c).owesAt () t.castSucc from rfl]
  iintro ⟨HΦ, HO, ⟨%d0, H0⟩, ⟨%d1, H1⟩, ⟨%d2, H2⟩, ⟨%d3, H3⟩⟩
  iapply (extract_body c (grid0.coords t) _ _ _ _ _ _ _ _ _ _ (keys W c t) (vals W c t) _ _)
  isplitl [H0]; · (iapply (blk_of_eq _ c (before0_0 W c t d0)); iexact H0)
  isplitl [H1]; · (iapply (blk_of_eq _ c (before0_1 W c t d1)); iexact H1)
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

/-! ## The second call -/

/-- The rows, query weights, keys, values and output weights a point of the second call is given. -/
abbrev rows1 (c : Dev nD) (t : Fin cfg1.N) : Vec F S1x512x768 .f32 := ((cfg1.win 0).blk t).view.read (Elt F) (W c main_arg0)
/-- The block of Wq that a step of the second call reads. -/
abbrev wq1 (c : Dev nD) (t : Fin cfg1.N) : Vec F S768x512 .f32 := ((cfg1.win 1).blk t).view.read (Elt F) (W c main_arg1)
/-- The block of the extracted K. -/
abbrev keys1 (c : Dev nD) (t : Fin cfg1.N) : Vec F S1x512x512 .f32 := ((cfg1.win 2).blk t).view.read (Elt F) (W c main_v9_0)
/-- The block of the extracted V. -/
abbrev vals1 (c : Dev nD) (t : Fin cfg1.N) : Vec F S1x512x512 .f32 := ((cfg1.win 3).blk t).view.read (Elt F) (W c main_v9_1)
/-- The block of Wo. -/
abbrev wo1 (c : Dev nD) (t : Fin cfg1.N) : Vec F S512x768 .f32 := ((cfg1.win 4).blk t).view.read (Elt F) (W c main_arg4)
/-- What that point leaves. -/
abbrev attn1 (c : Dev nD) (t : Fin cfg1.N) : Vec F S1x512x768 .f32 := attn (rows1 W c t) (wq1 W c t) (keys1 W c t) (vals1 W c t) (wo1 W c t)

/-- The second call: what its arrays and its buffers hold at each step. -/
def dat1 (c : Dev nD) : Dat τ (Elt F) Unit ℕ UU ℕ cfg1 c where
  A w := W c (Proc.devRef .tc (arrRef spec1 w))
  after w t := match w with
    | ⟨0, _⟩ => rows1 W c t
    | ⟨1, _⟩ => wq1 W c t
    | ⟨2, _⟩ => keys1 W c t
    | ⟨3, _⟩ => vals1 W c t
    | ⟨4, _⟩ => wo1 W c t
    | ⟨5, _⟩ => attn1 W c t
  Φ _ := scopedRest spec1 c
  q _ := fullShare
  owed _ := O₀ c

/-- Before a step the buffer of x holds its block. -/
theorem before1_0 (c : Dev nD) (t : Fin cfg1.N) (d) : (dat1 W c).before 0 t d = rows1 W c t :=
  (dat1 W c).before_in_eq_fetched 0 rfl (fun _ => rfl) (fun _ _ _ => rfl) (fun _ => rfl) t d
/-- Before a step the buffer of Wq holds its block. -/
theorem before1_1 (c : Dev nD) (t : Fin cfg1.N) (d) : (dat1 W c).before 1 t d = wq1 W c t :=
  (dat1 W c).before_in_eq_fetched 1 rfl (fun _ => rfl) (fun _ _ _ => rfl) (fun _ => rfl) t d
/-- Before a step the buffer of the keys holds its block. -/
theorem before1_2 (c : Dev nD) (t : Fin cfg1.N) (d) : (dat1 W c).before 2 t d = keys1 W c t :=
  (dat1 W c).before_in_eq_fetched 2 rfl (fun _ => rfl) (fun _ _ _ => rfl) (fun _ => rfl) t d
/-- Before a step the buffer of the values holds its block. -/
theorem before1_3 (c : Dev nD) (t : Fin cfg1.N) (d) : (dat1 W c).before 3 t d = vals1 W c t :=
  (dat1 W c).before_in_eq_fetched 3 rfl (fun _ => rfl) (fun _ _ _ => rfl) (fun _ => rfl) t d
/-- Before a step the buffer of Wo holds its block. -/
theorem before1_4 (c : Dev nD) (t : Fin cfg1.N) (d) : (dat1 W c).before 4 t d = wo1 W c t :=
  (dat1 W c).before_in_eq_fetched 4 rfl (fun _ => rfl) (fun _ _ _ => rfl) (fun _ => rfl) t d

set_option maxRecDepth 4000 in
/-- The second call's body meets its description. -/
theorem obligation1 (c : Dev nD) : BodyObligation (dat1 W c) (defs₀ (F := F)) 𝒱₀ () Set.univ := fun t => by
  rw [bigSep_W1, bigSep_W1]
  rw [show (dat1 W c).Φ t.castSucc = scopedRest spec1 c from rfl, show (dat1 W c).Φ t.succ = scopedRest spec1 c from rfl,
    show (dat1 W c).owesAt () t.succ = (dat1 W c).owesAt () t.castSucc from rfl]
  iintro ⟨HΦ, HO, ⟨%d0, H0⟩, ⟨%d1, H1⟩, ⟨%d2, H2⟩, ⟨%d3, H3⟩, ⟨%d4, H4⟩, ⟨%d5, H5⟩⟩
  iapply (attn_body c (grid1.coords t) _ _ _ _ _ _ _ _ _ _ _ _ (rows1 W c t) (wq1 W c t) (keys1 W c t) (vals1 W c t) (wo1 W c t) _)
  isplitl [H0]; · (iapply (blk_of_eq _ c (before1_0 W c t d0)); iexact H0)
  isplitl [H1]; · (iapply (blk_of_eq _ c (before1_1 W c t d1)); iexact H1)
  isplitl [H2]; · (iapply (blk_of_eq _ c (before1_2 W c t d2)); iexact H2)
  isplitl [H3]; · (iapply (blk_of_eq _ c (before1_3 W c t d3)); iexact H3)
  isplitl [H4]; · (iapply (blk_of_eq _ c (before1_4 W c t d4)); iexact H4)
  isplitl [H5]; · iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

/-! ## The third call -/

/-- The partial results of each device, as the third call is given them. -/
def xs (c : Dev nD) : Big F := (win2_0.blk (0 : Fin 1)).view.read (Elt F) (W c main_v11)

/-- The landing buffer of a device, at whatever it holds. -/
abbrev landing (c : Dev nD) : sProp 𝕄 := iprop(∃ f : Big F, (c : Thread nD τ).loc cc2_scratch0 ↦{fullShare} f)

/-- The landing buffer lent out of the buffers the call does not stage. -/
theorem lend (c : Dev nD) : (scopedRest spec2 c : sProp 𝕄) ⊢ iprop(landing (F := F) c ∗ (landing (F := F) c -∗ scopedRest spec2 c)) := by
  rw [scopedRest2_eq]
  iintro ⟨H0, H1, H2, H3, H4, H5, H6, H7, H8, H9, H10, H11, H12, H13, H14, H15, H16, H17, H18⟩
  isplitl [H18]; · iexact H18
  iintro H18
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- Before the third call's body. -/
def atEntry (c : Dev nD) : sProp 𝕄 := iprop((opened (xs W) c ∗ credits c ∗ levels) ∗ scopedRest spec2 c)
/-- After it. -/
def atExit (c : Dev nD) : sProp 𝕄 := iprop((bigSep Finset.univ fun k => semVal (kc c k) 0) ∗ scopedRest spec2 c)

/-- The third call: what its arrays and its buffers hold, and what it owes on entry. -/
def dat2 (c : Dev nD) : Dat τ (Elt F) Unit ℕ UU ℕ cfg2 c where
  A w := W c (Proc.devRef .tc (arrRef spec2 w))
  after w _ := match w with
    | ⟨0, _⟩ => xs W c
    | ⟨1, _⟩ => total (xs W)
  Φ t := match t with
    | ⟨0, _⟩ => atEntry W c
    | ⟨_ + 1, _⟩ => atExit c
  q _ := fullShare
  owed t := match t with
    | ⟨0, _⟩ => O₀ c
    | ⟨_ + 1, _⟩ => 0

/-- A whole buffer at some contents. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

/-- Owning a whole buffer, in the two ways of saying it. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the third body begins with. -/
def pre2 (c : Dev nD) : sProp 𝕄 := iprop(atEntry W c ∗ (dat2 W c).owesAt () t2_0.castSucc
  ∗ (∃ d, stg c cc2_stg0_0 ((dat2 W c).before (0 : Fin 2) t2_0 d)) ∗ (∃ d, stg c cc2_stg1_0 ((dat2 W c).before (1 : Fin 2) t2_0 d)))
/-- What the third body ends with. -/
def post2 (c : Dev nD) : sProp 𝕄 := iprop(atExit c ∗ (dat2 W c).owesAt () t2_0.succ ∗ stg c cc2_stg0_0 (xs W c) ∗ stg c cc2_stg1_0 (total (xs W)))

/-- The operand's buffer holds the operand before the body. -/
theorem before2 (c : Dev nD) (d) : (dat2 W c).before (0 : Fin 2) t2_0 d = xs W c := by
  unfold Dat.before; rw [if_pos (fetch2_0 t2_0)]; rfl

/-- The call's debts on entry are the protocol's. -/
theorem owes_in (c : Dev nD) : (dat2 W c).owesAt () t2_0.castSucc ⊢ ow c (O₀ c) := by
  unfold Dat.owesAt Pipeline.owesWithin ow
  iintro ⟨%W, %hW, H⟩
  iexists W; iexact H
/-- Nothing owed is what the call ends with. -/
theorem owes_out (c : Dev nD) : ow c 0 ⊢ (dat2 W c).owesAt () t2_0.succ := by
  unfold Dat.owesAt Pipeline.owesWithin ow
  iintro ⟨%W, H⟩
  iexists W
  isplitr
  · ipureintro; exact fun _ _ => Or.inl trivial
  · iexact H

/-- The third call's body, from the pipeline's resources to the pipeline's resources. -/
theorem sound_point (c : Dev nD) : pre2 W c ⊢ WP c (cc2__ar_body aM (Memref.isWhole_whole _) bM (Memref.isWhole_whole _) accM (Memref.isWhole_whole _)
    cc2_scratch1 cc2_scratch2 cc2_scratch3 cc2_scratch4) fun _ => post2 W c := by
  unfold pre2 atEntry opened
  iintro ⟨⟨⟨⟨%K, ⟨Hm, Hr⟩, Hat, Ht⟩, Hc, Hl⟩, Hacc⟩, HO, ⟨%d, %fa, %ha, Ha⟩, ⟨%d', %fb, %hb, Hb⟩⟩
  ihave ⟨Hacc, Hback⟩ := (lend c) $$ Hacc
  iapply (sound_body (xs W) K c fun _ => post2 W c)
  unfold bodyPre
  isplitr [Hback]
  · isplitl [Hm Hr Hl]
    · unfold known marks
      icases Hm with ⟨Hm, Hb⟩
      isplitl [Hm]; · iexact Hm
      isplitl [Hb]; · iexact Hb
      isplitl [Hr]; · iexact Hr
      iexact Hl
    isplitl [Hat]; · iexact Hat
    isplitl [Ht]; · iexact Ht
    isplitl [Hc]; · iexact Hc
    isplitl [HO]; · iapply (owes_in W c); iexact HO
    isplitl [Ha]
    · rw [← before2 W c d, ← ha]; iexact Ha
    isplitl [Hb]
    · iexists fb; iexact Hb
    iexact Hacc
  · unfold bodyPost post2 atExit
    iintro ⟨Hs, HO, Ha, Hb, Hacc⟩
    isplitl [Hs Hacc Hback]
    · isplitl [Hs]; · iexact Hs
      iapply Hback; iexact Hacc
    isplitl [HO]; · iapply (owes_out W c); iexact HO
    isplitl [Ha]
    · iexists _; isplitr; · (ipureintro; rfl)
      iexact Ha
    · iexists _; isplitr; · (ipureintro; rfl)
      iexact Hb

set_option maxRecDepth 4000 in
/-- The third call's body meets its description. -/
theorem obligation2 (c : Dev nD) : BodyObligation (dat2 (F := F) W c) (defs₀ (F := F)) 𝒱₀ () Set.univ := fun t => by
  rw [fin_N2 t, bigSep_W2, bigSep_W2]
  simp only [owns_whole]
  exact sound_point W c

end Cert.KernelIdeal.Ar
-- ==== Proof.Arrays.lean ====
/-
What the three calls leave in their arrays, over the extended reals.
-/
module

public import proofs.«01_k».proof.Proof.Heads
public import proofs.«01_k».proof.Proof.Calls
public import Idealize.ShloMosaic.Lib.Pipeline.ValueKit.Geometry

@[expose] public section

noncomputable section

namespace Cert.KernelIdeal.Ar

open Cert.KernelIdeal Cert.KernelIdeal.Gen
open Idealize.ShloMosaic
open Idealize.ShloMosaic.TcCoe
open Idealize.ShloMosaic.Pipeline

variable (W : Dev nD → Valuation τ sig (Elt Ideal))

/-- A device's eight heads of an array whose heads are its last axis, one after another along the columns. -/
def own (c : Dev nD) (X : S2x512x64x256.Idx → EReal) : S2x512x512.Idx → EReal := fun i =>
  X (ix4 (i 0) (i 1) (⟨(i 2).val % 64, by omega⟩ : Fin 64) (⟨c.val * 8 + (i 2).val / 64, by have h : (i 2).val < 512 := (i 2).isLt; have h' : c.val < 32 := c.isLt; omega⟩ : Fin 256))

/-- The first call writes every place of its first result. -/
theorem covers0_2 : ∀ c : Dev nD, (((C0 (F := Ideal) c).win 2).Covers) := by decide +kernel
/-- The first call writes every place of its second result. -/
theorem covers0_3 : ∀ c : Dev nD, (((C0 (F := Ideal) c).win 3).Covers) := by decide +kernel

/-- The block of window 0 of the first call. -/
theorem index0_0 : ∀ (c : Dev nD) (t : Fin grid0.N), ((pcfg0 (F := Ideal)).win ⟨tab c, tab_ok c⟩ 0).index t (0 : Fin 4) = (grid0.coords t 0).val ∧ ((pcfg0 (F := Ideal)).win ⟨tab c, tab_ok c⟩ 0).index t (1 : Fin 4) = (grid0.coords t 1).val
    ∧ ((pcfg0 (F := Ideal)).win ⟨tab c, tab_ok c⟩ 0).index t (2 : Fin 4) = 0 ∧ ((pcfg0 (F := Ideal)).win ⟨tab c, tab_ok c⟩ 0).index t (3 : Fin 4) = c.val / 16 := by decide +kernel
/-- The block of window 1 of the first call. -/
theorem index0_1 : ∀ (c : Dev nD) (t : Fin grid0.N), ((pcfg0 (F := Ideal)).win ⟨tab c, tab_ok c⟩ 1).index t (0 : Fin 4) = (grid0.coords t 0).val ∧ ((pcfg0 (F := Ideal)).win ⟨tab c, tab_ok c⟩ 1).index t (1 : Fin 4) = (grid0.coords t 1).val
    ∧ ((pcfg0 (F := Ideal)).win ⟨tab c, tab_ok c⟩ 1).index t (2 : Fin 4) = 0 ∧ ((pcfg0 (F := Ideal)).win ⟨tab c, tab_ok c⟩ 1).index t (3 : Fin 4) = c.val / 16 := by decide +kernel
/-- The block of window 2 of the first call. -/
theorem index0_2 : ∀ (c : Dev nD) (t : Fin grid0.N), ((pcfg0 (F := Ideal)).win ⟨tab c, tab_ok c⟩ 2).index t (0 : Fin 3) = (grid0.coords t 0).val ∧ ((pcfg0 (F := Ideal)).win ⟨tab c, tab_ok c⟩ 2).index t (1 : Fin 3) = (grid0.coords t 1).val
    ∧ ((pcfg0 (F := Ideal)).win ⟨tab c, tab_ok c⟩ 2).index t (2 : Fin 3) = 0 := by decide +kernel
/-- The block of window 3 of the first call. -/
theorem index0_3 : ∀ (c : Dev nD) (t : Fin grid0.N), ((pcfg0 (F := Ideal)).win ⟨tab c, tab_ok c⟩ 3).index t (0 : Fin 3) = (grid0.coords t 0).val ∧ ((pcfg0 (F := Ideal)).win ⟨tab c, tab_ok c⟩ 3).index t (1 : Fin 3) = (grid0.coords t 1).val
    ∧ ((pcfg0 (F := Ideal)).win ⟨tab c, tab_ok c⟩ 3).index t (2 : Fin 3) = 0 := by decide +kernel

/-- An index of a block of the first call's result is its two coordinates, the first axis having one place. -/
theorem three (y : S1x128x512.Idx) : y = ix3 0 (y 1) (y 2) := by
  funext a
  fin_cases a
  · exact Subsingleton.elim (α := Fin 1) _ _
  · rfl
  · rfl

/-- The keys a device takes, at an index of the block. -/
theorem takeK_at (c : Dev nD) (X : Vec Ideal S1x128x64x128 .f32) (y : S1x128x512.Idx) :
    takeK c X y = X (ix4 0 (y 1) (⟨(y 2).val % 64, by omega⟩ : Fin 64) (headOf c ⟨(y 2).val / 64, by have h : (y 2).val < 512 := (y 2).isLt; omega⟩)) := by
  conv_lhs => rw [three y]
  exact takeK_apply c X (y 1) (y 2)

/-- The values a device takes, at an index of the block. -/
theorem takeV_at (c : Dev nD) (X : Vec Ideal S1x128x64x128 .f32) (y : S1x128x512.Idx) :
    takeV c X y = X (ix4 0 (y 1) (⟨(y 2).val % 64, by omega⟩ : Fin 64) (headOf c ⟨(y 2).val / 64, by have h : (y 2).val < 512 := (y 2).isLt; omega⟩)) := by
  conv_lhs => rw [three y]
  exact takeV_apply c X (y 1) (y 2)

/-- Axis 0: the batch of a block is the batch read. -/
theorem place_same0 {a b g : Nat} (h : a = g) (k : b = g) : a + 0 = b := by omega
/-- Axis 1: a row within a block of 128 rows. -/
theorem place_same1 {a b g r : Nat} (h : a = g) (k : b = g) : a * 128 + r = b * 128 + r := by omega
/-- Axis 2: a column within a head of 64 columns. -/
theorem place_same2 {a b r : Nat} (h : a = 0) (k : b = 0) : a * 64 + r % 64 = (b * 512 + r) % 64 := by omega
/-- Axis 3: the device's head within its half of the heads is its head among all. -/
theorem place_same3 {a b c r : Nat} (h : a = c / 16) (k : b = 0) : a * 128 + (c % 16 * 8 + r / 64) = c * 8 + (b * 512 + r) / 64 := by omega

/-- The first call leaves the device's own heads of the keys. -/
theorem keys_final (c : Dev nD) : (dat0 W c).arrAt 2 grid0.N = own c (W c main_v7) := by
  refine (dat0 W c).arrAt_eq_of_covers 2 (own c (W c main_v7)) (covers0_2 c) fun t hf y => ?_
  blk_simp
  refine (takeK_at c (keys W c t) y).trans ?_
  unfold own
  blk_simp [keys]
  refine congrArg _ ?_
  obtain ⟨h0, h1, h2, h3⟩ := index0_0 c t
  obtain ⟨k0, k1, k2⟩ := index0_2 c t
  blk_ext
  · exact place_same0 h0 k0
  · exact place_same1 h1 k1
  · exact place_same2 h2 k2
  · exact place_same3 h3 k2

/-- The first call leaves the device's own heads of the values. -/
theorem vals_final (c : Dev nD) : (dat0 W c).arrAt 3 grid0.N = own c (W c main_v8) := by
  refine (dat0 W c).arrAt_eq_of_covers 3 (own c (W c main_v8)) (covers0_3 c) fun t hf y => ?_
  blk_simp
  refine (takeV_at c (vals W c t) y).trans ?_
  unfold own
  blk_simp [vals]
  refine congrArg _ ?_
  obtain ⟨h0, h1, h2, h3⟩ := index0_1 c t
  obtain ⟨k0, k1, k2⟩ := index0_3 c t
  blk_ext
  · exact place_same0 h0 k0
  · exact place_same1 h1 k1
  · exact place_same2 h2 k2
  · exact place_same3 h3 k2

end Cert.KernelIdeal.Ar
-- ==== Proof.Device.lean ====
/-
What the second call leaves in its array, over the extended reals: each device's part of the result.
-/
module

public import proofs.«01_k».proof.Proof.Softmax
public import proofs.«01_k».proof.Proof.Arrays

@[expose] public section

noncomputable section

namespace Cert.KernelIdeal.Ar

open Cert.KernelIdeal Cert.KernelIdeal.Gen
open Idealize.ShloMosaic
open Idealize.ShloMosaic.TcCoe
open Idealize.ShloMosaic.Pipeline

/-- Column `e` of the head that column `j` is in. -/
abbrev sib (j : Fin 512) (e : Fin 64) : Fin 512 := ⟨j.val / 64 * 64 + e.val, by omega⟩

/-- The scores of position `i` against the members of its group, in the head of column `j`. -/
def score (X : Fin 512 → Fin 768 → EReal) (Q : Fin 768 → Fin 512 → EReal) (K : Fin 512 → Fin 512 → EReal) (i j : Fin 512) (x : Fin 128) : EReal :=
  (∑ e : Fin 64, (∑ k : Fin 768, X i k * Q k (sib j e)) * K (member i x) (sib j e)) * eighth

/-- A head's entry, its row and column named from the whole. -/
theorem beside_apply (q k v : FVec Ideal S512x512 .bf16) (r j : Fin 512) :
    beside q k v (ix2 r j)
      = mix (fun x : Fin 128 => (∑ e : Fin 64, q (ix2 r (sib j e)) * k (ix2 (mate r x) (sib j e))) * eighth) (fun x => v (ix2 (mate r x) j)) := by
  have hj : j = col (64 * (⟨j.val / 64, by omega⟩ : Fin 8).val) (by dsimp only; omega) (⟨j.val % 64, by omega⟩ : Fin 64) := Fin.ext (by dsimp only; omega)
  have he : ∀ e : Fin 64, col (64 * (⟨j.val / 64, by omega⟩ : Fin 8).val) (by dsimp only; omega) e = sib j e := fun e => Fin.ext (by dsimp only; omega)
  conv_lhs => rw [hj]
  rw [beside_head, head_apply _ (by dsimp only; omega)]
  have hs : sib j (⟨j.val % 64, by omega⟩ : Fin 64) = j := Fin.ext (by dsimp only; omega)
  simp only [he, hs]

/-- The attention body's entry: the group's values mixed by the scores, times the output weights. -/
theorem attn_apply (X : Vec Ideal S1x512x768 .f32) (Wq : Vec Ideal S768x512 .f32) (K V : Vec Ideal S1x512x512 .f32) (Wo : Vec Ideal S512x768 .f32)
    (i : Fin 512) (n : Fin 768) :
    attn X Wq K V Wo (ix3 0 i n)
      = ∑ j : Fin 512, mix (score (fun i k => X (ix3 0 i k)) (fun k j => Wq (ix2 k j)) (fun i j => K (ix3 0 i j)) i j) (fun x => V (ix3 0 (member i x) j)) * Wo (ix2 j n) := by
  rw [attn_heads, project_apply]
  refine Finset.sum_congr rfl fun j _ => ?_
  rw [beside_apply]
  simp only [queries_apply, keys_apply, vals_apply, row_group, row_mate]
  rfl

/-- A device's part of the result, from its arrays. -/
def part1 (X : S2x512x768.Idx → EReal) (Wq : S768x512.Idx → EReal) (K V : S2x512x512.Idx → EReal) (Wo : S512x768.Idx → EReal) : S2x512x768.Idx → EReal :=
  fun i => ∑ j : Fin 512, mix (score (fun r k => X (ix3 (i 0) r k)) (fun k j => Wq (ix2 k j)) (fun r j => K (ix3 (i 0) r j)) (i 1) j)
    (fun x => V (ix3 (i 0) (member (i 1) x) j)) * Wo (ix2 j (i 2))

/-- An index of a block of the second call's result is its two coordinates, the first axis having one place. -/
theorem three1 (y : S1x512x768.Idx) : y = ix3 0 (y 1) (y 2) := by
  funext a
  fin_cases a
  · exact Subsingleton.elim (α := Fin 1) _ _
  · rfl
  · rfl

variable (W : Dev nD → Valuation τ sig (Elt Ideal))

/-- The second call writes every place of its result. -/
theorem covers1_5 : win1_5.Covers := by decide +kernel
/-- Step `t` reads its batch of x. -/
theorem index1_0 : ∀ t : Fin grid1.N, win1_0.index t = ![(grid1.coords t 0).val, 0, 0] := by decide +kernel
/-- Each step reads the whole of Wq. -/
theorem index1_1 : ∀ t : Fin grid1.N, win1_1.index t = ![0, 0] := by decide +kernel
/-- Step `t` reads its batch of the keys. -/
theorem index1_2 : ∀ t : Fin grid1.N, win1_2.index t = ![(grid1.coords t 0).val, 0, 0] := by decide +kernel
/-- Step `t` reads its batch of the values. -/
theorem index1_3 : ∀ t : Fin grid1.N, win1_3.index t = ![(grid1.coords t 0).val, 0, 0] := by decide +kernel
/-- Each step reads the whole of Wo. -/
theorem index1_4 : ∀ t : Fin grid1.N, win1_4.index t = ![0, 0] := by decide +kernel
/-- Step `t` writes its batch of the result. -/
theorem index1_5 : ∀ t : Fin grid1.N, win1_5.index t = ![(grid1.coords t 0).val, 0, 0] := by decide +kernel

/-- An entry of the block of x. -/
theorem rows1_apply (c : Dev nD) (t : Fin cfg1.N) (r : Fin 512) (k : Fin 768) : rows1 W c t (ix3 0 r k) = (W c main_arg0 : S2x512x768.Idx → EReal) (ix3 (grid1.coords t 0) r k) := by
  blk_simp [rows1]
  refine congrArg _ ?_
  blk_ext [index1_0]

/-- An entry of the block of Wq. -/
theorem wq1_apply (c : Dev nD) (t : Fin cfg1.N) (k : Fin 768) (j : Fin 512) : wq1 W c t (ix2 k j) = (W c main_arg1 : S768x512.Idx → EReal) (ix2 k j) := by
  blk_simp [wq1]
  refine congrArg _ ?_
  blk_ext [index1_1]

/-- An entry of the block of the keys. -/
theorem keys1_apply (c : Dev nD) (t : Fin cfg1.N) (r j : Fin 512) : keys1 W c t (ix3 0 r j) = (W c main_v9_0 : S2x512x512.Idx → EReal) (ix3 (grid1.coords t 0) r j) := by
  blk_simp [keys1]
  refine congrArg _ ?_
  blk_ext [index1_2]

/-- An entry of the block of the values. -/
theorem vals1_apply (c : Dev nD) (t : Fin cfg1.N) (r j : Fin 512) : vals1 W c t (ix3 0 r j) = (W c main_v9_1 : S2x512x512.Idx → EReal) (ix3 (grid1.coords t 0) r j) := by
  blk_simp [vals1]
  refine congrArg _ ?_
  blk_ext [index1_3]

/-- An entry of the block of Wo. -/
theorem wo1_apply (c : Dev nD) (t : Fin cfg1.N) (j : Fin 512) (n : Fin 768) : wo1 W c t (ix2 j n) = (W c main_arg4 : S512x768.Idx → EReal) (ix2 j n) := by
  blk_simp [wo1]
  refine congrArg _ ?_
  blk_ext [index1_4]

/-- What a point of the second call leaves, in the whole array's indices. -/
theorem attn_block (c : Dev nD) (t : Fin cfg1.N) (r : Fin 512) (n : Fin 768) :
    attn1 W c t (ix3 0 r n) = part1 (W c main_arg0) (W c main_arg1) (W c main_v9_0) (W c main_v9_1) (W c main_arg4) (ix3 (grid1.coords t 0) r n) := by
  unfold attn1
  rw [attn_apply]
  simp only [rows1_apply, wq1_apply, keys1_apply, vals1_apply, wo1_apply]
  rfl

/-- The second call leaves the device's part of the result. -/
theorem attn_final (c : Dev nD) : (dat1 W c).arrAt 5 cfg1.N
    = part1 (W c main_arg0) (W c main_arg1) (W c main_v9_0) (W c main_v9_1) (W c main_arg4) := by
  refine (dat1 W c).arrAt_eq_of_covers 5 (part1 (W c main_arg0) (W c main_arg1) (W c main_v9_0) (W c main_v9_1) (W c main_arg4)) covers1_5 fun t hf y => ?_
  blk_simp
  refine (show (dat1 W c).after 5 t y = attn1 W c t (ix3 0 (y (1 : Fin 3)) (y (2 : Fin 3))) from congrArg (attn1 W c t) (three1 y)).trans ((attn_block W c t _ _).trans ?_)
  have hy : (win1_5.blk t).view.emb y = (ix3 (grid1.coords t 0) (y (1 : Fin 3)) (y (2 : Fin 3)) : S2x512x768.Idx) := by
    blk_ext [index1_5]
  exact (congrArg (part1 (W c main_arg0) (W c main_arg1) (W c main_v9_0) (W c main_v9_1) (W c main_arg4)) hy).symm

end Cert.KernelIdeal.Ar
-- ==== Proof.Launch.lean ====
/-
Every run of @main: what the arrays hold between its items, the calls as its segments, and its end.
-/
module

public import proofs.«01_k».proof.Proof.Calls
public import Idealize.ShloMosaic.Lib.Pipeline.FrameBody
public import Idealize.ShloMosaic.Lib.Pipeline.CollectiveSegs

@[expose] public section

noncomputable section

namespace Cert.KernelIdeal.Ar

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ)

/-! ## What the arrays hold between the items -/

/-- A valuation with one more array known. -/
abbrev put (V : Valuation τ sig (Elt F)) (r : Ref sig .tc) (f : r.ty.Contents (Elt F)) : Valuation τ sig (Elt F) := Function.update V (Proc.devRef .tc r) f

/-- What the arrays of a device hold before the first call. -/
def W3 (c : Dev nD) : Valuation τ sig (Elt F) := V3 m c
/-- After the first call. -/
def W4 (c : Dev nD) : Valuation τ sig (Elt F) := put (put (W3 m c) main_v9_0 ((dat0 (W3 m) c).arrAt 2 grid0.N)) main_v9_1 ((dat0 (W3 m) c).arrAt 3 grid0.N)
/-- After the second call. -/
def W5 (c : Dev nD) : Valuation τ sig (Elt F) := put (W4 m c) main_v10 ((dat1 (W4 m) c).arrAt 5 cfg1.N)
/-- After the reshape between the second and the third call. -/
def W6 (c : Dev nD) : Valuation τ sig (Elt F) := StableHlo.after hostOps2 (W5 m c)
/-- After the third call. -/
def W7 (c : Dev nD) : Valuation τ sig (Elt F) := put (W6 m c) main_v12 ((dat2 (W6 m) c).arrAt 1 cfg2.N)
/-- After the last reshape. -/
def W8 (c : Dev nD) : Valuation τ sig (Elt F) := StableHlo.after hostOps3 (W7 m c)

/-- Another array is as it was. -/
theorem put_of (V : Valuation τ sig (Elt F)) (r : Ref sig .tc) (f) (r' : Ref sig .tc) (h : r' ≠ r) : put V r f r' = V r' :=
  Function.update_of_ne (StableHlo.devRef_ne_of_ne h) _ _
/-- The array itself is the new one. -/
theorem put_same (V : Valuation τ sig (Elt F)) (r : Ref sig .tc) (f) : put V r f r = f := Function.update_self _ _ _

/-- What the first stretch of host code does not write reaches the first call as it was. -/
theorem W3_of (c : Dev nD) (r : Ref sig .tc) (h : r ∉ hostOps0_W) (h' : r ∉ hostOps0_1_W) (h'' : r ∉ hostOps0_2_W) : W3 m c r = m ((c : Thread nD τ).loc r) :=
  (V3_of m c r h'').trans <| (V2_of m c r h').trans <| (V1_of m c r h).trans rfl
/-- The first call changes its two results alone. -/
theorem W4_of (c : Dev nD) (r : Ref sig .tc) (h : r ≠ main_v9_0) (h' : r ≠ main_v9_1) : W4 m c r = W3 m c r :=
  (put_of _ _ _ r h').trans (put_of _ _ _ r h)
/-- The second call changes its result alone. -/
theorem W5_of (c : Dev nD) (r : Ref sig .tc) (h : r ≠ main_v10) : W5 m c r = W4 m c r := put_of _ _ _ r h
/-- The reshape changes its result alone. -/
theorem W6_of (c : Dev nD) (r : Ref sig .tc) (h : r ∉ hostOps2_W) : W6 m c r = W5 m c r :=
  StableHlo.after_of_writes_sub hostOps2 _ hostOps2_writes h
/-- The third call changes its result alone. -/
theorem W7_of (c : Dev nD) (r : Ref sig .tc) (h : r ≠ main_v12) : W7 m c r = W6 m c r := put_of _ _ _ r h
/-- The last reshape changes its result alone. -/
theorem W8_of (c : Dev nD) (r : Ref sig .tc) (h : r ∉ hostOps3_W) : W8 m c r = W7 m c r :=
  StableHlo.after_of_writes_sub hostOps3 _ hostOps3_writes h

/-- An argument ends as it began. -/
theorem arg_kept (c : Dev nD) (r : Ref sig .tc)
    (h : r ∉ hostOps0_W ∧ r ∉ hostOps0_1_W ∧ r ∉ hostOps0_2_W ∧ r ≠ main_v9_0 ∧ r ≠ main_v9_1 ∧ r ≠ main_v10 ∧ r ∉ hostOps2_W ∧ r ≠ main_v12 ∧ r ∉ hostOps3_W) :
    W8 m c r = m ((c : Thread nD τ).loc r) :=
  (W8_of m c r h.2.2.2.2.2.2.2.2).trans <| (W7_of m c r h.2.2.2.2.2.2.2.1).trans <| (W6_of m c r h.2.2.2.2.2.2.1).trans <| (W5_of m c r h.2.2.2.2.2.1).trans <|
    (W4_of m c r h.2.2.2.1 h.2.2.2.2.1).trans <| W3_of m c r h.1 h.2.1 h.2.2.1

/-! ## The table of the first call, as @main computes it -/

/-- The device's place in the mesh, as @main computes it. -/
def placeOf (c : Dev nD) : IVec S_ 32 := Host.remui (Host.divui (constantI S_ 32 (Dev.word c)) (constantI S_ 32 1#32)) (constantI S_ 32 32#32)
/-- Sixteen. -/
def sixteen : IVec S_ 32 := constantI S_ 32 16#32
/-- The floor division of that place by sixteen, as @main computes it. -/
def floorOf (c : Dev nD) : IVec S_ 32 :=
  select (andi (cmpi .ne (signi (placeOf c)) (signi sixteen)) (cmpi .ne (Host.remsi (placeOf c) sixteen) (constantI S_ 32 0#32)))
    (subi (Host.divsi (placeOf c) sixteen) (constantI S_ 32 1#32)) (Host.divsi (placeOf c) sixteen)

/-- The host's quotient is the device's half. -/
theorem floor_eq (c : Dev nD) (i : S_.Idx) : floorOf c i = half c := by
  have h : ∀ c : Dev nD, floorOf c (fun a => a.elim0) = half c := by decide +kernel
  exact (congrArg (floorOf c) (funext fun a => a.elim0)).trans (h c)

/-- The table is that quotient. -/
theorem table_read (c : Dev nD) : W3 m c main_v6 = (shapeCast S1 (floorOf c) shapeCasts_S_S1 : S1.Idx → BitVec 32) := by
  sl_kernel_rfl

/-- The table holds the device's half. -/
theorem table_eq (c : Dev nD) : W3 m c main_v6 = fun _ : S1.Idx => half c :=
  (table_read m c).trans (funext fun i => floor_eq c _)

/-! ## What the calls leave their inputs at -/

/-- The first call leaves its operands as they were. -/
theorem kept0 (W : Dev nD → Valuation τ sig (Elt F)) (c : Dev nD) (w : Fin 4) (h : (spec0 w).isOut = false) : (dat0 W c).arrAt w grid0.N = W c (Proc.devRef .tc (arrRef spec0 w)) :=
  ((dat0 W c).arrAt_in w h _).trans rfl
/-- The second call leaves its operands as they were. -/
theorem kept1 (W : Dev nD → Valuation τ sig (Elt F)) (c : Dev nD) (w : Fin 6) (h : (spec1 w).isOut = false) : (dat1 W c).arrAt w cfg1.N = W c (Proc.devRef .tc (arrRef spec1 w)) :=
  ((dat1 W c).arrAt_in w h _).trans rfl
/-- The third call leaves its operand as it was. -/
theorem kept2 (W : Dev nD → Valuation τ sig (Elt F)) (c : Dev nD) (w : Fin 2) (h : (spec2 w).isOut = false) : (dat2 W c).arrAt w cfg2.N = W c (Proc.devRef .tc (arrRef spec2 w)) :=
  ((dat2 W c).arrAt_in w h _).trans rfl

/-! ## The calls as segments -/

/-- The operands of the third call. -/
def parts : Dev nD → Big F := xs (W6 m)

/-- Every call's data. -/
def dats : Data (F := F) adm := fun p c => match p with
  | ⟨0, _⟩ => dat0 (W3 m) c
  | ⟨1, _⟩ => dat1 (W4 m) c
  | ⟨2, _⟩ => dat2 (W6 m) c

/-- What a device carries up to the third call: its place in the protocol, its credit, its dues. -/
def dues (c : Dev nD) : sProp 𝕄 := iprop((place (parts m) c ∗ credits c) ∗ ow c (O₀ c))
/-- What it carries after. -/
def quit (c : Dev nD) : sProp 𝕄 := iprop(unscopedSems0 c ∗ ow c 0)

/-- No staging buffer completes on a semaphore of the protocol. -/
theorem apart0 : ∀ w s, slotOf (.dma ((spec0 w).sem s)) = none := by decide
/-- The second call's own semaphores are none of the protocol's. -/
theorem apart1 : ∀ w s, slotOf (.dma ((spec1 w).sem s)) = none := by decide
/-- The third call's staging semaphores are none of the protocol's. -/
theorem apart2 : ∀ w s, slotOf (.dma ((spec2 w).sem s)) = none := by decide

/-- An array outside a set keeps its contents when one inside it is put. -/
theorem put_outside {S : Finset (DevRef τ sig)} {r : Ref sig .tc} (hr : Proc.devRef .tc r ∈ S) (V : Valuation τ sig (Elt F)) (f) {b : DevRef τ sig} (hb : b ∉ S) :
    put V r f b = V b := Function.update_of_ne (fun h => hb (by rw [h]; exact hr)) _ _

/-- The first call's waits are allowed. -/
theorem stage_waits0 (c : Dev nD) : (levAts L lv : sProp 𝕄) ⊢ Pipeline.PerCore.cellsWaits (pinD pcfgs (adm (F := F))) (dats m) () 0 c :=
  Pipeline.PerCore.cellsWaits_intro (pinD pcfgs adm) (dats m) () 0 c fun w s t => by
    have h : (levels : sProp 𝕄) ⊢ _ := mayWait_stage (F := F) c ((spec0 w).sem s) (apart0 w s) (O₀ c) (Or.inl rfl)
    unfold levels at h
    exact h
/-- The second call's waits are allowed. -/
theorem stage_waits1 (c : Dev nD) : (levAts L lv : sProp 𝕄) ⊢ Pipeline.PerCore.cellsWaits (pinD pcfgs (adm (F := F))) (dats m) () 1 c :=
  Pipeline.PerCore.cellsWaits_intro (pinD pcfgs adm) (dats m) () 1 c fun w s t => by
    have h : (levels : sProp 𝕄) ⊢ _ := mayWait_stage (F := F) c ((spec1 w).sem s) (apart1 w s) (O₀ c) (Or.inl rfl)
    unfold levels at h
    exact h
/-- The third call's staging waits are allowed. -/
theorem stage_waits2 (c : Dev nD) : (levAts L lv : sProp 𝕄) ⊢ Pipeline.PerCore.cellsWaits (pinD pcfgs (adm (F := F))) (dats m) () 2 c :=
  Pipeline.PerCore.cellsWaits_intro (pinD pcfgs adm) (dats m) () 2 c fun w s t => by
    have h : (levels : sProp 𝕄) ⊢ _ := mayWait_stage (F := F) c ((spec2 w).sem s) (apart2 w s) ((dats m 2 c).owed t) (by
      rcases t with ⟨_ | _, ht⟩
      · exact Or.inl rfl
      · exact Or.inr rfl)
    unfold levels at h
    exact h

/-- The first call as a segment. -/
def segment0 : Pipeline.PerCore.RegionSeg (pcfgs (F := F)) adm (dats m) () (defs₀ (F := F)) 𝒱₀ L lv 0 :=
  region adm (dats m) 0 launch0 PEmpty PEmpty.elim (OwnSemFacts.none _) (fun c => (obligation0 (W3 m) c).loose) (stage_waits0 m)
    (W3 m) (W4 m) (dues m) (dues m) (fun _ => iprop(emp)) (fun _ => iprop(emp)) (fun c => iprop(place (parts m) c ∗ credits c))
    (fun c w => by unfold Dat.share; split <;> rfl)
    (fun c w => rfl)
    (fun c k => by fin_cases k; exact (table_eq m c).symm)
    (fun c w => match w with
      | ⟨0, _⟩ => (kept0 _ c 0 rfl).trans (W4_of m c main_v7 (by decide) (by decide)).symm
      | ⟨1, _⟩ => (kept0 _ c 1 rfl).trans (W4_of m c main_v8 (by decide) (by decide)).symm
      | ⟨2, _⟩ => ((put_of _ main_v9_1 _ main_v9_0 (by decide)).trans (put_same _ _ _)).symm
      | ⟨3, _⟩ => (put_same _ _ _).symm)
    (fun c b hb => (put_outside (r := main_v9_1) (show _ ∈ arrRefs (τ := τ) spec0 by decide) _ _ hb).trans
      (put_outside (r := main_v9_0) (show _ ∈ arrRefs (τ := τ) spec0 by decide) _ _ hb))
    (fun c => by
      rw [ownSems0_none]
      unfold dues ow
      iintro ⟨⟨Hp, HO⟩, -, -⟩
      imodintro
      isplitl [HO]
      · unfold Dat.owesAt owesWithin
        icases HO with ⟨%W, HO⟩
        iexists W
        isplitr
        · ipureintro; exact fun _ _ => Or.inl trivial
        · iexact HO
      isplitr; · iempintro
      iexact Hp)
    (fun c => by
      rw [show (dats m 0 c).Φ 0 = carried c from rfl]
      unfold carried
      iintro ⟨-, Hp, Hs⟩
      isplitl [Hs]; · iexact Hs
      iexact Hp)
    (fun c => by
      rw [ownSems0_none, show (dats m 0 c).Φ (Fin.last (pinD pcfgs (adm (F := F)) c 0).N) = carried c from rfl]
      unfold carried
      iintro ⟨Hs, Hp⟩
      isplitl [Hp]
      · isplitr; · iempintro
        iexact Hp
      isplitr; · iempintro
      iexact Hs)
    (fun c => by
      unfold dues ow Dat.owesAt owesWithin
      iintro ⟨⟨%W, -, HO⟩, -, HR⟩
      isplitl [HR]; · iexact HR
      iexists W; iexact HO)

/-- The second call as a segment. -/
def segment1 : Pipeline.PerCore.RegionSeg (pcfgs (F := F)) adm (dats m) () (defs₀ (F := F)) 𝒱₀ L lv 1 :=
  region adm (dats m) 1 launch1 PEmpty PEmpty.elim (OwnSemFacts.none _) (fun c => (obligation1 (W4 m) c).loose) (stage_waits1 m)
    (W4 m) (W5 m) (dues m) (dues m) (fun _ => iprop(emp)) (fun _ => iprop(emp)) (fun c => iprop(place (parts m) c ∗ credits c))
    (fun c w => by unfold Dat.share; split <;> rfl)
    (fun c w => rfl)
    (fun c k => k.elim0)
    (fun c w => match w with
      | ⟨0, _⟩ => (kept1 _ c 0 rfl).trans (W5_of m c main_arg0 (by decide)).symm
      | ⟨1, _⟩ => (kept1 _ c 1 rfl).trans (W5_of m c main_arg1 (by decide)).symm
      | ⟨2, _⟩ => (kept1 _ c 2 rfl).trans (W5_of m c main_v9_0 (by decide)).symm
      | ⟨3, _⟩ => (kept1 _ c 3 rfl).trans (W5_of m c main_v9_1 (by decide)).symm
      | ⟨4, _⟩ => (kept1 _ c 4 rfl).trans (W5_of m c main_arg4 (by decide)).symm
      | ⟨5, _⟩ => (put_same _ _ _).symm)
    (fun c b hb => put_outside (r := main_v10) (show _ ∈ arrRefs (τ := τ) spec1 by decide) _ _ hb)
    (fun c => by
      rw [ownSems0_none]
      unfold dues ow
      iintro ⟨⟨Hp, HO⟩, -, -⟩
      imodintro
      isplitl [HO]
      · unfold Dat.owesAt owesWithin
        icases HO with ⟨%W, HO⟩
        iexists W
        isplitr
        · ipureintro; exact fun _ _ => Or.inl trivial
        · iexact HO
      isplitr; · iempintro
      iexact Hp)
    (fun c => by
      rw [show (dats m 1 c).Φ 0 = scopedRest spec1 c from rfl]
      iintro ⟨-, -, Hs⟩
      iexact Hs)
    (fun c => by
      rw [ownSems0_none, show (dats m 1 c).Φ (Fin.last (pinD pcfgs (adm (F := F)) c 1).N) = scopedRest spec1 c from rfl]
      iintro Hs
      isplitr
      · isplitr; · iempintro
        unfold Pipeline.prefHeld
        iempintro
      isplitr; · iempintro
      iexact Hs)
    (fun c => by
      unfold dues ow Dat.owesAt owesWithin
      iintro ⟨⟨%W, -, HO⟩, -, HR⟩
      isplitl [HR]; · iexact HR
      iexists W; iexact HO)

/-- The third call as a segment. -/
def segment2 : Pipeline.PerCore.RegionSeg (pcfgs (F := F)) adm (dats m) () (defs₀ (F := F)) 𝒱₀ L lv 2 :=
  region adm (dats m) 2 launch2 _ osem ownSemFacts (fun c => (obligation2 (W6 m) c).loose) (stage_waits2 m)
    (W6 m) (W7 m) (dues m) quit (fun c => iprop(opened (parts m) c ∗ credits c ∗ levels)) (fun c => unscopedSems0 c) (fun _ => iprop(emp))
    (fun c w => by unfold Dat.share; split <;> rfl)
    (fun c w => rfl)
    (fun c k => k.elim0)
    (fun c w => match w with
      | ⟨0, _⟩ => (kept2 _ c 0 rfl).trans (W7_of m c main_v11 (by decide)).symm
      | ⟨1, _⟩ => (put_same _ _ _).symm)
    (fun c b hb => put_outside (r := main_v12) (show _ ∈ arrRefs (τ := τ) spec2 by decide) _ _ hb)
    (fun c => by
      unfold dues ow
      iintro ⟨⟨⟨Hp, Hc⟩, HO⟩, Hs, Hl⟩
      imod (open_all (parts m) c) $$ [Hp Hs] with Hp
      · isplitl [Hp]; · iexact Hp
        iexact Hs
      imodintro
      isplitl [HO]
      · unfold Dat.owesAt owesWithin
        icases HO with ⟨%W, HO⟩
        iexists W
        isplitr
        · ipureintro; exact fun _ _ => Or.inl trivial
        · iexact HO
      isplitr []
      · isplitl [Hp]; · iexact Hp
        isplitl [Hc]; · iexact Hc
        unfold levels; iexact Hl
      · iempintro)
    (fun c => by
      rw [show (dats m 2 c).Φ 0 = atEntry (W6 m) c from rfl]
      unfold atEntry
      iintro ⟨Hx, -, Hs⟩
      isplitl [Hx]; · iexact Hx
      iexact Hs)
    (fun c => by
      rw [show (dats m 2 c).Φ (Fin.last (pinD pcfgs (adm (F := F)) c 2).N) = atExit c from rfl]
      unfold atExit
      iintro ⟨Hs, Hr⟩
      ihave ⟨Hb, Ho⟩ := (all_sems_back (F := F) c) $$ Hs
      isplitl [Hb]
      · isplitl [Hb]; · iexact Hb
        unfold Pipeline.prefHeld
        iempintro
      isplitl [Ho]; · iexact Ho
      iexact Hr)
    (fun c => by
      unfold quit ow Dat.owesAt owesWithin
      iintro ⟨⟨%W, -, HO⟩, HY, -⟩
      isplitl [HY]; · iexact HY
      iexists W; iexact HO)

/-! ## The run -/

/-- No two staging buffers of the calls complete on one semaphore, at the devices' tables. -/
theorem phinj : Function.Injective (PerCore.cellOf (nD := nD) (τ := τ) (pinD pcfgs (adm (F := F)))) := by
  have htab : ∀ (c : Dev nD) (p : Fin 3), specSems (pinD pcfgs (adm (F := F)) c p).spec = semTab p := fun c => fun | 0 => rfl | 1 => rfl | 2 => rfl
  exact PerCore.cellOf_injective _ (fun c p => specSemsDistinct_of_nodup _ ((htab c p).symm ▸ semsDistinct p))
    (fun c p p' h => specSemsDisjoint_of_disjoint _ _ ((htab c p).symm ▸ (htab c p').symm ▸ fun _ hd hd' =>
      List.forall_iff_forall_mem.1 (semsDisjoint p p' h) _ hd hd'))

variable (ρ : Dev nD → PrngReg)

/-- A host stretch beside what a device carries. -/
def hostItem (ops : List (HloOp τ sig (Elt F))) (hsub : ops.Forall fun op => op.bufs ⊆ StableHlo.tcRefs τ sig) (hf : ops.Forall fun op => op.fresh = ∅)
    (V : Dev nD → Valuation τ sig (Elt F)) (E : Dev nD → sProp 𝕄) : HostSeg (Ix := Unit) (Name := ℕ) (U := UU) (Lvl := ℕ) (pcfgs (F := F)) defs₀ 𝒱₀ L lv :=
  HostSeg.ofOps _ _ _ _ _ (ucRefs τ sig) ops (fun op h => sub_ucRefs op ((List.forall_iff_forall_mem.mp hsub) op h))
    (fun op h => (List.forall_iff_forall_mem.mp hf) op h) V E

/-- @main's items on a device. -/
def items (c : Dev nD) : List (PerCore.Seg (pcfgs (F := F)) adm (dats m) () (defs₀ (F := F)) 𝒱₀ L lv) :=
  [.host (hostItem (hostOps0 c) (hostOps0_sub c) (hostOps0_fresh c) (V0 m) (dues m)), .host (hostItem hostOps0_1 hostOps0_1_sub hostOps0_1_fresh (V1 m) (dues m)),
    .host (hostItem hostOps0_2 hostOps0_2_sub hostOps0_2_fresh (V2 m) (dues m)), .region (segment0 m), .region (segment1 m),
    .host (hostItem hostOps2 hostOps2_sub hostOps2_fresh (W5 m) (dues m)), .region (segment2 m), .host (hostItem hostOps3 hostOps3_sub hostOps3_fresh (W7 m) quit)]

/-- The protocol's element, with the first device. -/
def seeded (c : Dev nD) : sProp 𝕄 := if c = 0 then BI.own (ER seed) else iprop(emp)
/-- Over all devices that is the protocol's element once. -/
theorem seeded_all : (bigSep Finset.univ fun c : Dev nD => (seeded c : sProp 𝕄)) = BI.own (ER seed) := by
  rw [bigSep_apart (Finset.mem_univ (0 : Dev nD))]
  refine (congrArg (fun A : sProp 𝕄 => iprop(seeded 0 ∗ A)) ((bigSep_congr (Ψ := fun _ => (BI.emp : sProp 𝕄)) fun c hc => if_neg (Finset.ne_of_mem_erase hc)).trans
    (BI.bigSep_emp_const _))).trans ?_
  rw [seeded, if_pos rfl]
  exact equiv_iff.mp BI.sep_emp

/-- A device's start: what the protocol's set-up takes, and what waits for it. -/
theorem start_one (c : Dev nD) : (iprop(unscopedBufs c (fun b => m ((c.tc : Thread nD τ).loc b)) ∗ unscopedSems0 c
      ∗ owes (c.tc : Thread nD τ) (O₀ c) ∅ ∗ Pipeline.launchCred O₀ c ∗ prngReg c (ρ c) ∗ seeded c) : sProp 𝕄)
    ⊢ iprop((unscopedSems0 c ∗ seeded c) ∗ StableHlo.held (c : Thread nD τ) (ucRefs τ sig) (V0 m c) ∗ credits c ∗ ow c (O₀ c)) := by
  rw [← Pipeline.unscopedBufs_held (Ix := Unit) (Name := ℕ) (U := UU) (Lvl := ℕ) c (V0 m c)]
  unfold ow
  iintro ⟨Hb, Hs, HO, Hc, -, Hg⟩
  ihave Hc := (credits_intro (F := F) c) $$ Hc
  isplitl [Hs Hg]
  · isplitl [Hs]; · iexact Hs
    iexact Hg
  isplitl [Hb]; · iexact Hb
  isplitl [Hc]; · iexact Hc
  iexists ∅; iexact HO

/-- What waited, with the device's place. -/
theorem start_two (c : Dev nD) : (iprop(place (parts m) c ∗ StableHlo.held (c : Thread nD τ) (ucRefs τ sig) (V0 m c) ∗ credits c ∗ ow c (O₀ c)) : sProp 𝕄)
    ⊢ iprop(StableHlo.held (c : Thread nD τ) (ucRefs τ sig) (V0 m c) ∗ dues m c) := by
  unfold dues
  iintro ⟨Hp, Hh, Hc, HO⟩
  isplitl [Hh]; · iexact Hh
  isplitr [HO]
  · isplitl [Hp]; · iexact Hp
    iexact Hc
  iexact HO

/-- The last stretch's state is the end's. -/
theorem stop_one (c : Dev nD) : (iprop(StableHlo.held (c : Thread nD τ) (ucRefs τ sig) (W8 m c) ∗ quit c) : sProp 𝕄)
    ⊢ iprop((StableHlo.held (c : Thread nD τ) (ucRefs τ sig) (W8 m c) ∗ unscopedSems0 c) ∗ ∃ W, owes (c.tc : Thread nD τ) (0 : CellTallies nD τ sig Unit) W) := by
  unfold quit ow
  iintro ⟨Hh, Hs, HO⟩
  isplitr [HO]
  · isplitl [Hh]; · iexact Hh
    iexact Hs
  · iexact HO

/-- What a run ends with: every array at its last contents, the barrier's semaphore at zero. -/
def Ends (c : Dev nD) (s : MemSt nD τ sig (Elt F)) : Prop :=
  (∀ b ∈ ucRefs τ sig, s.mem (c, b) = W8 m c b) ∧ ∀ sm : SemLoc sig, sm.isScoped .tc = false → s.sem ((c.tc : Thread nD τ), sm) = 0

set_option backward.isDefEq.respectTransparency.types false in
/-- Every run of @main ends, with every array at its last contents and every semaphore at zero. -/
theorem run_main : θ_run defs (onTc (τ := τ) (main (F := F))) ⟨m, fun _ => 0, ρ⟩
    (fun r => (∀ c : Dev nD, ∀ b ∈ ucRefs τ sig, r.2.mem (c, b) = W8 m c b) ∧ r.2.sem = fun _ => 0) := by
  refine PerCore.θ_run_regions_kit_sems (pcfgs (F := F)) adm (dats m) () phinj EP defs₀ 𝒱₀ L lv m ρ main (items m)
    (fun c Q => by
      rewrite [main_chain c, PerCore.Seg.run_eq_chain,
        show (items m c).map PerCore.Seg.prog = [
          StableHlo.seq (hostOps0 c),
          StableHlo.seq hostOps0_1,
          StableHlo.seq hostOps0_2,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [items, PerCore.Seg.pipes_host, PerCore.Seg.pipes_region, PerCore.Seg.pipes_nil]; decide)
    O₀ L_of_ne seeded (initOf (Pipeline.PerCore.cells (pinD pcfgs (adm (F := F))) phinj) (Pipeline.PerCore.launchToks (pinD pcfgs (adm (F := F))) phinj), seed) ?_
    (T₀ := fun c => iprop(StableHlo.held (c : Thread nD τ) (ucRefs τ sig) (V0 m c) ∗ dues m c))
    (Tₙ := fun c => iprop(StableHlo.held (c : Thread nD τ) (ucRefs τ sig) (W8 m c) ∗ unscopedSems0 c))
    (hch := fun c => ⟨.rfl, .rfl, .rfl, .rfl, .rfl, .rfl, .rfl, .rfl, stop_one m c⟩)
    (hinit := ?_) (QY := Ends m) (hfin := fun c s' => ?_) (hQ := fun s h hs => ⟨fun c => (h c).1, sem_eq_zero hs fun c => (h c).2⟩)
  · rw [seeded_all]
    iintro Hu
    ihave ⟨HP, HX⟩ := (ownU_pair _ _) $$ Hu
    imodintro
    isplitl [HP]; · iexact HP
    iexact HX
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ seeded c))
        ⊢ (iprop(((bigSep Finset.univ fun c : Dev nD => unscopedSems0 c) ∗ bigSep Finset.univ fun c : Dev nD => seeded c)
            ∗ bigSep Finset.univ fun c : Dev nD => iprop(StableHlo.held (c : Thread nD τ) (ucRefs τ sig) (V0 m c) ∗ credits c ∗ ow c (O₀ c))) : sProp 𝕄) := by
      rw [← bigSep_sep', ← bigSep_sep']
      exact bigSep_mono fun c _ => start_one m ρ c
    iintro ⟨H, -⟩
    ihave H' := hsplit $$ H
    icases H' with ⟨⟨Hs, Hg⟩, Hr⟩
    ihave Hg := (Entails.of_eq (seeded_all (F := F))) $$ Hg
    imod (alloc_all (parts m)) $$ [Hs Hg] with Hp
    · isplitl [Hs]; · iexact Hs
      iexact Hg
    imodintro
    have hjoin : (iprop(bigSep Finset.univ (place (parts m)) ∗ bigSep Finset.univ fun c : Dev nD => iprop(StableHlo.held (c : Thread nD τ) (ucRefs τ sig) (V0 m c) ∗ credits c ∗ ow c (O₀ c))) : sProp 𝕄)
        ⊢ bigSep Finset.univ fun c : Dev nD => iprop(StableHlo.held (c : Thread nD τ) (ucRefs τ sig) (V0 m c) ∗ dues m c) :=
      (Entails.of_eq (bigSep_sep' Finset.univ (place (parts m)) _).symm).trans (bigSep_mono fun c _ => start_two m c)
    iapply hjoin
    isplitl [Hp]; · iexact Hp
    iexact Hr
  · unfold StableHlo.held
    iintro ⟨⟨Hh, Hs⟩, HSI⟩
    ihave Hr := (pointsTo_read_all (ucRefs τ sig) (fun b => ((c : Thread nD τ).1, b)) (W8 m c) s') $$ [Hh HSI]
    · isplitl [Hh] <;> iassumption
    icases Hr with ⟨%h, HSI⟩
    imod (unscopedSems0_read (X := unscopedSems0 c) (c := c) fupd_intro s') $$ [Hs HSI] with ⟨%h', HSI⟩
    · isplitl [Hs] <;> iassumption
    imodintro
    isplitr
    · ipureintro; exact ⟨h, h'⟩
    · iexact HSI

end Cert.KernelIdeal.Ar
-- ==== Proof.Value.lean ====
/-
What the kernel leaves, over the extended reals: the sum over the devices of their parts of the result.
-/
module

public import proofs.«01_k».proof.Proof.Device
public import proofs.«01_k».proof.Proof.Launch
public import proofs.«01_k».proof.Proof.Reduce
public import Idealize.ShloMosaic.PureOps.Ideal.Laws
public import Idealize.ShloMosaic.Lib.IdealHost

@[expose] public section

noncomputable section

namespace Cert.KernelIdeal.Ar

open Cert.KernelIdeal Cert.KernelIdeal.Gen
open Idealize.ShloMosaic Idealize.ShloMosaic.TcCoe Idealize.ShloMosaic.Pipeline

/-! ## The all-reduce -/

/-- Place `j` under the stack's layer `k`. -/
theorem at3_lift (j : S32x768.Idx) (k : Fin 32) : at3 (reduces_S32x32x768_S32x768.lift j k) = j := by
  funext a; fin_cases a <;> rfl
/-- The layer of that place. -/
theorem top3_lift (j : S32x768.Idx) (k : Fin 32) : top3 (reduces_S32x32x768_S32x768.lift j k) = k := rfl

/-- One term taken apart and put to zero in the sum leaves the sum. -/
theorem add_sum_rest (f : Fin 32 → EReal) (c : Fin 32) : f c + ∑ k, (if k = c then 0 else f k) = ∑ k, f k := by
  rw [← Finset.add_sum_erase _ (fun k => f k) (Finset.mem_univ c), ← Finset.add_sum_erase _ (fun k => if k = c then 0 else f k) (Finset.mem_univ c)]
  rw [if_pos rfl, zero_add]
  exact congrArg _ (Finset.sum_congr rfl fun k hk => if_neg (Finset.ne_of_mem_erase hk))

/-- A term of the reduction's sum. -/
theorem masked_lift (x : Dev nD → Big Ideal) (s : Dev nD) (j : S32x768.Idx) (k : Fin 32) :
    masked s (landed x s) (reduces_S32x32x768_S32x768.lift j k) = if k = s then (0 : EReal) else x k (up s j) := by
  refine (masked_apply s (landed x s) _).trans ?_
  rw [top3_lift, at3_lift]
  refine if_congr Iff.rfl Ideal.ofBits_zero_f32 ?_
  unfold landed
  rw [hi_up, low_up]

/-- A reduced chunk is the sum of the devices' chunks. -/
theorem reduced_ideal (x : Dev nD → Big Ideal) (s : Dev nD) (j : S32x768.Idx) :
    reduced x s j = ∑ d : Fin 32, (x d (up s j) : EReal) := by
  unfold reduced
  rw [pay_eq]
  refine (congrArg (fun y : EReal => (part (x s) s j : EReal) + y) (Ideal.multiReduction_add_single (masked s (landed x s)) _ _ _ _ j)).trans ?_
  rw [← add_sum_rest (fun d => x d (up s j)) s]
  exact congrArg _ (Finset.sum_congr rfl fun k _ => masked_lift x s j k)

/-- The whole result is the sum of the operands. -/
theorem total_ideal (x : Dev nD → Big Ideal) (i : S1024x768.Idx) : total x i = ∑ d : Fin 32, (x d i : EReal) := by
  unfold total
  rw [reduced_ideal, up_low]

section Arrays
variable {F : FTy → Type} [FloatOps F] (W : Dev nD → Valuation τ sig (Elt F))

/-- The operand of the third call is its input array. -/
theorem xs_eq (c : Dev nD) : xs W c = W c main_v11 :=
  Memref.read_access_unit_zero (Elt F) main_v11 (funext fun a => by fin_cases a <;> decide) (fun a => by fin_cases a <;> decide) _

/-- The third call leaves the whole result in its array. -/
theorem reduce_final (c : Dev nD) : (dat2 W c).arrAt 1 cfg2.N = total (xs W) := by
  have h : (win2_1.blk (0 : Fin 1)).view.read (Elt F) ((dat2 W c).arrAt 1 cfg2.N) = total (xs W) := by
    rw [show cfg2.N = ((0 : Fin 1) : Fin cfg2.N).val + 1 from rfl, (dat2 W c).arrAt_succ (1 : Fin 2) (0 : Fin 1), if_pos (show (cfg2.win (1 : Fin 2)).flush (0 : Fin 1) = true from flush2_1 t2_0)]
    exact View.read_write_univ _ _
  exact (Memref.read_access_unit_zero (Elt F) main_v12 (funext fun a => by fin_cases a <;> decide) (fun a => by fin_cases a <;> decide) _).symm.trans h

/-! ## The stretches between the calls -/

/-- The reshape after the third call. -/
theorem last_read (V : Valuation τ sig (Elt F)) : StableHlo.after hostOps3 V main_v13 = (shapeCast S2x512x768 (V main_v12 : Vec F S1024x768 .f32) shapeCasts_S1024x768_S2x512x768 : Vec F S2x512x768 .f32) := by
  after_results_simp; rfl
/-- The reshape before the third call. -/
theorem flat_read (V : Valuation τ sig (Elt F)) : StableHlo.after hostOps2 V main_v11 = (shapeCast S1024x768 (V main_v10 : Vec F S2x512x768 .f32) shapeCasts_S2x512x768_S1024x768 : Vec F S1024x768 .f32) := by
  after_results_simp; rfl
/-- The transpose of K before the first call. -/
theorem turned_keys (V : Valuation τ sig (Elt F)) : StableHlo.after hostOps0_2 V main_v7
    = (transpose S2x512x64x256 [0, 1, 3, 2] (V main_arg2 : Vec F S2x512x256x64 .f32) transposes_S2x512x256x64_S2x512x64x256_0_1_3_2 : Vec F S2x512x64x256 .f32) := by
  after_results_simp
/-- The transpose of V before the first call. -/
theorem turned_vals (V : Valuation τ sig (Elt F)) : StableHlo.after hostOps0_2 V main_v8
    = (transpose S2x512x64x256 [0, 1, 3, 2] (V main_arg3 : Vec F S2x512x256x64 .f32) transposes_S2x512x256x64_S2x512x64x256_0_1_3_2 : Vec F S2x512x64x256 .f32) := by
  after_results_simp

end Arrays

/-! ## The kernel's result -/

variable (m : (ℓ : Loc nD τ sig) → Buf (Elt Ideal) ℓ)

/-- x on a device. -/
abbrev xOf (c : Dev nD) : S2x512x768.Idx → EReal := m ((c.tc : Thread nD τ).loc main_arg0)
/-- The device's columns of Wq. -/
abbrev wqOf (c : Dev nD) : S768x512.Idx → EReal := m ((c.tc : Thread nD τ).loc main_arg1)
/-- K on a device. -/
abbrev kOf (c : Dev nD) : S2x512x256x64.Idx → EReal := m ((c.tc : Thread nD τ).loc main_arg2)
/-- V on a device. -/
abbrev vOf (c : Dev nD) : S2x512x256x64.Idx → EReal := m ((c.tc : Thread nD τ).loc main_arg3)
/-- The device's rows of Wo. -/
abbrev woOf (c : Dev nD) : S512x768.Idx → EReal := m ((c.tc : Thread nD τ).loc main_arg4)

/-- A device's own heads of an array of heads, side by side. -/
def mine (c : Dev nD) (X : S2x512x256x64.Idx → EReal) : S2x512x512.Idx → EReal := fun i =>
  X (ix4 (i 0) (i 1) (⟨c.val * 8 + (i 2).val / 64, by have h : (i 2).val < 512 := (i 2).isLt; have h' : c.val < 32 := c.isLt; omega⟩ : Fin 256) (⟨(i 2).val % 64, by omega⟩ : Fin 64))

/-- The heads that the first call takes out of the transposed array are the device's own heads. -/
theorem own_turned (c : Dev nD) (X : FVec Ideal S2x512x256x64 .f32) :
    own c (transpose S2x512x64x256 [0, 1, 3, 2] X transposes_S2x512x256x64_S2x512x64x256_0_1_3_2) = mine c X := by
  funext i
  unfold own mine
  pointwise

/-- A device's part of the result. -/
def partOf (c : Dev nD) : S2x512x768.Idx → EReal :=
  part1 (xOf m c) (wqOf m c) (mine c (kOf m c)) (mine c (vOf m c)) (woOf m c)

/-- After the first call its first result is the device's heads of K. -/
theorem keys_kept (c : Dev nD) : W4 m c main_v9_0 = mine c (kOf m c) := by
  refine (put_of _ main_v9_1 _ main_v9_0 (by decide)).trans ((put_same _ main_v9_0 _).trans ((keys_final (W3 m) c).trans ?_))
  refine (congrArg (own c) ((turned_keys (V2 m c)).trans (congrArg (fun X => transpose S2x512x64x256 [0, 1, 3, 2] X transposes_S2x512x256x64_S2x512x64x256_0_1_3_2)
    ((V2_of m c main_arg2 (by decide)).trans (V1_of m c main_arg2 (by decide)))))).trans ?_
  exact own_turned c _

/-- After the first call its second result is the device's heads of V. -/
theorem vals_kept (c : Dev nD) : W4 m c main_v9_1 = mine c (vOf m c) := by
  refine (put_same _ main_v9_1 _).trans ((vals_final (W3 m) c).trans ?_)
  refine (congrArg (own c) ((turned_vals (V2 m c)).trans (congrArg (fun X => transpose S2x512x64x256 [0, 1, 3, 2] X transposes_S2x512x256x64_S2x512x64x256_0_1_3_2)
    ((V2_of m c main_arg3 (by decide)).trans (V1_of m c main_arg3 (by decide)))))).trans ?_
  exact own_turned c _

/-- An argument reaches the second call as it began. -/
theorem arg_at4 (c : Dev nD) (r : Ref sig .tc) (h : r ≠ main_v9_0 ∧ r ≠ main_v9_1 ∧ r ∉ hostOps0_W ∧ r ∉ hostOps0_1_W ∧ r ∉ hostOps0_2_W) : W4 m c r = m ((c.tc : Thread nD τ).loc r) :=
  (W4_of m c r h.1 h.2.1).trans (W3_of m c r h.2.2.1 h.2.2.2.1 h.2.2.2.2)

/-- After the second call its result is the device's part. -/
theorem part_read (c : Dev nD) : W5 m c main_v10 = partOf m c := by
  refine (put_same _ main_v10 _).trans ((attn_final (W4 m) c).trans ?_)
  rw [arg_at4 m c main_arg0 (by decide), arg_at4 m c main_arg1 (by decide), arg_at4 m c main_arg4 (by decide), keys_kept, vals_kept]
  rfl

/-- The all-reduce of parts that were made flat and are shaped back is their sum. -/
theorem flat_total (P : Dev nD → FVec Ideal S2x512x768 .f32) (b : Fin 2) (i : Fin 512) (n : Fin 768) :
    @Eq EReal (shapeCast S2x512x768 (total (F := Ideal) fun d => shapeCast S1024x768 (P d) shapeCasts_S2x512x768_S1024x768) shapeCasts_S1024x768_S2x512x768 (ix3 b i n))
      (∑ d : Fin 32, (P d (ix3 b i n) : EReal)) := by
  pointwise
  rw [total_ideal]
  refine Finset.sum_congr rfl fun d _ => ?_
  pointwise

/-- Every device's result is the all-reduce of the devices' parts. -/
theorem kernel_value (c : Dev nD) : W8 m c main_v13
    = (shapeCast S2x512x768 (total fun d => shapeCast S1024x768 (partOf m d) shapeCasts_S2x512x768_S1024x768) shapeCasts_S1024x768_S2x512x768 : Vec Ideal S2x512x768 .f32) := by
  refine (last_read (W7 m c)).trans (congrArg (fun X => shapeCast S2x512x768 X shapeCasts_S1024x768_S2x512x768)
    ((put_same _ main_v12 _).trans ((reduce_final (W6 m) c).trans (congrArg total (funext fun d => ?_)))))
  exact (xs_eq (W6 m) d).trans ((flat_read (W5 m d)).trans (congrArg (fun X => shapeCast S1024x768 X shapeCasts_S2x512x768_S1024x768) (part_read m d)))

end Cert.KernelIdeal.Ar
-- ==== Proof.RefVal.lean ====
/-
The reference at an index.
-/
module

public import proofs.«01_k».proof.Proof.Gen.ReferenceIdeal.Run
public import Idealize.ShloMosaic.Lib.Pointwise
public import Idealize.ShloMosaic.Lib.WordCmp

@[expose] public section

noncomputable section

namespace Cert.ReferenceIdeal.Attend

open Cert.ReferenceIdeal Cert.ReferenceIdeal.Gen Idealize.ShloMosaic Idealize.ShloMosaic.TcCoe Cert.ReferenceIdeal.Value

/-- The block of 64 positions that each position is in, as the reference computes it: the floor of a quotient. -/
def blocks : IVec S512 32 :=
  have p : IVec S512 32 := iotaInDim S512 32 0
  have d : IVec S_ 32 := id (constantI S_ 32 64#32)
  have q : IVec S512 32 := Host.divsi p (broadcastInDim S512 ![] bcast_S_S512 d)
  select (andi (cmpi .ne (signi p) (broadcastInDim S512 ![] bcast_S_S512 (signi d)))
      (cmpi .ne (Host.remsi p (broadcastInDim S512 ![] bcast_S_S512 d)) (broadcastInDim S512 ![] bcast_S_S512 (constantI S_ 32 0#32))))
    (subi q (broadcastInDim S512 ![] bcast_S_S512 (constantI S_ 32 1#32))) q

/-- The divisor of the remainder, as the reference guards it against zero. -/
def four : IVec S_ 32 :=
  have d : IVec S_ 32 := id (constantI S_ 32 4#32)
  select (cmpi .eq d (constantI S_ 32 0#32)) (constantI S_ 32 1#32) d

/-- The remainder by four, with the sign of the divisor, as the reference computes it. -/
def residue (T : Shape) (hT : S_.BroadcastsInDim T ![]) (x : IVec T 32) : IVec T 32 :=
  have d : IVec S_ 32 := four
  have r : IVec T 32 := Host.remsi x (broadcastInDim T ![] hT d)
  select (andi (cmpi .ne (cmpi .slt r (broadcastInDim T ![] hT (constantI S_ 32 0#32))) (broadcastInDim T ![] hT (cmpi .slt d (constantI S_ 32 0#32))))
      (cmpi .ne r (broadcastInDim T ![] hT (constantI S_ 32 0#32))))
    (addi r (broadcastInDim T ![] hT d)) r

/-- Which keys each query attends to. -/
def mask : IVec S512x512 1 :=
  have qb : IVec S512x1 32 := broadcastInDim S512x1 ![0] bcast_S512_S512x1_0 blocks
  have kb : IVec S1x512 32 := broadcastInDim S1x512 ![1] bcast_S512_S1x512_1 blocks
  ori (cmpi .eq (broadcastInDim S512x512 ![0, 1] bcast_S512x1_S512x512_0_1 qb) (broadcastInDim S512x512 ![0, 1] bcast_S1x512_S512x512_0_1 kb))
    (cmpi .eq (broadcastInDim S512x512 ![0, 1] bcast_S1x512_S512x512_0_1 (residue S1x512 bcast_S_S1x512 kb))
      (broadcastInDim S512x512 ![0, 1] bcast_S512x1_S512x512_0_1 (residue S512x1 bcast_S_S512x1 qb)))

section Generic
variable {F : FTy → Type} [FloatOps F]

/-- The scores under the mask: queries against keys, an eighth of each product, and −∞ where a query does not attend. -/
def scores (M : IVec S512x512 1) (x : FVec F S2x512x768 .f32) (Wq : FVec F S768x16384 .f32) (K : FVec F S2x512x256x64 .f32) : FVec F S2x256x512x512 .f32 :=
  select (broadcastInDim S2x256x512x512 ![0, 1, 2, 3] bcast_S1x1x512x512_S2x256x512x512_0_1_2_3 (broadcastInDim S1x1x512x512 ![2, 3] bcast_S512x512_S1x1x512x512_2_3 M))
    (mulf (Host.dotGeneral dot_S2x512x256x64_S2x512x256x64_S2x256x512x512_3_3_1_1_02_02 none
        (shapeCast S2x512x256x64 (Host.dotGeneral dot_S2x512x768_S768x16384_S2x512x16384_2_0_01_1_n_n none x Wq) shapeCasts_S2x512x16384_S2x512x256x64) K)
      (broadcastInDim S2x256x512x512 ![] bcast_S_S2x256x512x512 (constant S_ .f32 0x3E000000#32)))
    (broadcastInDim S2x256x512x512 ![] bcast_S_S2x256x512x512 (id (constant S_ .f32 0xFF800000#32)))

/-- The weights: the exponentials of the scores under their maximum, over their sum. -/
def weights (M : IVec S512x512 1) (s : FVec F S2x256x512x512 .f32) : FVec F S2x256x512x512 .f32 :=
  have w : FVec F S2x256x512x512 .f32 := Host.exp (subf s (broadcastInDim S2x256x512x512 ![0, 1, 2, 3] bcast_S2x256x512x1_S2x256x512x512_0_1_2_3
    (broadcastInDim S2x256x512x1 ![0, 1, 2] bcast_S2x256x512_S2x256x512x1_0_1_2
      (Host.reduce FloatOps.maximumf s (constant S_ .f32 0xFF800000#32) reducesTo_S2x256x512x512_S2x256x512_d3 h_S_))))
  have keep : IVec S1x1x512x1 1 := broadcastInDim S1x1x512x1 ![2] bcast_S512_S1x1x512x1_2
    (Host.reduce IntOp.ori M (constantI S_ 1 0#1) reducesTo_S512x512_S512_d1 h_S_)
  select (broadcastInDim S2x256x512x512 ![0, 1, 2, 3] bcast_S1x1x512x1_S2x256x512x512_0_1_2_3 keep)
    (Host.divf w (broadcastInDim S2x256x512x512 ![0, 1, 2, 3] bcast_S2x256x512x1_S2x256x512x512_0_1_2_3
      (select (broadcastInDim S2x256x512x1 ![0, 1, 2, 3] bcast_S1x1x512x1_S2x256x512x1_0_1_2_3 keep)
        (broadcastInDim S2x256x512x1 ![0, 1, 2] bcast_S2x256x512_S2x256x512x1_0_1_2
          (Host.reduceAdd w (constant S_ .f32 0x00000000#32) reducesTo_S2x256x512x512_S2x256x512_d3 h_S_))
        (broadcastInDim S2x256x512x1 ![] bcast_S_S2x256x512x1 (id (constant S_ .f32 0x3F800000#32))))))
    (broadcastInDim S2x256x512x512 ![] bcast_S_S2x256x512x512 (id (constant S_ .f32 0x00000000#32)))

/-- The weighted values of every head, side by side, times the output weights. -/
def output (w : FVec F S2x256x512x512 .f32) (V : FVec F S2x512x256x64 .f32) (Wo : FVec F S16384x768 .f32) : FVec F S2x512x768 .f32 :=
  Host.dotGeneral dot_S2x512x16384_S16384x768_S2x512x768_2_0_01_1_n_n none
    (shapeCast S2x512x16384 (transpose S2x512x256x64 [0, 3, 1, 2]
      (Host.dotGeneral dot_S2x512x256x64_S2x256x512x512_S2x256x64x512_1_3_3_2_02_01 none V w) transposes_S2x256x64x512_S2x512x256x64_0_3_1_2)
      shapeCasts_S2x512x256x64_S2x512x16384) Wo

set_option maxRecDepth 8192 in
set_option maxHeartbeats 4000000 in
/-- The reference's result is these steps one after another. -/
theorem res_steps (m : (ℓ : Loc nD τ sig) → Buf (Elt F) ℓ) (c : Dev nD) :
    res_main_v39 m c = output (weights mask (scores mask (m ((c.tc : Thread nD τ).loc main_arg0)) (m ((c.tc : Thread nD τ).loc main_arg1))
      (m ((c.tc : Thread nD τ).loc main_arg2)))) (m ((c.tc : Thread nD τ).loc main_arg3)) (m ((c.tc : Thread nD τ).loc main_arg4)) := rfl

end Generic

/-- A position's block, as a word. -/
theorem blocks_apply (i : Fin 512) : blocks (ix1 i) = BitVec.ofNat 32 (i.val / 64) := by
  pointwise [blocks]
  revert i
  decide +kernel

/-- Two blocks are equal or equal by fours exactly if they are equal by fours. -/
theorem mask_word : ∀ a b : Fin 8, IntOp.ori (IntOp.cmpi .eq (BitVec.ofNat 32 a.val) (BitVec.ofNat 32 b.val))
    (IntOp.cmpi .eq (residue S1x512 bcast_S_S1x512 (fun _ => BitVec.ofNat 32 b.val) (ix2 0 0)) (residue S512x1 bcast_S_S512x1 (fun _ => BitVec.ofNat 32 a.val) (ix2 0 0)))
      = BitVec.ofBool (decide (a.val % 4 = b.val % 4)) := by
  intro a b
  pointwise [residue, four]
  revert a b
  decide +kernel

/-- A query attends to the keys whose block is its own by fours. -/
theorem mask_apply (i j : Fin 512) : mask (ix2 i j) = BitVec.ofBool (decide (i.val / 64 % 4 = j.val / 64 % 4)) := by
  refine Eq.trans ?_ (mask_word ⟨i.val / 64, by omega⟩ ⟨j.val / 64, by omega⟩)
  pointwise [mask, residue, four]
  rw [blocks_apply, blocks_apply]

/-- A score: the product under the mask. -/
theorem scores_apply (M : IVec S512x512 1) (x : FVec Ideal S2x512x768 .f32) (Wq : FVec Ideal S768x16384 .f32) (K : FVec Ideal S2x512x256x64 .f32)
    (b : Fin 2) (h : Fin 256) (i j : Fin 512) :
    scores M x Wq K (ix4 b h i j) = Scalar.select (M (ix2 i j))
      ((∑ e : Fin 64, (∑ k : Fin 768, x (ix3 b i k) * Wq (ix2 k (⟨h.val * 64 + e.val, by omega⟩ : Fin 16384))) * K (ix4 b j h e)) * Ideal.ofBits .f32 0x3E000000#32)
      (Ideal.ofBits .f32 0xFF800000#32) := by
  pointwise [scores]
  rfl

/-- A disjunction one of whose terms holds, holds. -/
theorem any_true (M : Fin 512 → BitVec 1) (i : Fin 512) (hi : M i = 1#1) : Finset.univ.fold IntOp.ori (0#1) M = 1#1 := by
  rw [← Finset.insert_erase (Finset.mem_univ i), Finset.fold_insert (Finset.notMem_erase i _), hi]
  generalize Finset.fold IntOp.ori (0#1) M _ = z
  revert z
  decide

/-- The weight of a key: its score's share. -/
theorem weights_apply (M : IVec S512x512 1) (hM : ∀ i, M (ix2 i i) = 1#1) (s : FVec Ideal S2x256x512x512 .f32)
    (b : Fin 2) (h : Fin 256) (i j : Fin 512) :
    weights M s (ix4 b h i j)
      = Ideal.div (Ideal.exp (s (ix4 b h i j) - Finset.univ.fold max (Ideal.ofBits .f32 0xFF800000#32) (fun x => s (ix4 b h i x))))
          (∑ y, Ideal.exp (s (ix4 b h i y) - Finset.univ.fold max (Ideal.ofBits .f32 0xFF800000#32) (fun x => s (ix4 b h i x)))) := by
  pointwise [weights]
  rw [any_true (fun x => M (ix2 i x)) i (hM i)]
  rfl

/-- An entry of the result. -/
theorem output_apply (w : FVec Ideal S2x256x512x512 .f32) (V : FVec Ideal S2x512x256x64 .f32) (Wo : FVec Ideal S16384x768 .f32)
    (b : Fin 2) (i : Fin 512) (n : Fin 768) :
    output w V Wo (ix3 b i n) = ∑ x : Fin 16384,
      (∑ j : Fin 512, V (ix4 b j (⟨x.val / 64, by omega⟩ : Fin 256) (⟨x.val % 64, by omega⟩ : Fin 64)) * w (ix4 b (⟨x.val / 64, by omega⟩ : Fin 256) i j)) * Wo (ix2 x n) := by
  pointwise [output]

end Cert.ReferenceIdeal.Attend
-- ==== Proof.Agree.lean ====
/-
The kernel's result and the reference's are one array.
-/
module

public import proofs.«01_k».proof.Proof.Value
public import proofs.«01_k».proof.Proof.RefVal
public import proofs.«01_k».proof.Defs
public import proofs.«01_k».proof.Proof.Gen.Pre_finite_KernelIdeal
public import Idealize.ShloMosaic.Lib.LayoutAt

@[expose] public section

noncomputable section

namespace Cert.Agree

open Idealize.ShloMosaic Idealize.ShloMosaic.TcCoe
open Cert.KernelIdeal.Ar (mix member member_inj mem_group mix_masked lowest IsReal eighth eighth_real score sib part1 mine)
open Cert.ReferenceIdeal.Attend

/-- The shape of x. -/
abbrev SX : Shape := ⟨3, ![2, 512, 768]⟩
/-- The shape of Wq. -/
abbrev SQ : Shape := ⟨2, ![768, 16384]⟩
/-- The shape of K_ext and V_ext. -/
abbrev SH : Shape := ⟨4, ![2, 512, 256, 64]⟩
/-- The shape of Wo. -/
abbrev SO : Shape := ⟨2, ![16384, 768]⟩

variable (x : FVec Ideal SX .f32) (Wq : FVec Ideal SQ .f32) (K V : FVec Ideal SH .f32) (Wo : FVec Ideal SO .f32)

/-- The score of query `i` against key `j`, before the mask. -/
def open1 (b : Fin 2) (h : Fin 256) (i j : Fin 512) : EReal :=
  (∑ e : Fin 64, (∑ k : Fin 768, x (ix3 b i k) * Wq (ix2 k (⟨h.val * 64 + e.val, by omega⟩ : Fin 16384))) * K (ix4 b j h e)) * eighth

/-- One entry of a head: the values of the members of the query's group, mixed by the scores. -/
def entry (b : Fin 2) (i : Fin 512) (C : Fin 16384) : EReal :=
  mix (fun y : Fin 128 => open1 x Wq K b ⟨C.val / 64, by omega⟩ i (member i y))
    (fun y => V (ix4 b (member i y) (⟨C.val / 64, by omega⟩ : Fin 256) (⟨C.val % 64, by omega⟩ : Fin 64)))

/-- Scores of real arrays are real. -/
theorem open1_real (hx : ∀ i, IsReal (x i)) (hq : ∀ i, IsReal (Wq i)) (hk : ∀ i, IsReal (K i)) (b : Fin 2) (h : Fin 256) (i j : Fin 512) :
    IsReal (open1 x Wq K b h i j) :=
  IsReal.mul (IsReal.sum fun e => IsReal.mul (IsReal.sum fun k => IsReal.mul (hx _) (hq _)) (hk _)) eighth_real

/-- A masked score: the score in the query's group, −∞ outside it. -/
theorem masked_score (b : Fin 2) (h : Fin 256) (i j : Fin 512) :
    scores mask x Wq K (ix4 b h i j) = if i.val / 64 % 4 = j.val / 64 % 4 then open1 x Wq K b h i j else ⊥ := by
  rw [scores_apply, mask_apply, lowest]
  by_cases h : i.val / 64 % 4 = j.val / 64 % 4
  · rw [if_pos h, decide_eq_true h]; rfl
  · rw [if_neg h, decide_eq_false h]; rfl

/-- Every query attends to itself. -/
theorem mask_self (i : Fin 512) : mask (ix2 i i) = 1#1 := by
  rw [mask_apply, decide_eq_true rfl]; rfl

/-- An entry of the reference's result. -/
theorem reference_value (hx : ∀ i, IsReal (x i)) (hq : ∀ i, IsReal (Wq i)) (hk : ∀ i, IsReal (K i)) (b : Fin 2) (i : Fin 512) (n : Fin 768) :
    output (weights mask (scores mask x Wq K)) V Wo (ix3 b i n) = ∑ C : Fin 16384, entry x Wq K V b i C * Wo (ix2 C n) := by
  rw [output_apply]
  refine Finset.sum_congr rfl fun C _ => congrArg (· * Wo (ix2 C n)) ?_
  simp only [weights_apply mask mask_self, masked_score, mul_comm (V _)]
  exact mix_masked (fun j : Fin 512 => i.val / 64 % 4 = j.val / 64 % 4) (member i) (member_inj i) (mem_group i)
    (fun j => open1 x Wq K b ⟨C.val / 64, by omega⟩ i j) (fun j => V (ix4 b j (⟨C.val / 64, by omega⟩ : Fin 256) (⟨C.val % 64, by omega⟩ : Fin 64)))
    (fun y => open1_real x Wq K hx hq hk b _ i _)

/-- Column `j` of device `d`, among all columns. -/
abbrev column (d : Fin 32) (j : Fin 512) : Fin 16384 := ⟨d.val * 512 + j.val, by omega⟩

/-- A device's part, from its blocks of the weights. -/
theorem part_value (d : Fin 32) (b : Fin 2) (i : Fin 512) (n : Fin 768) :
    part1 x (fun k => Wq (ix2 (k 0) (column d (k 1)))) (mine d K) (mine d V) (fun k => Wo (ix2 (column d (k 0)) (k 1))) (ix3 b i n)
      = ∑ j : Fin 512, entry x Wq K V b i (column d j) * Wo (ix2 (column d j) n) := by
  unfold part1
  refine Finset.sum_congr rfl fun j _ => congrArg (· * Wo (ix2 (column d j) n)) ?_
  unfold entry
  have hh : ∀ h, (⟨(column d j).val / 64, h⟩ : Fin 256) = ⟨d.val * 8 + j.val / 64, by omega⟩ := fun h => Fin.ext (by
    show (d.val * 512 + j.val) / 64 = d.val * 8 + j.val / 64; omega)
  have hd : ∀ h, (⟨(column d j).val % 64, h⟩ : Fin 64) = ⟨j.val % 64, by omega⟩ := fun h => Fin.ext (by
    show (d.val * 512 + j.val) % 64 = j.val % 64; omega)
  rw [hh, hd]
  refine congrArg₂ mix (funext fun y => ?_) rfl
  unfold score open1
  refine congrArg (· * eighth) (Finset.sum_congr rfl fun e _ => ?_)
  refine congrArg₂ (· * ·) (Finset.sum_congr rfl fun k _ => ?_) ?_
  · refine congrArg₂ (· * ·) rfl (congrArg (fun t => Wq (ix2 k t)) (Fin.ext ?_))
    show d.val * 512 + (j.val / 64 * 64 + e.val) = (d.val * 8 + j.val / 64) * 64 + e.val
    omega
  · unfold mine
    refine congrArg₂ (fun s t => K (ix4 b (member i y) s t)) (Fin.ext ?_) (Fin.ext ?_)
    · show d.val * 8 + (j.val / 64 * 64 + e.val) / 64 = d.val * 8 + j.val / 64
      omega
    · show (j.val / 64 * 64 + e.val) % 64 = e.val
      omega

/-- A sum over all columns is the sum over the devices of the sums over their columns. -/
theorem sum_columns (f : Fin 16384 → EReal) : ∑ d : Fin 32, ∑ j : Fin 512, f (column d j) = ∑ C, f C := by
  rw [← Fintype.sum_prod_type' (fun (d : Fin 32) (j : Fin 512) => f (column d j)), ← Equiv.sum_comp (finProdFinEquiv (m := 32) (n := 512)) f]
  refine Finset.sum_congr rfl fun p _ => congrArg f (Fin.ext ?_)
  show p.1.val * 512 + p.2.val = p.2.val + 512 * p.1.val
  omega

/-- The devices' parts add up to the reference's result. -/
theorem parts_sum (hx : ∀ i, IsReal (x i)) (hq : ∀ i, IsReal (Wq i)) (hk : ∀ i, IsReal (K i)) (b : Fin 2) (i : Fin 512) (n : Fin 768) :
    ∑ d : Fin 32, part1 x (fun k => Wq (ix2 (k 0) (column d (k 1)))) (mine d K) (mine d V) (fun k => Wo (ix2 (column d (k 0)) (k 1))) (ix3 b i n)
      = output (weights mask (scores mask x Wq K)) V Wo (ix3 b i n) := by
  rw [reference_value x Wq K V Wo hx hq hk]
  simp only [part_value]
  exact sum_columns (fun C => entry x Wq K V b i C * Wo (ix2 C n))

/-- A device's block of the query weights: its own columns. -/
theorem block_columns (d : Fin 32) (h) : Layout.block ⟨2, ![768, 512]⟩ ⟨2, ![768, 16384]⟩ 1 32 d Wq h = fun k => Wq (ix2 (k 0) (column d (k 1))) := by
  funext k
  rw [Layout.block_apply]
  congr 1
  funext a; apply Fin.ext
  rw [Layout.Tiles.idx_val]
  fin_cases a <;> rfl

/-- A device's block of the output weights: its own rows. -/
theorem block_rows (d : Fin 32) (h) : Layout.block ⟨2, ![512, 768]⟩ ⟨2, ![16384, 768]⟩ 0 32 d Wo h = fun k => Wo (ix2 (column d (k 0)) (k 1)) := by
  funext k
  rw [Layout.block_apply]
  congr 1
  funext a; apply Fin.ext
  rw [Layout.Tiles.idx_val]
  fin_cases a <;> rfl

/-- An extended real whose absolute value is below ∞ is real. -/
theorem real_of_abs {a : EReal} (h : BitVec.ofBool (decide (max a (-a) < Ideal.ofBits .f32 0x7F800000#32)) = 1#1) : IsReal a := by
  have ht : Ideal.ofBits .f32 0x7F800000#32 = ⊤ := by simp [Ideal.ofBits, Ideal.ieee]
  rw [ht] at h
  have hlt : max a (-a) < ⊤ := by
    by_contra hn
    rw [decide_eq_false hn] at h
    exact absurd h (by decide)
  induction a using EReal.rec with
  | bot => exact absurd hlt (by simp)
  | top => exact absurd hlt (by simp)
  | coe r => exact ⟨r, rfl⟩

section Whole
variable (m : (ℓ : Loc Cert.KernelIdeal.nD Cert.KernelIdeal.τ Cert.KernelIdeal.sig) → Buf (Elt Ideal) ℓ)

open Cert.KernelIdeal.Ar (xOf wqOf kOf vOf woOf partOf W8 kernel_value flat_total)

/-- The precondition makes every entry of the rows, the query weights and the keys real. -/
theorem pre_real (h : Cert.Pre_KernelIdeal_finite_KernelIdeal (hPre_finite_KernelIdeal := Cert.Pre_finite_KernelIdeal.Gen.facts) m) (c : Fin 32) :
    (∀ i, IsReal (xOf m c i)) ∧ (∀ i, IsReal (wqOf m c i)) ∧ ∀ i, IsReal (kOf m c i) :=
  ⟨fun i => real_of_abs (congrFun (h c).1 i), fun i => real_of_abs (congrFun (h c).2.1 i), fun i => real_of_abs (congrFun (h c).2.2 i)⟩

/-- If the devices hold their blocks of the reference's arguments, each ends with the reference's result. -/
theorem result_agrees (h : Cert.Pre_KernelIdeal_finite_KernelIdeal (hPre_finite_KernelIdeal := Cert.Pre_finite_KernelIdeal.Gen.facts) m)
    (hx : ∀ c : Fin 32, xOf m c = x) (hq : ∀ c : Fin 32, wqOf m c = Layout.block ⟨2, ![768, 512]⟩ ⟨2, ![768, 16384]⟩ 1 32 c Wq)
    (hk : ∀ c : Fin 32, kOf m c = K) (hv : ∀ c : Fin 32, vOf m c = V)
    (ho : ∀ c : Fin 32, woOf m c = Layout.block ⟨2, ![512, 768]⟩ ⟨2, ![16384, 768]⟩ 0 32 c Wo) (c : Fin 32) :
    W8 m c Cert.KernelIdeal.main_v13 = output (weights mask (scores mask x Wq K)) V Wo := by
  have rx : ∀ i, IsReal (x i) := fun i => by
    have := (pre_real m h 0).1 i
    rwa [hx] at this
  have rk : ∀ i, IsReal (K i) := fun i => by
    have := (pre_real m h 0).2.2 i
    rwa [hk] at this
  have rq : ∀ i, IsReal (Wq i) := fun i => by
    have h1 : (i 1).val < 16384 := (i 1).isLt
    have := (pre_real m h ⟨(i 1).val / 512, by omega⟩).2.1 (ix2 (i 0) (⟨(i 1).val % 512, by omega⟩ : Fin 512))
    rw [hq, block_columns] at this
    have e : (ix2 (i 0) (column ⟨(i 1).val / 512, by omega⟩ (⟨(i 1).val % 512, by omega⟩ : Fin 512)) : SQ.Idx) = i := by
      funext a
      fin_cases a
      · rfl
      · exact Fin.ext (by show (i 1).val / 512 * 512 + (i 1).val % 512 = (i 1).val; omega)
    exact e ▸ this
  have hp : partOf m = fun d => part1 x (fun k => Wq (ix2 (k 0) (column d (k 1)))) (mine d K) (mine d V) (fun k => Wo (ix2 (column d (k 0)) (k 1))) := by
    funext d
    unfold partOf
    rw [hx, hq, hk, hv, ho, block_columns, block_rows]
  rw [kernel_value, hp]
  funext i
  rw [show i = ix3 (i 0) (i 1) (i 2) by funext a; fin_cases a <;> rfl]
  exact (flat_total _ _ _ _).trans (parts_sum x Wq K V Wo rx rq rk _ _ _)

end Whole

end Cert.Agree
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.BitsLaunch
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem Idealize.ShloMosaic.Pipeline

/-- A buffer of a device that outlives the calls is one the run speaks of. -/
theorem lasts (r : Ref Cert.Kernel.sig .tc) (h : ¬(Proc.devRef (τ := Cert.Kernel.τ) .tc r).isScoped = true) : Proc.devRef .tc r ∈ ucRefs Cert.Kernel.τ Cert.Kernel.sig :=
  Finset.mem_filter.mpr ⟨StableHlo.devRef_mem_tcRefs r, h⟩

/-- So it is over the extended reals. -/
theorem lasts_ideal (r : Ref Cert.KernelIdeal.sig .tc) (h : ¬(Proc.devRef (τ := Cert.KernelIdeal.τ) .tc r).isScoped = true) : Proc.devRef .tc r ∈ ucRefs Cert.KernelIdeal.τ Cert.KernelIdeal.sig :=
  Finset.mem_filter.mpr ⟨StableHlo.devRef_mem_tcRefs r, h⟩

/-- The kernel ends, its arguments unchanged and its semaphores at zero. -/
theorem kernel_ends : Cert.quiescent_Kernel (hKernel := Cert.Kernel.Gen.facts) := fun m g _ =>
  (θ_run _ _ _).mono (fun _ h => ⟨fun c =>
      ⟨(h.1 c _ (lasts Cert.Kernel.main_arg0 (by decide))).trans (Cert.Kernel.Ar.arg_kept m c Cert.Kernel.main_arg0 (by decide)),
       (h.1 c _ (lasts Cert.Kernel.main_arg1 (by decide))).trans (Cert.Kernel.Ar.arg_kept m c Cert.Kernel.main_arg1 (by decide)),
       (h.1 c _ (lasts Cert.Kernel.main_arg2 (by decide))).trans (Cert.Kernel.Ar.arg_kept m c Cert.Kernel.main_arg2 (by decide)),
       (h.1 c _ (lasts Cert.Kernel.main_arg3 (by decide))).trans (Cert.Kernel.Ar.arg_kept m c Cert.Kernel.main_arg3 (by decide)),
       (h.1 c _ (lasts Cert.Kernel.main_arg4 (by decide))).trans (Cert.Kernel.Ar.arg_kept m c Cert.Kernel.main_arg4 (by decide))⟩, h.2⟩)
    (Cert.Kernel.Ar.run_main (F := Bits) m g)

/-- Over the extended reals the kernel's run ends with its arguments unchanged, its result read, and its semaphores at zero. -/
theorem ideal_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD,
        r.2.mem ((c.tc : Thread Cert.KernelIdeal.nD Cert.KernelIdeal.τ).loc Cert.KernelIdeal.main_v13) = Cert.KernelIdeal.Ar.W8 m c Cert.KernelIdeal.main_v13
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run _ _ _).mono (fun _ h => ⟨fun c =>
      ⟨h.1 c _ (lasts_ideal Cert.KernelIdeal.main_v13 (by decide)),
       (h.1 c _ (lasts_ideal Cert.KernelIdeal.main_arg0 (by decide))).trans (Cert.KernelIdeal.Ar.arg_kept m c Cert.KernelIdeal.main_arg0 (by decide)),
       (h.1 c _ (lasts_ideal Cert.KernelIdeal.main_arg1 (by decide))).trans (Cert.KernelIdeal.Ar.arg_kept m c Cert.KernelIdeal.main_arg1 (by decide)),
       (h.1 c _ (lasts_ideal Cert.KernelIdeal.main_arg2 (by decide))).trans (Cert.KernelIdeal.Ar.arg_kept m c Cert.KernelIdeal.main_arg2 (by decide)),
       (h.1 c _ (lasts_ideal Cert.KernelIdeal.main_arg3 (by decide))).trans (Cert.KernelIdeal.Ar.arg_kept m c Cert.KernelIdeal.main_arg3 (by decide)),
       (h.1 c _ (lasts_ideal Cert.KernelIdeal.main_arg4 (by decide))).trans (Cert.KernelIdeal.Ar.arg_kept m c Cert.KernelIdeal.main_arg4 (by decide))⟩, h.2⟩)
    (Cert.KernelIdeal.Ar.run_main (F := Ideal) m g)

/-- The kernel over the extended reals ends, its arguments unchanged and its semaphores at zero. -/
theorem ideal_ends : Cert.quiescent_KernelIdeal (hKernelIdeal := Cert.KernelIdeal.Gen.facts) := fun m g _ =>
  (θ_run _ _ _).mono (fun _ h => ⟨fun c => (h.1 c).2, h.2⟩) (ideal_run m g)

/-- So does the reference, which has no semaphore. -/
theorem reference_ends : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- Every device ends with the reference's result. -/
theorem results_agree : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hp hx
  refine ⟨_, (θ_run _ _ _).mono (fun r h c => ⟨?_, (h.1 c).2⟩) (ideal_run m g),
    (θ_run _ _ _).mono (fun r h => h 0) (Cert.ReferenceIdeal.Value.run (F := Ideal) m' g')⟩
  refine (h.1 c).1.trans ((Cert.Agree.result_agrees _ _ _ _ _ m hp (fun c => (hx c).1) (fun c => (hx c).2.1) (fun c => (hx c).2.2.1)
    (fun c => (hx c).2.2.2.1) (fun c => (hx c).2.2.2.2) c).trans (Cert.ReferenceIdeal.Attend.res_steps m' 0).symm)

/-- All five claims. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  kernel_ends, ideal_ends, fun m g _ => ideal_ends m g trivial, reference_ends, fun m g _ => reference_ends m g trivial, trivial, results_agree⟩

end Cert.Proof

end
